-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x128x64 : Shape := ⟨4, ![2, 512, 128, 64]⟩
abbrev S512x768 : Shape := ⟨2, ![512, 768]⟩
abbrev S_ : Shape := ⟨0, ![]⟩
abbrev S2x512x8x64 : Shape := ⟨4, ![2, 512, 8, 64]⟩
abbrev S1024x768 : Shape := ⟨2, ![1024, 768]⟩
abbrev S512x512 : Shape := ⟨2, ![512, 512]⟩
abbrev S960x768 : Shape := ⟨2, ![960, 768]⟩
abbrev S2 : Shape := ⟨1, ![2]⟩
abbrev S4 : Shape := ⟨1, ![4]⟩
abbrev S1 : Shape := ⟨1, ![1]⟩
abbrev S1x512x768 : Shape := ⟨3, ![1, 512, 768]⟩
abbrev S512x64 : Shape := ⟨2, ![512, 64]⟩
abbrev S1x512x1x64 : Shape := ⟨4, ![1, 512, 1, 64]⟩
abbrev S1x512x64 : Shape := ⟨3, ![1, 512, 64]⟩
abbrev S512 : Shape := ⟨1, ![512]⟩
abbrev S512x1 : Shape := ⟨2, ![512, 1]⟩
abbrev S256x768 : Shape := ⟨2, ![256, 768]⟩
abbrev S128x768 : Shape := ⟨2, ![128, 768]⟩
abbrev S64x768 : Shape := ⟨2, ![64, 768]⟩

abbrev nBuf : Space → Nat
  | .hbm => 39
  | .vmem => 11
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x128x64, .f32⟩
  | .hbm, ⟨3, _⟩ => ⟨S2x512x128x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .f32⟩
  | .hbm, ⟨22, _⟩ => ⟨S2x512x8x64, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x512x8x64, .f32⟩
  | .hbm, ⟨34, _⟩ => ⟨S2x512x8x64, .bf16⟩
  | .hbm, ⟨35, _⟩ => ⟨S2x512x768, .bf16⟩
  | .hbm, ⟨36, _⟩ => ⟨S768x512, .bf16⟩
  | .hbm, ⟨37, _⟩ => ⟨S512x768, .bf16⟩
  | .hbm, ⟨38, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S512x768, .bf16⟩
  | .local _ .vmem, ⟨3, _⟩ => ⟨S2x512x768, .f32⟩
  | .local _ .vmem, ⟨4, _⟩ => ⟨S2x512x8x64, .bf16⟩
  | .local _ .vmem, ⟨5, _⟩ => ⟨S2x512x8x64, .bf16⟩
  | .local _ .vmem, ⟨6, _⟩ => ⟨S1024x768, .f32⟩
  | .local _ .vmem, ⟨7, _⟩ => ⟨S512x512, .f32⟩
  | .local _ .vmem, ⟨8, _⟩ => ⟨S960x768, .bf16⟩
  | .local _ .vmem, ⟨9, _⟩ => ⟨S960x768, .bf16⟩
  | .local _ .vmem, ⟨10, _⟩ => ⟨S1024x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v8 : BitVec 32 := Scalar.xori v2 c1_i32_1
  let c1_i32_3 : BitVec 32 := 1#32
  let v9 : BitVec 32 := Scalar.muli v8 c1_i32_3
  let v10 : BitVec 32 := Scalar.addi c0_i32_4 v9
  v10.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v11 : BitVec 32 := Scalar.xori v2 c4_i32
  let c1_i32_6 : BitVec 32 := 1#32
  let v12 : BitVec 32 := Scalar.muli v11 c1_i32_6
  let v13 : BitVec 32 := Scalar.addi c0_i32_7 v12
  v13.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v14 : BitVec 32 := Scalar.xori v2 c2_i32
  let c1_i32_9 : BitVec 32 := 1#32
  let v15 : BitVec 32 := Scalar.muli v14 c1_i32_9
  let v16 : BitVec 32 := Scalar.addi c0_i32_10 v15
  v16.toNat
def k0_dev4 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v17 : BitVec 32 := Scalar.xori v2 c8_i32
  let c1_i32_12 : BitVec 32 := 1#32
  let v18 : BitVec 32 := Scalar.muli v17 c1_i32_12
  let v19 : BitVec 32 := Scalar.addi c0_i32_13 v18
  v19.toNat
def k0_off1 (d0 : Dev nD) (c1_i32_38 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let v100 : Index := Scalar.indexCast v99
  let c0 : Index := 0#32
  let c0_39 : Index := 0#32
  ![v100.toNat, 0, 0]
def k0_off2 (d0 : Dev nD) (c1_i32_38 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let v109 : Index := Scalar.indexCast v99
  let c0_42 : Index := 0#32
  let c0_43 : Index := 0#32
  let c0_44 : Index := 0#32
  ![v109.toNat, 0, 0, 0]
def k0_off3 (d0 : Dev nD) (c1_i32_38 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let v138 : Index := Scalar.indexCast v99
  let c0_56 : Index := 0#32
  let c1 : Index := 1#32
  let c0_57 : Index := 0#32
  ![v138.toNat, 0, 1, 0]
def k0_off4 (d0 : Dev nD) (c1_i32_38 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let v167 : Index := Scalar.indexCast v99
  let c0_68 : Index := 0#32
  let c2 : Index := 2#32
  let c0_69 : Index := 0#32
  ![v167.toNat, 0, 2, 0]
def k0_off5 (d0 : Dev nD) (c1_i32_38 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let v196 : Index := Scalar.indexCast v99
  let c0_80 : Index := 0#32
  let c3 : Index := 3#32
  let c0_81 : Index := 0#32
  ![v196.toNat, 0, 3, 0]
def k0_off6 (d0 : Dev nD) (c1_i32_38 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let v225 : Index := Scalar.indexCast v99
  let c0_92 : Index := 0#32
  let c4 : Index := 4#32
  let c0_93 : Index := 0#32
  ![v225.toNat, 0, 4, 0]
def k0_off7 (d0 : Dev nD) (c1_i32_38 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let v254 : Index := Scalar.indexCast v99
  let c0_104 : Index := 0#32
  let c5 : Index := 5#32
  let c0_105 : Index := 0#32
  ![v254.toNat, 0, 5, 0]
def k0_off8 (d0 : Dev nD) (c1_i32_38 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let v283 : Index := Scalar.indexCast v99
  let c0_116 : Index := 0#32
  let c6 : Index := 6#32
  let c0_117 : Index := 0#32
  ![v283.toNat, 0, 6, 0]
def k0_off9 (d0 : Dev nD) (c1_i32_38 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let v312 : Index := Scalar.indexCast v99
  let c0_128 : Index := 0#32
  let c7 : Index := 7#32
  let c0_129 : Index := 0#32
  ![v312.toNat, 0, 7, 0]
def k0_off10 (d0 : Dev nD) (c1_i32_38 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let v99 : BitVec 32 := Scalar.xori v98 c1_i32_38
  let c512_i32 : BitVec 32 := 512#32
  let v344 : BitVec 32 := Scalar.muli v99 c512_i32
  let v345 : Index := Scalar.indexCast v344
  let c0_145 : Index := 0#32
  ![v345.toNat, 0]
def k0_dev5 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_148 : BitVec 32 := 1#32
  let v353 : BitVec 32 := Scalar.xori v2 c1_i32_148
  let c1_i32_151 : BitVec 32 := 1#32
  let v354 : BitVec 32 := Scalar.muli v353 c1_i32_151
  let v355 : BitVec 32 := Scalar.addi c0_i32_152 v354
  v355.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c64_i32_291 : BitVec 32 := 64#32
  let v619 : BitVec 32 := Scalar.muli v612 c64_i32_291
  let v620 : Index := Scalar.indexCast v619
  let c0_292 : Index := 0#32
  ![v620.toNat, 0]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c1_i32_299 : BitVec 32 := 1#32
  let c2_i32_297 : BitVec 32 := 2#32
  let v630 : BitVec 32 := Scalar.shrsi v2 c2_i32_297
  let c1_i32_298 : BitVec 32 := 1#32
  let v631 : BitVec 32 := Scalar.andi v630 c1_i32_298
  let v632 : BitVec 32 := Scalar.subi c1_i32_299 v631
  let c4_i32_300 : BitVec 32 := 4#32
  let v633 : BitVec 32 := Scalar.muli v632 c4_i32_300
  let v634 : BitVec 32 := Scalar.addi v612 v633
  let c64_i32_302 : BitVec 32 := 64#32
  let v637 : BitVec 32 := Scalar.muli v634 c64_i32_302
  let v638 : Index := Scalar.indexCast v637
  let c0_303 : Index := 0#32
  ![v638.toNat, 0]
def k0_dev6 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_305 : BitVec 32 := 4#32
  let v644 : BitVec 32 := Scalar.xori v2 c4_i32_305
  let c1_i32_308 : BitVec 32 := 1#32
  let v645 : BitVec 32 := Scalar.muli v644 c1_i32_308
  let v646 : BitVec 32 := Scalar.addi c0_i32_309 v645
  v646.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c2_i32_297 : BitVec 32 := 2#32
  let v630 : BitVec 32 := Scalar.shrsi v2 c2_i32_297
  let c1_i32_298 : BitVec 32 := 1#32
  let v631 : BitVec 32 := Scalar.andi v630 c1_i32_298
  let c4_i32_301 : BitVec 32 := 4#32
  let v635 : BitVec 32 := Scalar.muli v631 c4_i32_301
  let v636 : BitVec 32 := Scalar.addi v612 v635
  let c64_i32_322 : BitVec 32 := 64#32
  let v659 : BitVec 32 := Scalar.muli v636 c64_i32_322
  let v660 : Index := Scalar.indexCast v659
  let c0_323 : Index := 0#32
  ![v660.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c2_i32_297 : BitVec 32 := 2#32
  let v630 : BitVec 32 := Scalar.shrsi v2 c2_i32_297
  let c1_i32_298 : BitVec 32 := 1#32
  let v631 : BitVec 32 := Scalar.andi v630 c1_i32_298
  let c4_i32_301 : BitVec 32 := 4#32
  let v635 : BitVec 32 := Scalar.muli v631 c4_i32_301
  let v636 : BitVec 32 := Scalar.addi v612 v635
  let c1_i32_330 : BitVec 32 := 1#32
  let c1_i32_328 : BitVec 32 := 1#32
  let v670 : BitVec 32 := Scalar.shrsi v2 c1_i32_328
  let c1_i32_329 : BitVec 32 := 1#32
  let v671 : BitVec 32 := Scalar.andi v670 c1_i32_329
  let v672 : BitVec 32 := Scalar.subi c1_i32_330 v671
  let c2_i32_331 : BitVec 32 := 2#32
  let v673 : BitVec 32 := Scalar.muli v672 c2_i32_331
  let v674 : BitVec 32 := Scalar.addi v636 v673
  let c64_i32_333 : BitVec 32 := 64#32
  let v677 : BitVec 32 := Scalar.muli v674 c64_i32_333
  let v678 : Index := Scalar.indexCast v677
  let c0_334 : Index := 0#32
  ![v678.toNat, 0]
def k0_dev7 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_336 : BitVec 32 := 2#32
  let v684 : BitVec 32 := Scalar.xori v2 c2_i32_336
  let c1_i32_339 : BitVec 32 := 1#32
  let v685 : BitVec 32 := Scalar.muli v684 c1_i32_339
  let v686 : BitVec 32 := Scalar.addi c0_i32_340 v685
  v686.toNat
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c2_i32_297 : BitVec 32 := 2#32
  let v630 : BitVec 32 := Scalar.shrsi v2 c2_i32_297
  let c1_i32_298 : BitVec 32 := 1#32
  let v631 : BitVec 32 := Scalar.andi v630 c1_i32_298
  let c4_i32_301 : BitVec 32 := 4#32
  let v635 : BitVec 32 := Scalar.muli v631 c4_i32_301
  let v636 : BitVec 32 := Scalar.addi v612 v635
  let c1_i32_328 : BitVec 32 := 1#32
  let v670 : BitVec 32 := Scalar.shrsi v2 c1_i32_328
  let c1_i32_329 : BitVec 32 := 1#32
  let v671 : BitVec 32 := Scalar.andi v670 c1_i32_329
  let c2_i32_332 : BitVec 32 := 2#32
  let v675 : BitVec 32 := Scalar.muli v671 c2_i32_332
  let v676 : BitVec 32 := Scalar.addi v636 v675
  let c64_i32_352 : BitVec 32 := 64#32
  let v699 : BitVec 32 := Scalar.muli v676 c64_i32_352
  let v700 : Index := Scalar.indexCast v699
  let c0_353 : Index := 0#32
  ![v700.toNat, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c2_i32_297 : BitVec 32 := 2#32
  let v630 : BitVec 32 := Scalar.shrsi v2 c2_i32_297
  let c1_i32_298 : BitVec 32 := 1#32
  let v631 : BitVec 32 := Scalar.andi v630 c1_i32_298
  let c4_i32_301 : BitVec 32 := 4#32
  let v635 : BitVec 32 := Scalar.muli v631 c4_i32_301
  let v636 : BitVec 32 := Scalar.addi v612 v635
  let c1_i32_328 : BitVec 32 := 1#32
  let v670 : BitVec 32 := Scalar.shrsi v2 c1_i32_328
  let c1_i32_329 : BitVec 32 := 1#32
  let v671 : BitVec 32 := Scalar.andi v670 c1_i32_329
  let c2_i32_332 : BitVec 32 := 2#32
  let v675 : BitVec 32 := Scalar.muli v671 c2_i32_332
  let v676 : BitVec 32 := Scalar.addi v636 v675
  let c1_i32_360 : BitVec 32 := 1#32
  let c3_i32_358 : BitVec 32 := 3#32
  let v710 : BitVec 32 := Scalar.shrsi v2 c3_i32_358
  let c1_i32_359 : BitVec 32 := 1#32
  let v711 : BitVec 32 := Scalar.andi v710 c1_i32_359
  let v712 : BitVec 32 := Scalar.subi c1_i32_360 v711
  let c1_i32_361 : BitVec 32 := 1#32
  let v713 : BitVec 32 := Scalar.muli v712 c1_i32_361
  let v714 : BitVec 32 := Scalar.addi v676 v713
  let c64_i32_363 : BitVec 32 := 64#32
  let v717 : BitVec 32 := Scalar.muli v714 c64_i32_363
  let v718 : Index := Scalar.indexCast v717
  let c0_364 : Index := 0#32
  ![v718.toNat, 0]
def k0_dev8 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_366 : BitVec 32 := 8#32
  let v724 : BitVec 32 := Scalar.xori v2 c8_i32_366
  let c1_i32_369 : BitVec 32 := 1#32
  let v725 : BitVec 32 := Scalar.muli v724 c1_i32_369
  let v726 : BitVec 32 := Scalar.addi c0_i32_370 v725
  v726.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c2_i32_297 : BitVec 32 := 2#32
  let v630 : BitVec 32 := Scalar.shrsi v2 c2_i32_297
  let c1_i32_298 : BitVec 32 := 1#32
  let v631 : BitVec 32 := Scalar.andi v630 c1_i32_298
  let c4_i32_301 : BitVec 32 := 4#32
  let v635 : BitVec 32 := Scalar.muli v631 c4_i32_301
  let v636 : BitVec 32 := Scalar.addi v612 v635
  let c1_i32_328 : BitVec 32 := 1#32
  let v670 : BitVec 32 := Scalar.shrsi v2 c1_i32_328
  let c1_i32_329 : BitVec 32 := 1#32
  let v671 : BitVec 32 := Scalar.andi v670 c1_i32_329
  let c2_i32_332 : BitVec 32 := 2#32
  let v675 : BitVec 32 := Scalar.muli v671 c2_i32_332
  let v676 : BitVec 32 := Scalar.addi v636 v675
  let c3_i32_358 : BitVec 32 := 3#32
  let v710 : BitVec 32 := Scalar.shrsi v2 c3_i32_358
  let c1_i32_359 : BitVec 32 := 1#32
  let v711 : BitVec 32 := Scalar.andi v710 c1_i32_359
  let c1_i32_362 : BitVec 32 := 1#32
  let v715 : BitVec 32 := Scalar.muli v711 c1_i32_362
  let v716 : BitVec 32 := Scalar.addi v676 v715
  let c64_i32_382 : BitVec 32 := 64#32
  let v739 : BitVec 32 := Scalar.muli v716 c64_i32_382
  let v740 : Index := Scalar.indexCast v739
  let c0_383 : Index := 0#32
  ![v740.toNat, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c2_i32_297 : BitVec 32 := 2#32
  let v630 : BitVec 32 := Scalar.shrsi v2 c2_i32_297
  let c1_i32_298 : BitVec 32 := 1#32
  let v631 : BitVec 32 := Scalar.andi v630 c1_i32_298
  let c4_i32_301 : BitVec 32 := 4#32
  let v635 : BitVec 32 := Scalar.muli v631 c4_i32_301
  let v636 : BitVec 32 := Scalar.addi v612 v635
  let c1_i32_328 : BitVec 32 := 1#32
  let v670 : BitVec 32 := Scalar.shrsi v2 c1_i32_328
  let c1_i32_329 : BitVec 32 := 1#32
  let v671 : BitVec 32 := Scalar.andi v670 c1_i32_329
  let c2_i32_332 : BitVec 32 := 2#32
  let v675 : BitVec 32 := Scalar.muli v671 c2_i32_332
  let v676 : BitVec 32 := Scalar.addi v636 v675
  let c3_i32_358 : BitVec 32 := 3#32
  let v710 : BitVec 32 := Scalar.shrsi v2 c3_i32_358
  let c1_i32_359 : BitVec 32 := 1#32
  let v711 : BitVec 32 := Scalar.andi v710 c1_i32_359
  let c1_i32_362 : BitVec 32 := 1#32
  let v715 : BitVec 32 := Scalar.muli v711 c1_i32_362
  let v716 : BitVec 32 := Scalar.addi v676 v715
  let c64_i32_395 : BitVec 32 := 64#32
  let v762 : BitVec 32 := Scalar.muli v716 c64_i32_395
  let c0_i32_401 : BitVec 32 := 0#32
  ![v762.toNat, 0]
def k0_dev9 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_396 : BitVec 32 := 8#32
  let v763 : BitVec 32 := Scalar.xori v2 c8_i32_396
  let c1_i32_399 : BitVec 32 := 1#32
  let v764 : BitVec 32 := Scalar.muli v763 c1_i32_399
  let v765 : BitVec 32 := Scalar.addi c0_i32_400 v764
  v765.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c2_i32_297 : BitVec 32 := 2#32
  let v630 : BitVec 32 := Scalar.shrsi v2 c2_i32_297
  let c1_i32_298 : BitVec 32 := 1#32
  let v631 : BitVec 32 := Scalar.andi v630 c1_i32_298
  let c4_i32_301 : BitVec 32 := 4#32
  let v635 : BitVec 32 := Scalar.muli v631 c4_i32_301
  let v636 : BitVec 32 := Scalar.addi v612 v635
  let c1_i32_328 : BitVec 32 := 1#32
  let v670 : BitVec 32 := Scalar.shrsi v2 c1_i32_328
  let c1_i32_329 : BitVec 32 := 1#32
  let v671 : BitVec 32 := Scalar.andi v670 c1_i32_329
  let c2_i32_332 : BitVec 32 := 2#32
  let v675 : BitVec 32 := Scalar.muli v671 c2_i32_332
  let v676 : BitVec 32 := Scalar.addi v636 v675
  let c3_i32_358 : BitVec 32 := 3#32
  let v710 : BitVec 32 := Scalar.shrsi v2 c3_i32_358
  let c1_i32_359 : BitVec 32 := 1#32
  let v711 : BitVec 32 := Scalar.andi v710 c1_i32_359
  let c1_i32_362 : BitVec 32 := 1#32
  let v715 : BitVec 32 := Scalar.muli v711 c1_i32_362
  let v716 : BitVec 32 := Scalar.addi v676 v715
  let c3_i32_392 : BitVec 32 := 3#32
  let v759 : BitVec 32 := Scalar.shrsi v2 c3_i32_392
  let c1_i32_393 : BitVec 32 := 1#32
  let v760 : BitVec 32 := Scalar.andi v759 c1_i32_393
  let c1_i32_409 : BitVec 32 := 1#32
  let v778 : BitVec 32 := Scalar.muli v760 c1_i32_409
  let v779 : BitVec 32 := Scalar.subi v716 v778
  let c64_i32_413 : BitVec 32 := 64#32
  let v783 : BitVec 32 := Scalar.muli v779 c64_i32_413
  let c0_i32_419 : BitVec 32 := 0#32
  ![v783.toNat, 0]
def k0_dev10 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_414 : BitVec 32 := 2#32
  let v784 : BitVec 32 := Scalar.xori v2 c2_i32_414
  let c1_i32_417 : BitVec 32 := 1#32
  let v785 : BitVec 32 := Scalar.muli v784 c1_i32_417
  let v786 : BitVec 32 := Scalar.addi c0_i32_418 v785
  v786.toNat
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c2_i32_297 : BitVec 32 := 2#32
  let v630 : BitVec 32 := Scalar.shrsi v2 c2_i32_297
  let c1_i32_298 : BitVec 32 := 1#32
  let v631 : BitVec 32 := Scalar.andi v630 c1_i32_298
  let c4_i32_301 : BitVec 32 := 4#32
  let v635 : BitVec 32 := Scalar.muli v631 c4_i32_301
  let v636 : BitVec 32 := Scalar.addi v612 v635
  let c1_i32_328 : BitVec 32 := 1#32
  let v670 : BitVec 32 := Scalar.shrsi v2 c1_i32_328
  let c1_i32_329 : BitVec 32 := 1#32
  let v671 : BitVec 32 := Scalar.andi v670 c1_i32_329
  let c2_i32_332 : BitVec 32 := 2#32
  let v675 : BitVec 32 := Scalar.muli v671 c2_i32_332
  let v676 : BitVec 32 := Scalar.addi v636 v675
  let c3_i32_358 : BitVec 32 := 3#32
  let v710 : BitVec 32 := Scalar.shrsi v2 c3_i32_358
  let c1_i32_359 : BitVec 32 := 1#32
  let v711 : BitVec 32 := Scalar.andi v710 c1_i32_359
  let c1_i32_362 : BitVec 32 := 1#32
  let v715 : BitVec 32 := Scalar.muli v711 c1_i32_362
  let v716 : BitVec 32 := Scalar.addi v676 v715
  let c3_i32_392 : BitVec 32 := 3#32
  let v759 : BitVec 32 := Scalar.shrsi v2 c3_i32_392
  let c1_i32_393 : BitVec 32 := 1#32
  let v760 : BitVec 32 := Scalar.andi v759 c1_i32_393
  let c1_i32_409 : BitVec 32 := 1#32
  let v778 : BitVec 32 := Scalar.muli v760 c1_i32_409
  let v779 : BitVec 32 := Scalar.subi v716 v778
  let c1_i32_410 : BitVec 32 := 1#32
  let v780 : BitVec 32 := Scalar.shrsi v2 c1_i32_410
  let c1_i32_411 : BitVec 32 := 1#32
  let v781 : BitVec 32 := Scalar.andi v780 c1_i32_411
  let c2_i32_427 : BitVec 32 := 2#32
  let v799 : BitVec 32 := Scalar.muli v781 c2_i32_427
  let v800 : BitVec 32 := Scalar.subi v779 v799
  let c64_i32_431 : BitVec 32 := 64#32
  let v804 : BitVec 32 := Scalar.muli v800 c64_i32_431
  let c0_i32_437 : BitVec 32 := 0#32
  ![v804.toNat, 0]
def k0_dev11 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_432 : BitVec 32 := 4#32
  let v805 : BitVec 32 := Scalar.xori v2 c4_i32_432
  let c1_i32_435 : BitVec 32 := 1#32
  let v806 : BitVec 32 := Scalar.muli v805 c1_i32_435
  let v807 : BitVec 32 := Scalar.addi c0_i32_436 v806
  v807.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v98 : BitVec 32 := Scalar.andi v2 c1_i32_37
  let c8_i32_282 : BitVec 32 := 8#32
  let v612 : BitVec 32 := Scalar.muli v98 c8_i32_282
  let c2_i32_297 : BitVec 32 := 2#32
  let v630 : BitVec 32 := Scalar.shrsi v2 c2_i32_297
  let c1_i32_298 : BitVec 32 := 1#32
  let v631 : BitVec 32 := Scalar.andi v630 c1_i32_298
  let c4_i32_301 : BitVec 32 := 4#32
  let v635 : BitVec 32 := Scalar.muli v631 c4_i32_301
  let v636 : BitVec 32 := Scalar.addi v612 v635
  let c1_i32_328 : BitVec 32 := 1#32
  let v670 : BitVec 32 := Scalar.shrsi v2 c1_i32_328
  let c1_i32_329 : BitVec 32 := 1#32
  let v671 : BitVec 32 := Scalar.andi v670 c1_i32_329
  let c2_i32_332 : BitVec 32 := 2#32
  let v675 : BitVec 32 := Scalar.muli v671 c2_i32_332
  let v676 : BitVec 32 := Scalar.addi v636 v675
  let c3_i32_358 : BitVec 32 := 3#32
  let v710 : BitVec 32 := Scalar.shrsi v2 c3_i32_358
  let c1_i32_359 : BitVec 32 := 1#32
  let v711 : BitVec 32 := Scalar.andi v710 c1_i32_359
  let c1_i32_362 : BitVec 32 := 1#32
  let v715 : BitVec 32 := Scalar.muli v711 c1_i32_362
  let v716 : BitVec 32 := Scalar.addi v676 v715
  let c3_i32_392 : BitVec 32 := 3#32
  let v759 : BitVec 32 := Scalar.shrsi v2 c3_i32_392
  let c1_i32_393 : BitVec 32 := 1#32
  let v760 : BitVec 32 := Scalar.andi v759 c1_i32_393
  let c1_i32_409 : BitVec 32 := 1#32
  let v778 : BitVec 32 := Scalar.muli v760 c1_i32_409
  let v779 : BitVec 32 := Scalar.subi v716 v778
  let c1_i32_410 : BitVec 32 := 1#32
  let v780 : BitVec 32 := Scalar.shrsi v2 c1_i32_410
  let c1_i32_411 : BitVec 32 := 1#32
  let v781 : BitVec 32 := Scalar.andi v780 c1_i32_411
  let c2_i32_427 : BitVec 32 := 2#32
  let v799 : BitVec 32 := Scalar.muli v781 c2_i32_427
  let v800 : BitVec 32 := Scalar.subi v779 v799
  let c2_i32_428 : BitVec 32 := 2#32
  let v801 : BitVec 32 := Scalar.shrsi v2 c2_i32_428
  let c1_i32_429 : BitVec 32 := 1#32
  let v802 : BitVec 32 := Scalar.andi v801 c1_i32_429
  let c4_i32_445 : BitVec 32 := 4#32
  let v820 : BitVec 32 := Scalar.muli v802 c4_i32_445
  let v821 : BitVec 32 := Scalar.subi v800 v820
  let c64_i32_447 : BitVec 32 := 64#32
  let v823 : BitVec 32 := Scalar.muli v821 c64_i32_447
  let c0_i32_453 : BitVec 32 := 0#32
  ![v823.toNat, 0]
def k0_dev12 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let v824 : BitVec 32 := Scalar.xori v2 c1_i32_448
  let c1_i32_451 : BitVec 32 := 1#32
  let v825 : BitVec 32 := Scalar.muli v824 c1_i32_451
  let v826 : BitVec 32 := Scalar.addi c0_i32_452 v825
  v826.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x128x64, .f32⟩
  | .hbm, ⟨3, _⟩ => ⟨S2x512x128x64, .f32⟩
  | .hbm, ⟨4, _⟩ => ⟨S8192x768, .f32⟩
  | .hbm, ⟨5, _⟩ => ⟨S2x512x8192, .f32⟩
  | .hbm, ⟨6, _⟩ => ⟨S2x512x128x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S512x512, .i1⟩
  | .hbm, ⟨54, _⟩ => ⟨S512x512, .i1⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i1⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S_, .i32⟩
  | .hbm, ⟨73, _⟩ => ⟨S_, .i1⟩
  | .hbm, ⟨74, _⟩ => ⟨S512x512, .i1⟩
  | .hbm, ⟨75, _⟩ => ⟨S512x512, .i1⟩
  | .hbm, ⟨76, _⟩ => ⟨S512x512, .i1⟩
  | .hbm, ⟨77, _⟩ => ⟨S512x512, .i32⟩
  | .hbm, ⟨78, _⟩ => ⟨S512x512, .i32⟩
  | .hbm, ⟨79, _⟩ => ⟨S512x512, .i32⟩
  | .hbm, ⟨80, _⟩ => ⟨S_, .i32⟩
  | .hbm, ⟨81, _⟩ => ⟨S512x512, .i32⟩
  | .hbm, ⟨82, _⟩ => ⟨S512x512, .i1⟩
  | .hbm, ⟨83, _⟩ => ⟨S512x512, .i1⟩
  | .hbm, ⟨84, _⟩ => ⟨S2x128x512x512, .f32⟩
  | .hbm, ⟨85, _⟩ => ⟨S_, .f32⟩
  | .hbm, ⟨86, _⟩ => ⟨S2x128x512x512, .f32⟩
  | .hbm, ⟨87, _⟩ => ⟨S2x128x512x512, .f32⟩
  | .hbm, ⟨88, _⟩ => ⟨S1x1x512x512, .i1⟩
  | .hbm, ⟨89, _⟩ => ⟨S_, .f32⟩
  | .hbm, ⟨90, _⟩ => ⟨S_, .f32⟩
  | .hbm, ⟨91, _⟩ => ⟨S2x128x512x512, .i1⟩
  | .hbm, ⟨92, _⟩ => ⟨S2x128x512x512, .f32⟩
  | .hbm, ⟨93, _⟩ => ⟨S2x128x512x512, .f32⟩
  | .hbm, ⟨94, _⟩ => ⟨S_, .f32⟩
  | .hbm, ⟨95, _⟩ => ⟨S2x128x512, .f32⟩
  | .hbm, ⟨96, _⟩ => ⟨S2x128x512x1, .f32⟩
  | .hbm, ⟨97, _⟩ => ⟨S2x128x512x512, .f32⟩
  | .hbm, ⟨98, _⟩ => ⟨S2x128x512x512, .f32⟩
  | .hbm, ⟨99, _⟩ => ⟨S2x128x512x512, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S2x128x512, .f32⟩
  | .hbm, ⟨105, _⟩ => ⟨S2x128x512x1, .f32⟩
  | .hbm, ⟨106, _⟩ => ⟨S_, .f32⟩
  | .hbm, ⟨107, _⟩ => ⟨S_, .f32⟩
  | .hbm, ⟨108, _⟩ => ⟨S2x128x512x1, .i1⟩
  | .hbm, ⟨109, _⟩ => ⟨S2x128x512x1, .f32⟩
  | .hbm, ⟨110, _⟩ => ⟨S2x128x512x1, .f32⟩
  | .hbm, ⟨111, _⟩ => ⟨S2x128x512x512, .f32⟩
  | .hbm, ⟨112, _⟩ => ⟨S2x128x512x512, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S2x128x512x512, .i1⟩
  | .hbm, ⟨117, _⟩ => ⟨S2x128x512x512, .f32⟩
  | .hbm, ⟨118, _⟩ => ⟨S2x128x512x512, .f32⟩
  | .hbm, ⟨119, _⟩ => ⟨S2x128x64x512, .f32⟩
  | .hbm, ⟨120, _⟩ => ⟨S2x512x128x64, .f32⟩
  | .hbm, ⟨121, _⟩ => ⟨S2x512x8192, .f32⟩
  | .hbm, ⟨122, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Bufs.lean ====
/- The kernel's body on its own buffers, and the points-to facts its parts hold. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Rounds
public import Idealize.ShloMosaic.Lib.Pipeline.RegionTalk
public import Idealize.ShloMosaic.Lib.Pipeline.TalkSites

@[expose] public section

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- The staged activations. -/
abbrev xM : Memref sig .tc .vmem S2x512x768 .bf16 := Memref.whole cc0_stg0_0
/-- The staged query weights. -/
abbrev wqM : Memref sig .tc .vmem S768x512 .bf16 := Memref.whole cc0_stg1_0
/-- The local keys in HBM. -/
abbrev khM : Memref sig .tc .hbm S2x512x8x64 .bf16 := Memref.whole main_v10
/-- The local values in HBM. -/
abbrev vhM : Memref sig .tc .hbm S2x512x8x64 .bf16 := Memref.whole main_v16
/-- The staged output weights. -/
abbrev woM : Memref sig .tc .vmem S512x768 .bf16 := Memref.whole cc0_stg2_0
/-- The staged result. -/
abbrev outM : Memref sig .tc .vmem S2x512x768 .f32 := Memref.whole cc0_stg3_0
/-- The local keys in VMEM. -/
abbrev kM : Memref sig .tc .vmem S2x512x8x64 .bf16 := Memref.whole cc0_scratch0
/-- The local values in VMEM. -/
abbrev vM : Memref sig .tc .vmem S2x512x8x64 .bf16 := Memref.whole cc0_scratch1
/-- The accumulator. -/
abbrev accM : Memref sig .tc .vmem S1024x768 .f32 := Memref.whole cc0_scratch2
/-- The attention of one batch, all local heads side by side. -/
abbrev ctxM : Memref sig .tc .vmem S512x512 .f32 := Memref.whole cc0_scratch3
/-- The staging of the reduce-scatter's sends. -/
abbrev sndM : Memref sig .tc .vmem S960x768 .bf16 := Memref.whole cc0_scratch4
/-- Where the reduce-scatter's sends land. -/
abbrev rcvM : Memref sig .tc .vmem S960x768 .bf16 := Memref.whole cc0_scratch5
/-- The buffer of the all-gather. -/
abbrev agM : Memref sig .tc .vmem S1024x768 .bf16 := Memref.whole cc0_scratch6

/-- A memref's buffer on core `c`, whole, at contents `f`. -/
abbrev whole' {Ix : Type} [DecidableEq Ix] {Val : EltTy → Type} {Name : Type} [DecidableEq Name] {U : Type} [URA U] {Lvl : Type} {sp : Space} {s : Shape} {e : EltTy}
    (c : Dev nD) (M : Memref sig .tc sp s e) (f : Buf Val (M.view.loc (c : Thread nD τ))) : sProp (MT nD τ sig Ix Val Name U Lvl) :=
  M.view.loc (c : Thread nD τ) ↦{fullShare} f

/-- A function of the kernel, given the buffers and semaphores that the launch passes it. -/
abbrev onBufs {α : Type 1} (p : (arg0 : Memref sig .tc .vmem S2x512x768 .bf16) → arg0.IsWhole → (arg1 : Memref sig .tc .vmem S768x512 .bf16) → arg1.IsWhole →
    (arg2 : Memref sig .tc .hbm S2x512x8x64 .bf16) → arg2.IsWhole → (arg3 : Memref sig .tc .hbm S2x512x8x64 .bf16) → arg3.IsWhole →
    (arg4 : Memref sig .tc .vmem S512x768 .bf16) → arg4.IsWhole → (arg5 : Memref sig .tc .vmem S2x512x768 .f32) → arg5.IsWhole →
    (arg6 : Memref sig .tc .vmem S2x512x8x64 .bf16) → arg6.IsWhole → (arg7 : Memref sig .tc .vmem S2x512x8x64 .bf16) → arg7.IsWhole →
    (arg8 : Memref sig .tc .vmem S1024x768 .f32) → arg8.IsWhole → (arg9 : Memref sig .tc .vmem S512x512 .f32) → arg9.IsWhole →
    (arg10 : Memref sig .tc .vmem S960x768 .bf16) → arg10.IsWhole → (arg11 : Memref sig .tc .vmem S960x768 .bf16) → arg11.IsWhole →
    (arg12 : Memref sig .tc .vmem S1024x768 .bf16) → arg12.IsWhole →
    DmaSems sig S2 → DmaSems sig S4 → DmaSems sig S4 → DmaSems sig S4 → DmaSems sig S4 → α) : α :=
  p xM (Memref.isWhole_whole _) wqM (Memref.isWhole_whole _) khM (Memref.isWhole_whole _) vhM (Memref.isWhole_whole _) woM (Memref.isWhole_whole _) outM (Memref.isWhole_whole _) kM (Memref.isWhole_whole _) vM (Memref.isWhole_whole _) accM (Memref.isWhole_whole _) ctxM (Memref.isWhole_whole _) sndM (Memref.isWhole_whole _) rcvM (Memref.isWhole_whole _) agM (Memref.isWhole_whole _) cc0_scratch7 cc0_scratch8 cc0_scratch9 cc0_scratch10 cc0_scratch11

end Cert.KernelIdeal.Proof

end
-- ==== Proof.Mesh.lean ====
module

public import proofs.«01_k».proof.Proof.Bufs

@[expose] public section

/-! # The places the kernel names

The sixteen devices form a four-cube. In step `k` of the reduction a device talks to the neighbour whose number differs
in one bit; which rows of the 1024 it keeps is read off its own bits. The generated offsets and device numbers are brought
to these closed forms. -/

namespace Cert.KernelIdeal.Proof

open Idealize.ShloMosaic
open Cert.KernelIdeal Cert.KernelIdeal.Gen

/-- The bit that the neighbours of step `k` differ in. -/
def flip : Fin 4 → ℕ := ![1, 4, 2, 8]

/-- The neighbour of `c` in step `k`. -/
def nb (k : Fin 4) (c : Dev nD) : Dev nD :=
  ⟨c.val ^^^ flip k, by revert c k; decide⟩

theorem nb_nb (k : Fin 4) (c : Dev nD) : nb k (nb k c) = c := by revert c k; decide

/-- The batch whose half `c` keeps. -/
def bat (c : Dev nD) : Fin 2 := ⟨c.val % 2, Nat.mod_lt _ (by decide)⟩

/-- The other batch. -/
def bat' (c : Dev nD) : Fin 2 := ⟨1 - c.val % 2, by omega⟩

/-- The first row that `c` keeps after step `k`. -/
def lo : Fin 4 → Dev nD → ℕ
  | 0, c => c.val % 2 * 512
  | 1, c => c.val % 2 * 512 + c.val / 4 % 2 * 256
  | 2, c => c.val % 2 * 512 + c.val / 4 % 2 * 256 + c.val / 2 % 2 * 128
  | 3, c => c.val % 2 * 512 + c.val / 4 % 2 * 256 + c.val / 2 % 2 * 128 + c.val / 8 % 2 * 64

/-- How many rows `c` keeps after step `k`. -/
def len : Fin 4 → ℕ := ![512, 256, 128, 64]

/-- The device that ends with the 64-row piece `j`. -/
def owner (j : ℕ) : Dev nD := ⟨j / 8 % 2 + 4 * (j / 4 % 2) + 2 * (j / 2 % 2) + 8 * (j % 2), by show _ < 16; omega⟩

theorem dev1_eq (c : Dev nD) : (⟨k0_dev1 c, k0_dev1_lt c⟩ : Dev nD) = nb 0 c := by revert c; decide
theorem dev2_eq (c : Dev nD) : (⟨k0_dev2 c, k0_dev2_lt c⟩ : Dev nD) = nb 1 c := by revert c; decide
theorem dev3_eq (c : Dev nD) : (⟨k0_dev3 c, k0_dev3_lt c⟩ : Dev nD) = nb 2 c := by revert c; decide
theorem dev4_eq (c : Dev nD) : (⟨k0_dev4 c, k0_dev4_lt c⟩ : Dev nD) = nb 3 c := by revert c; decide
theorem dev5_eq (c : Dev nD) : (⟨k0_dev5 c, k0_dev5_lt c⟩ : Dev nD) = nb 0 c := by revert c; decide
theorem dev6_eq (c : Dev nD) : (⟨k0_dev6 c, k0_dev6_lt c⟩ : Dev nD) = nb 1 c := by revert c; decide
theorem dev7_eq (c : Dev nD) : (⟨k0_dev7 c, k0_dev7_lt c⟩ : Dev nD) = nb 2 c := by revert c; decide
theorem dev8_eq (c : Dev nD) : (⟨k0_dev8 c, k0_dev8_lt c⟩ : Dev nD) = nb 3 c := by revert c; decide
theorem dev9_eq (c : Dev nD) : (⟨k0_dev9 c, k0_dev9_lt c⟩ : Dev nD) = nb 3 c := by revert c; decide
theorem dev10_eq (c : Dev nD) : (⟨k0_dev10 c, k0_dev10_lt c⟩ : Dev nD) = nb 2 c := by revert c; decide
theorem dev11_eq (c : Dev nD) : (⟨k0_dev11 c, k0_dev11_lt c⟩ : Dev nD) = nb 1 c := by revert c; decide
theorem dev12_eq (c : Dev nD) : (⟨k0_dev12 c, k0_dev12_lt c⟩ : Dev nD) = nb 0 c := by revert c; decide

theorem off1_1 (c : Dev nD) : k0_off1 c 1#32 = ![(bat' c).val, 0, 0] := by revert c; decide
theorem off1_0 (c : Dev nD) : k0_off1 c 0#32 = ![(bat c).val, 0, 0] := by revert c; decide
theorem off2_1 (c : Dev nD) : k0_off2 c 1#32 = ![(bat' c).val, 0, 0, 0] := by revert c; decide
theorem off2_0 (c : Dev nD) : k0_off2 c 0#32 = ![(bat c).val, 0, 0, 0] := by revert c; decide
theorem off3_1 (c : Dev nD) : k0_off3 c 1#32 = ![(bat' c).val, 0, 1, 0] := by revert c; decide
theorem off3_0 (c : Dev nD) : k0_off3 c 0#32 = ![(bat c).val, 0, 1, 0] := by revert c; decide
theorem off4_1 (c : Dev nD) : k0_off4 c 1#32 = ![(bat' c).val, 0, 2, 0] := by revert c; decide
theorem off4_0 (c : Dev nD) : k0_off4 c 0#32 = ![(bat c).val, 0, 2, 0] := by revert c; decide
theorem off5_1 (c : Dev nD) : k0_off5 c 1#32 = ![(bat' c).val, 0, 3, 0] := by revert c; decide
theorem off5_0 (c : Dev nD) : k0_off5 c 0#32 = ![(bat c).val, 0, 3, 0] := by revert c; decide
theorem off6_1 (c : Dev nD) : k0_off6 c 1#32 = ![(bat' c).val, 0, 4, 0] := by revert c; decide
theorem off6_0 (c : Dev nD) : k0_off6 c 0#32 = ![(bat c).val, 0, 4, 0] := by revert c; decide
theorem off7_1 (c : Dev nD) : k0_off7 c 1#32 = ![(bat' c).val, 0, 5, 0] := by revert c; decide
theorem off7_0 (c : Dev nD) : k0_off7 c 0#32 = ![(bat c).val, 0, 5, 0] := by revert c; decide
theorem off8_1 (c : Dev nD) : k0_off8 c 1#32 = ![(bat' c).val, 0, 6, 0] := by revert c; decide
theorem off8_0 (c : Dev nD) : k0_off8 c 0#32 = ![(bat c).val, 0, 6, 0] := by revert c; decide
theorem off9_1 (c : Dev nD) : k0_off9 c 1#32 = ![(bat' c).val, 0, 7, 0] := by revert c; decide
theorem off9_0 (c : Dev nD) : k0_off9 c 0#32 = ![(bat c).val, 0, 7, 0] := by revert c; decide
theorem off10_1 (c : Dev nD) : k0_off10 c 1#32 = ![lo 0 (nb 0 c), 0] := by revert c; decide
theorem off10_0 (c : Dev nD) : k0_off10 c 0#32 = ![lo 0 c, 0] := by revert c; decide
theorem off11_eq (c : Dev nD) : k0_off11 c = ![lo 0 c, 0] := by revert c; decide
theorem off12_eq (c : Dev nD) : k0_off12 c = ![lo 1 (nb 1 c), 0] := by revert c; decide
theorem off13_eq (c : Dev nD) : k0_off13 c = ![lo 1 c, 0] := by revert c; decide
theorem off14_eq (c : Dev nD) : k0_off14 c = ![lo 2 (nb 2 c), 0] := by revert c; decide
theorem off15_eq (c : Dev nD) : k0_off15 c = ![lo 2 c, 0] := by revert c; decide
theorem off16_eq (c : Dev nD) : k0_off16 c = ![lo 3 (nb 3 c), 0] := by revert c; decide
theorem off17_eq (c : Dev nD) : k0_off17 c = ![lo 3 c, 0] := by revert c; decide
theorem off18_eq (c : Dev nD) : k0_off18 c = ![lo 3 c, 0] := by revert c; decide
theorem off19_eq (c : Dev nD) : k0_off19 c = ![lo 2 c, 0] := by revert c; decide
theorem off20_eq (c : Dev nD) : k0_off20 c = ![lo 1 c, 0] := by revert c; decide
theorem off21_eq (c : Dev nD) : k0_off21 c = ![lo 0 c, 0] := by revert c; decide

end Cert.KernelIdeal.Proof
-- ==== Proof.Vals.lean ====
module

public import proofs.«01_k».proof.Proof.Mesh
public import Idealize.ShloMosaic.Lib.WritesUnit
public import Idealize.ShloMosaic.Lib.VecWindow
public import Idealize.ShloMosaic.Lib.Pointwise
public import Idealize.ShloMosaic.Lib.Pipeline.ValueKit.Geometry

@[expose] public section

/-! # What the buffers hold

The contents of the kernel's buffers as functions of what the devices were given, over any float values. -/

noncomputable section

namespace Cert.KernelIdeal.Proof

open Idealize.ShloMosaic
open Cert.KernelIdeal Cert.KernelIdeal.Gen

variable {F : FTy → Type} [FloatOps F]

/-- What one device is given: the activations, its columns of the query weights, its heads' keys and values, and its rows of
    the output weights. -/
structure Inp (F : FTy → Type) [FloatOps F] where
  x : Vec F S2x512x768 .bf16
  wq : Vec F S768x512 .bf16
  k : Vec F S2x512x8x64 .bf16
  v : Vec F S2x512x8x64 .bf16
  wo : Vec F S512x768 .bf16

/-- Batch `b` of the activations. -/
def xRow (x : Vec F S2x512x768 .bf16) (b : Fin 2) : Vec F S1x512x768 .bf16 :=
  VecWindow.window x ![b.val, 0, 0] S1x512x768.size (by revert b; decide)

/-- Head `h` of batch `b` of the keys or of the values. -/
def slab (k : Vec F S2x512x8x64 .bf16) (b : Fin 2) (h : Fin 8) : Vec F S1x512x1x64 .bf16 :=
  VecWindow.window k ![b.val, 0, h.val, 0] S1x512x1x64.size (by revert b h; decide)

/-- The pairs of positions that attend to each other. -/
def mask : IVec S512x512 1 := k0_pay5 (k0_pay1 (iota .tc S512x512 32 [0] iota_S512x512_d0_w32) 64#32) k0_pay2 k0_pay3 k0_pay4

/-- The queries of batch `b`, all local heads side by side. -/
def proj (I : Inp F) (b : Fin 2) : FVec F S512x512 .f32 := k0_pay6 (xRow I.x b) I.wq

/-- The columns of head `h` lie inside the queries. -/
theorem slices_head (h : Fin 8) : S512x512.Slices ![0, 64 * h.val] S512x64 := by
  fin_cases h
  · exact slices_S512x512_o0_0_S512x64
  · exact slices_S512x512_o0_64_S512x64
  · exact slices_S512x512_o0_128_S512x64
  · exact slices_S512x512_o0_192_S512x64
  · exact slices_S512x512_o0_256_S512x64
  · exact slices_S512x512_o0_320_S512x64
  · exact slices_S512x512_o0_384_S512x64
  · exact slices_S512x512_o0_448_S512x64

/-- The attention of head `h` on batch `b`. -/
def head (I : Inp F) (b : Fin 2) (h : Fin 8) : FVec F S512x64 .f32 :=
  k0_pay9 mask (truncf .bf16 (extractStridedSlice S512x64 ![0, 64 * h.val] (proj I b) (slices_head h)) bitsLt_bf16_f32)
    (k0_pay8 (slab I.k b h)) (slab I.v b h)

/-- The attention of all local heads on batch `b`, side by side. -/
def ctxv (I : Inp F) (b : Fin 2) : Vec F S512x512 .f32 := fun i =>
  head I b ⟨(i (1 : Fin 2)).val / 64, by have : (i (1 : Fin 2)).val < 512 := (i (1 : Fin 2)).isLt; omega⟩
    (Shape.pair (i (0 : Fin 2)) ⟨(i (1 : Fin 2)).val % 64, Nat.mod_lt _ (by decide)⟩)

/-- The local product with the output weights, on batch `b`. -/
def part (I : Inp F) (b : Fin 2) : FVec F S512x768 .f32 := k0_pay26 (ctxv I b) I.wo

/-- The local product of both batches, one below the other. -/
def A0 (I : Inp F) : Vec F S1024x768 .f32 := fun i =>
  part I ⟨(i (0 : Fin 2)).val / 512, by have : (i (0 : Fin 2)).val < 1024 := (i (0 : Fin 2)).isLt; omega⟩
    (Shape.pair ⟨(i (0 : Fin 2)).val % 512, Nat.mod_lt _ (by decide)⟩ (i (1 : Fin 2)))

/-- One step of the reduction: what the device has, plus what its neighbour has, rounded for the way. -/
def stepA (k : Fin 4) (A : Dev nD → Vec F S1024x768 .f32) : Dev nD → Vec F S1024x768 .f32 := fun c =>
  addf (A c) (extf .f32 (truncf .bf16 (A (nb k c)) bitsLt_bf16_f32) bitsLt_bf16_f32)

/-- The sums before step `k` of the reduction, as far as device `c` keeps them. -/
def A (I : Dev nD → Inp F) : ℕ → Dev nD → Vec F S1024x768 .f32
  | 0 => fun c => A0 (I c)
  | n + 1 => stepA (Fin.ofNat 4 n) (A I n)

/-- A place of a buffer of 1024 rows. -/
def at' (r : ℕ) (c : Fin 768) : S1024x768.Idx := Shape.pair ⟨r % 1024, Nat.mod_lt _ (by decide)⟩ c

/-- The first row of the staging of step `k`. -/
def roff : Fin 4 → ℕ := ![0, 512, 768, 896]

/-- The step whose staging holds row `r`. -/
def stepOf (r : ℕ) : Fin 4 := if r < 512 then 0 else if r < 768 then 1 else if r < 896 then 2 else 3

/-- What device `c` sends in the reduction. -/
def sent (I : Dev nD → Inp F) (c : Dev nD) : Vec F S960x768 .bf16 := fun i =>
  truncf .bf16 (A I (stepOf (i (0 : Fin 2)).val).val c) bitsLt_bf16_f32
    (at' (lo (stepOf (i (0 : Fin 2)).val) (nb (stepOf (i (0 : Fin 2)).val) c) + ((i (0 : Fin 2)).val - roff (stepOf (i (0 : Fin 2)).val))) (i (1 : Fin 2)))

/-- What device `c` receives in the reduction. -/
def recvd (I : Dev nD → Inp F) (c : Dev nD) : Vec F S960x768 .bf16 := fun i =>
  sent I (nb (stepOf (i (0 : Fin 2)).val) c) i

/-- What the all-gather collects: each piece of 64 rows from the device that keeps it. -/
def G (I : Dev nD → Inp F) : Vec F S1024x768 .bf16 := fun i =>
  truncf .bf16 (A I 4 (owner ((i (0 : Fin 2)).val / 64))) bitsLt_bf16_f32 i

/-- The result. -/
def res (I : Dev nD → Inp F) : Vec F S2x512x768 .f32 := fun i =>
  extf .f32 (G I) bitsLt_bf16_f32 (at' (512 * (i (0 : Fin 3)).val + (i (1 : Fin 3)).val) (i (2 : Fin 3)))

/-! ## The loads -/

theorem load_x (f : Vec F S2x512x768 .bf16) (b : Fin 2) {off : Fin 3 → ℕ} (inb : ∀ a, off a + S1x512x768.size a ≤ S2x512x768.size a) (h : off = ![b.val, 0, 0]) :
    View.readAt (Elt F) xM.view (Rect.unit (s := S2x512x768) off S1x512x768.size inb).toLoadRect f = xRow f b := by
  subst h; rfl

theorem load_k (f : Vec F S2x512x8x64 .bf16) (b : Fin 2) (hd : Fin 8) {off : Fin 4 → ℕ} (inb : ∀ a, off a + S1x512x1x64.size a ≤ S2x512x8x64.size a) (h : off = ![b.val, 0, hd.val, 0]) :
    View.readAt (Elt F) kM.view (Rect.unit (s := S2x512x8x64) off S1x512x1x64.size inb).toLoadRect f = slab f b hd := by
  subst h; rfl

theorem load_v (f : Vec F S2x512x8x64 .bf16) (b : Fin 2) (hd : Fin 8) {off : Fin 4 → ℕ} (inb : ∀ a, off a + S1x512x1x64.size a ≤ S2x512x8x64.size a) (h : off = ![b.val, 0, hd.val, 0]) :
    View.readAt (Elt F) vM.view (Rect.unit (s := S2x512x8x64) off S1x512x1x64.size inb).toLoadRect f = slab f b hd := by
  subst h; rfl

theorem load_wq (f : Vec F S768x512 .bf16) {off : Fin 2 → ℕ} (inb : ∀ a, off a + S768x512.size a ≤ S768x512.size a) :
    View.readAt (Elt F) wqM.view (Rect.unit (s := S768x512) off S768x512.size inb).toLoadRect f = f :=
  View.readAt_full wqM.view f inb

theorem load_wo (f : Vec F S512x768 .bf16) {off : Fin 2 → ℕ} (inb : ∀ a, off a + S512x768.size a ≤ S512x768.size a) :
    View.readAt (Elt F) woM.view (Rect.unit (s := S512x768) off S512x768.size inb).toLoadRect f = f :=
  View.readAt_full woM.view f inb

theorem load_ctx (f : Vec F S512x512 .f32) {off : Fin 2 → ℕ} (inb : ∀ a, off a + S512x512.size a ≤ S512x512.size a) :
    View.readAt (Elt F) ctxM.view (Rect.unit (s := S512x512) off S512x512.size inb).toLoadRect f = f :=
  View.readAt_full ctxM.view f inb

/-! ## The heads' stores -/

/-- The first `n` heads of batch `b` are in place. -/
def CtxOk (I : Inp F) (b : Fin 2) (n : ℕ) (g : Vec F S512x512 .f32) : Prop :=
  ∀ i : S512x512.Idx, (i (1 : Fin 2)).val < 64 * n → g i = ctxv I b i

theorem ctxOk_zero (I : Inp F) (b : Fin 2) (g : Vec F S512x512 .f32) : CtxOk I b 0 g := fun _ h => absurd h (by omega)

/-- Storing head `n` after the first `n`. -/
theorem ctxOk_store (I : Inp F) (b : Fin 2) (n : Fin 8) (g : Vec F S512x512 .f32) (hg : CtxOk I b n.val g)
    {off : Fin 2 → ℕ} (inb : ∀ a, off a + S512x64.size a ≤ S512x512.size a) (ho : off = ![0, 64 * n.val]) (w : FVec F S512x64 .f32) (hw : w = head I b n) :
    CtxOk I b (n.val + 1) (ctxM.view.writes (Elt F) g [⟨Rect.unit (s := S512x512) off S512x64.size inb, w⟩]) := by
  intro i hi
  subst hw
  have hread : ∀ f : Vec F S512x512 .f32, ctxM.view.read (Elt F) f i = f i := fun f => rfl
  rw [← hread (ctxM.view.writes (Elt F) g _)]
  by_cases hlt : (i (1 : Fin 2)).val < 64 * n.val
  · rw [View.read_writes_cons_unit_of_not_mem (v := ctxM.view) (f := g) inb _ [] i ho (1 : Fin 2) (.inl hlt), View.writes_nil, hread]
    exact hg i hlt
  · have h64 : (i (1 : Fin 2)).val / 64 = n.val := by omega
    have hn : (⟨(i (1 : Fin 2)).val / 64, by have : (i (1 : Fin 2)).val < 512 := (i (1 : Fin 2)).isLt; omega⟩ : Fin 8) = n := Fin.ext h64
    rw [View.read_writes_cons_unit_of_mem (v := ctxM.view) (f := g) inb _ [] i
      (Shape.pair (i (0 : Fin 2)) ⟨(i (1 : Fin 2)).val % 64, Nat.mod_lt _ (by decide)⟩) ho
      (Fin.forall_fin_two.mpr ⟨by show (i (0 : Fin 2)).val = 0 + (i (0 : Fin 2)).val; omega, by show (i (1 : Fin 2)).val = 64 * n.val + (i (1 : Fin 2)).val % 64; omega⟩)]
    unfold ctxv; rw [hn]

theorem ctxOk_all (I : Inp F) (b : Fin 2) (g : Vec F S512x512 .f32) (hg : CtxOk I b 8 g) : g = ctxv I b :=
  funext fun i => hg i (by have : (i (1 : Fin 2)).val < 512 := (i (1 : Fin 2)).isLt; omega)

end Cert.KernelIdeal.Proof

end
-- ==== Proof.Compute.lean ====
module

public import proofs.«01_k».proof.Proof.Vals

@[expose] public section

/-! # The parts that only compute

Each window of the kernel's body between two copies, run on the device's own buffers: what it returns, and how far it brings
the buffer of the heads and the accumulator. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Tactic

variable {F : FTy → Type} [FloatOps F]
variable {U : Type} [URA U]
local notation "𝕄" => MT nD τ sig ℕ (Elt F) ℕ U ℕ

/-- The device's inputs in its buffers. -/
abbrev Ins (c : Dev nD) (I : Inp F) : sProp 𝕄 :=
  iprop(whole' c xM I.x ∗ whole' c wqM I.wq ∗ whole' c kM I.k ∗ whole' c vM I.v ∗ whole' c woM I.wo)

/-- The buffer of the heads with the first `n` heads of batch `b` in place. -/
abbrev Ctx (c : Dev nD) (I : Inp F) (b : Fin 2) (n : ℕ) : sProp 𝕄 :=
  iprop(∃ g : Vec F S512x512 .f32, whole' c ctxM g ∗ ⌜CtxOk I b n g⌝)

/-- The accumulator, at any contents. -/
abbrev AccAny (c : Dev nD) : sProp 𝕄 :=
  iprop(∃ f : Vec F S1024x768 .f32, whole' c accM f)

/-- The accumulator with the batch that is sent away in place. -/
abbrev AccHalf (c : Dev nD) (I : Inp F) : sProp 𝕄 :=
  iprop(∃ f : Vec F S1024x768 .f32, whole' c accM f ∗ ⌜∀ i : S1024x768.Idx, (i (0 : Fin 2)).val / 512 = (bat' c).val → f i = A0 I i⌝)

/-- The accumulator with both batches in place. -/
abbrev AccFull (c : Dev nD) (I : Inp F) : sProp 𝕄 :=
  iprop(∃ f : Vec F S1024x768 .f32, whole' c accM f ∗ ⌜f = A0 I⌝)

/-- The queries of head `h` on batch `b`, rounded. -/
def qh (I : Inp F) (b : Fin 2) (h : Fin 8) : FVec F S512x64 .bf16 :=
  truncf .bf16 (extractStridedSlice S512x64 ![0, 64 * h.val] (proj I b) (slices_head h)) bitsLt_bf16_f32

/-- A run of a window of the body on device `c`. -/
abbrev runs {α : Type} (c : Dev nD) (p : Prog (TpuEff nD τ sig (Elt F) Λ₀ .tc) α) (Q : α → sProp 𝕄) : sProp 𝕄 :=
  wp frame (wpE defs₀ Variants.none (c : Thread nD τ) none) Set.univ p Q

theorem lo_nb (c : Dev nD) : lo 0 (nb 0 c) = 512 * (bat' c).val := by revert c; decide
theorem lo_self (c : Dev nD) : lo 0 c = 512 * (bat c).val := by revert c; decide
theorem bat_cases (c : Dev nD) (n : ℕ) (h : n < 2) : n = (bat c).val ∨ n = (bat' c).val := by
  show n = c.val % 2 ∨ n = 1 - c.val % 2; omega

/-- The product that a window takes from the finished buffer of the heads. -/
theorem part_of_ctx (I : Inp F) (b : Fin 2) (g : Vec F S512x512 .f32) (hg : CtxOk I b 8 g)
    (inb : ∀ a, (![0, 0] : Fin 2 → ℕ) a + S512x512.size a ≤ S512x512.size a) (inb' : ∀ a, (![0, 0] : Fin 2 → ℕ) a + S512x768.size a ≤ S512x768.size a) :
    k0_pay26 (View.readAt (Elt F) ctxM.view (Rect.unit (s := S512x512) ![0, 0] S512x512.size inb).toLoadRect g)
      (View.readAt (Elt F) woM.view (Rect.unit (s := S512x768) ![0, 0] S512x768.size inb').toLoadRect I.wo) = part I b := by
  rw [load_ctx, load_wo, ctxOk_all I b g hg]; rfl

theorem pay27_eq (u : Vec F S512x512 .f32) (w : Vec F S512x768 .bf16) : k0_pay27 u w = k0_pay26 u w :=
  shapeCast_id _ _
theorem pay50_eq (u : Vec F S512x512 .f32) (w : Vec F S512x768 .bf16) : k0_pay50 u w = k0_pay26 u w :=
  shapeCast_id _ _

/-- A store of batch `b`'s product into the accumulator puts that batch in place and changes no other row. -/
theorem acc_store (I : Inp F) (b : Fin 2) (f : Vec F S1024x768 .f32) {off : Fin 2 → ℕ}
    (inb : ∀ a, off a + S512x768.size a ≤ S1024x768.size a) (ho : off = ![512 * b.val, 0]) (w : FVec F S512x768 .f32) (hw : w = part I b)
    (i : S1024x768.Idx) :
    accM.view.writes (Elt F) f [⟨Rect.unit (s := S1024x768) off S512x768.size inb, w⟩] i = if (i (0 : Fin 2)).val / 512 = b.val then A0 I i else f i := by
  subst hw
  have hread : ∀ f : Vec F S1024x768 .f32, accM.view.read (Elt F) f i = f i := fun f => rfl
  rw [← hread (accM.view.writes (Elt F) f _)]
  by_cases hb : (i (0 : Fin 2)).val / 512 = b.val
  · have hn : (⟨(i (0 : Fin 2)).val / 512, by have : (i (0 : Fin 2)).val < 1024 := (i (0 : Fin 2)).isLt; omega⟩ : Fin 2) = b := Fin.ext hb
    rw [if_pos hb, View.read_writes_cons_rows_of_mem (v := accM.view) (f := f) inb _ [] i
      (Shape.pair ⟨(i (0 : Fin 2)).val % 512, Nat.mod_lt _ (by decide)⟩ (i (1 : Fin 2))) ho
      (by show (i (0 : Fin 2)).val = 512 * b.val + (i (0 : Fin 2)).val % 512; omega) rfl]
    unfold A0; rw [hn]
  · rw [if_neg hb, View.read_writes_cons_rows_of_not_mem (v := accM.view) (f := f) inb _ [] i ho (W := 512) rfl (by omega), View.writes_nil, hread]

/-- The mask and the queries of the batch that is sent away; the first head's keys. -/
theorem part3 (c : Dev nD) (I : Inp F) (w : BitVec 32) :
    Ins c I
      ⊢ (runs c (onBufs (k0_part3 (F := F)) c w (k0_pay1 (iota .tc S512x512 32 [0] iota_S512x512_d0_w32) 64#32) k0_pay2 k0_pay3 k0_pay4)
        (fun r => iprop(⌜r = ⟨mask, Scalar.andi w 1#32, Scalar.xori (Scalar.andi w 1#32) 1#32, proj I (bat' c), qh I (bat' c) 0, k0_pay8 (slab I.k (bat' c) 0)⟩⌝ ∗ Ins c I)) : sProp 𝕄) := by
  iintro ⟨HX, HW, HK, HV, HO⟩
  simp only [runs, onBufs, k0_part3_eq_skeleton, k0_part3_skel]
  sl_exec
  sl_step
  isplitr
  · ipureintro
    unfold qh proj
    rw [← load_x I.x (bat' c) (k0_off1_inb c 1) (off1_1 c), ← load_k I.k (bat' c) 0 (k0_off2_inb c 1) (off2_1 c)]
    have hw := load_wq I.wq inb_S768x512_S768x512_0_0
    rw [← hw]
    simp only [hw]
    rfl
  isplitl [HX]; · iexact HX
  isplitl [HW]; · iexact HW
  isplitl [HK]; · iexact HK
  isplitl [HV]; · iexact HV
  iexact HO

/-- The first head's attention is stored; the second's is begun. -/
theorem part4 (c : Dev nD) (I : Inp F) (w : BitVec 32) :
    iprop(Ins c I ∗ Ctx c I (bat' c) 0)
      ⊢ (runs c (onBufs (k0_part4 (F := F)) c mask w (proj I (bat' c)) (qh I (bat' c) 0) (k0_pay8 (slab I.k (bat' c) 0)))
        (fun r => iprop(⌜r = ⟨k0_pay10 (slab I.v (bat' c) 1), k0_pay11 mask (proj I (bat' c)) (slab I.k (bat' c) 1), k0_pay12 mask (proj I (bat' c)) (slab I.k (bat' c) 1)⟩⌝ ∗ Ins c I ∗ Ctx c I (bat' c) 1)) : sProp 𝕄) := by
  iintro ⟨⟨HX, HW, HK, HV, HO⟩, ⟨%g, HC, %hg⟩⟩
  simp only [runs, onBufs, k0_part4_eq_skeleton, k0_part4_skel]
  sl_exec
  sl_step
  isplitr
  · ipureintro
    rw [← load_v I.v (bat' c) 1 (k0_off3_inb c 1) (off3_1 c)]
    rw [← load_k I.k (bat' c) 1 (k0_off3_inb c 1) (off3_1 c)]
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat' c) 0 _ (hg) inb_S512x512_S512x64_0_0 rfl _ (by unfold head; rw [← load_v I.v (bat' c) 0 (k0_off2_inb c 1) (off2_1 c)]; rfl)

/-- The second head's attention is stored; the third's is computed. -/
theorem part5 (c : Dev nD) (I : Inp F) (w : BitVec 32) :
    iprop(Ins c I ∗ Ctx c I (bat' c) 1)
      ⊢ (runs c (onBufs (k0_part5 (F := F)) c mask w (proj I (bat' c)) (k0_pay10 (slab I.v (bat' c) 1)) (k0_pay11 mask (proj I (bat' c)) (slab I.k (bat' c) 1)) (k0_pay12 mask (proj I (bat' c)) (slab I.k (bat' c) 1)))
        (fun r => iprop(⌜r = k0_pay14 mask (proj I (bat' c)) (slab I.k (bat' c) 2) (slab I.v (bat' c) 2)⌝ ∗ Ins c I ∗ Ctx c I (bat' c) 2)) : sProp 𝕄) := by
  iintro ⟨⟨HX, HW, HK, HV, HO⟩, ⟨%g, HC, %hg⟩⟩
  simp only [runs, onBufs, k0_part5_eq_skeleton, k0_part5_skel]
  sl_exec
  sl_step
  isplitr
  · ipureintro
    rw [← load_k I.k (bat' c) 2 (k0_off4_inb c 1) (off4_1 c)]
    rw [← load_v I.v (bat' c) 2 (k0_off4_inb c 1) (off4_1 c)]
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat' c) 1 _ (hg) inb_S512x512_S512x64_0_64 rfl _ (by unfold head; rfl)

/-- The third and fourth heads are stored. -/
theorem part6 (c : Dev nD) (I : Inp F) (w : BitVec 32) :
    iprop(Ins c I ∗ Ctx c I (bat' c) 2)
      ⊢ (runs c (onBufs (k0_part6 (F := F)) c mask w (proj I (bat' c)) (k0_pay14 mask (proj I (bat' c)) (slab I.k (bat' c) 2) (slab I.v (bat' c) 2)))
        (fun r => iprop(⌜r = ⟨k0_pay17 (proj I (bat' c)), k0_pay18 (slab I.k (bat' c) 4), (slab I.v (bat' c) 4)⟩⌝ ∗ Ins c I ∗ Ctx c I (bat' c) 4)) : sProp 𝕄) := by
  iintro ⟨⟨HX, HW, HK, HV, HO⟩, ⟨%g, HC, %hg⟩⟩
  simp only [runs, onBufs, k0_part6_eq_skeleton, k0_part6_skel]
  sl_exec
  sl_step
  isplitr
  · ipureintro
    rw [← load_k I.k (bat' c) 4 (k0_off6_inb c 1) (off6_1 c)]
    rw [← load_v I.v (bat' c) 4 (k0_off6_inb c 1) (off6_1 c)]
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat' c) 3 _ (ctxOk_store I (bat' c) 2 _ (hg) inb_S512x512_S512x64_0_128 rfl _ (by unfold head; rfl)) inb_S512x512_S512x64_0_192 rfl _ (by unfold head; rw [← load_k I.k (bat' c) 3 (k0_off5_inb c 1) (off5_1 c), ← load_v I.v (bat' c) 3 (k0_off5_inb c 1) (off5_1 c)]; rfl)

/-- The fifth head is stored. -/
theorem part7 (c : Dev nD) (I : Inp F) (w : BitVec 32) :
    iprop(Ins c I ∗ Ctx c I (bat' c) 4)
      ⊢ (runs c (onBufs (k0_part7 (F := F)) c mask w (proj I (bat' c)) (k0_pay17 (proj I (bat' c))) (k0_pay18 (slab I.k (bat' c) 4)) (slab I.v (bat' c) 4))
        (fun r => iprop(⌜r = ⟨k0_pay20 (slab I.v (bat' c) 5), k0_pay21 mask (proj I (bat' c)) (slab I.k (bat' c) 5)⟩⌝ ∗ Ins c I ∗ Ctx c I (bat' c) 5)) : sProp 𝕄) := by
  iintro ⟨⟨HX, HW, HK, HV, HO⟩, ⟨%g, HC, %hg⟩⟩
  simp only [runs, onBufs, k0_part7_eq_skeleton, k0_part7_skel]
  sl_exec
  sl_step
  isplitr
  · ipureintro
    rw [← load_k I.k (bat' c) 5 (k0_off7_inb c 1) (off7_1 c)]
    rw [← load_v I.v (bat' c) 5 (k0_off7_inb c 1) (off7_1 c)]
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat' c) 4 _ (hg) inb_S512x512_S512x64_0_256 rfl _ (by unfold head; rfl)

/-- The sixth and seventh heads are stored. -/
theorem part8 (c : Dev nD) (I : Inp F) (w : BitVec 32) :
    iprop(Ins c I ∗ Ctx c I (bat' c) 5)
      ⊢ (runs c (onBufs (k0_part8 (F := F)) c mask w (proj I (bat' c)) (k0_pay20 (slab I.v (bat' c) 5)) (k0_pay21 mask (proj I (bat' c)) (slab I.k (bat' c) 5)))
        (fun r => iprop(⌜r = k0_pay24 (proj I (bat' c))⌝ ∗ Ins c I ∗ Ctx c I (bat' c) 7)) : sProp 𝕄) := by
  iintro ⟨⟨HX, HW, HK, HV, HO⟩, ⟨%g, HC, %hg⟩⟩
  simp only [runs, onBufs, k0_part8_eq_skeleton, k0_part8_skel]
  sl_exec
  sl_step
  isplitr
  · ipureintro
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat' c) 6 _ (ctxOk_store I (bat' c) 5 _ (hg) inb_S512x512_S512x64_0_320 rfl _ (by unfold head; rfl)) inb_S512x512_S512x64_0_384 rfl _ (by unfold head; rw [← load_k I.k (bat' c) 6 (k0_off8_inb c 1) (off8_1 c), ← load_v I.v (bat' c) 6 (k0_off8_inb c 1) (off8_1 c)]; rfl)

/-- The eighth head is stored, and the product with the output weights goes into the accumulator. -/
theorem part9 (c : Dev nD) (I : Inp F) (w : BitVec 32) :
    iprop(Ins c I ∗ Ctx c I (bat' c) 7 ∗ AccAny c)
      ⊢ (runs c (onBufs (k0_part9 (F := F)) c mask w (k0_pay24 (proj I (bat' c))))
        (fun r => iprop(⌜r = part I (bat' c)⌝ ∗ Ins c I ∗ Ctx c I (bat' c) 8 ∗ AccHalf c I)) : sProp 𝕄) := by
  iintro ⟨⟨HX, HW, HK, HV, HO⟩, ⟨%g, HC, %hg⟩, ⟨%f, HA⟩⟩
  simp only [runs, onBufs, k0_part9_eq_skeleton, k0_part9_skel]
  sl_exec
  sl_step
  have hok : CtxOk I (bat' c) 8 (ctxM.view.writes (Elt F) g (part9.sl.HC_1 c I)) :=
    ctxOk_store I (bat' c) 7 g hg inb_S512x512_S512x64_0_448 rfl _ (by unfold head; rw [← load_k I.k (bat' c) 7 (k0_off9_inb c 1) (off9_1 c), ← load_v I.v (bat' c) 7 (k0_off9_inb c 1) (off9_1 c)]; rfl)
  have hpay := part_of_ctx I (bat' c) _ hok inb_S512x512_S512x512_0_0 inb_S512x768_S512x768_0_0
  isplitr
  · ipureintro
    exact hpay
  isplitl [HX HW HK HV HO]
  · isplitl [HX]; · iexact HX
    isplitl [HW]; · iexact HW
    isplitl [HK]; · iexact HK
    isplitl [HV]; · iexact HV
    iexact HO
  isplitl [HC]
  · iexists _
    isplitl [HC]
    · iexact HC
    ipureintro
    exact hok
  iexists _
  isplitl [HA]
  · iexact HA
  ipureintro
  intro i hi
  exact (acc_store I (bat' c) f (k0_off10_inb c 1) ((off10_1 c).trans (by rw [lo_nb])) _ ((pay27_eq _ _).trans hpay) i).trans (if_pos hi)

/-- The first head of the kept batch is stored; the second's is begun. -/
theorem part11 (c : Dev nD) (I : Inp F) (w : BitVec 32) :
    iprop(Ins c I ∗ Ctx c I (bat c) 0)
      ⊢ (runs c (onBufs (k0_part11 (F := F)) c mask w (proj I (bat c)) (k0_pay8 (slab I.v (bat c) 0)) (k0_pay31 (xRow I.x (bat c)) I.wq (slab I.k (bat c) 0)) (k0_pay32 (F := F)))
        (fun r => iprop(⌜r = ⟨k0_pay34 (slab I.v (bat c) 1), k0_pay35 mask (proj I (bat c)) (slab I.k (bat c) 1)⟩⌝ ∗ Ins c I ∗ Ctx c I (bat c) 1)) : sProp 𝕄) := by
  iintro ⟨⟨HX, HW, HK, HV, HO⟩, ⟨%g, HC, %hg⟩⟩
  simp only [runs, onBufs, k0_part11_eq_skeleton, k0_part11_skel]
  sl_exec
  sl_step
  isplitr
  · ipureintro
    rw [← load_v I.v (bat c) 1 (k0_off3_inb c 0) (off3_0 c)]
    rw [← load_k I.k (bat c) 1 (k0_off3_inb c 0) (off3_0 c)]
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat c) 0 _ (hg) inb_S512x512_S512x64_0_0 rfl _ (by unfold head; rfl)

/-- The second and third heads are stored. -/
theorem part12 (c : Dev nD) (I : Inp F) (w : BitVec 32) :
    iprop(Ins c I ∗ Ctx c I (bat c) 1)
      ⊢ (runs c (onBufs (k0_part12 (F := F)) c mask w (proj I (bat c)) (k0_pay34 (slab I.v (bat c) 1)) (k0_pay35 mask (proj I (bat c)) (slab I.k (bat c) 1)))
        (fun r => iprop(⌜r = ⟨k0_pay38 (proj I (bat c)), k0_pay39 (slab I.k (bat c) 3)⟩⌝ ∗ Ins c I ∗ Ctx c I (bat c) 3)) : sProp 𝕄) := by
  iintro ⟨⟨HX, HW, HK, HV, HO⟩, ⟨%g, HC, %hg⟩⟩
  simp only [runs, onBufs, k0_part12_eq_skeleton, k0_part12_skel]
  sl_exec
  sl_step
  isplitr
  · ipureintro
    rw [← load_k I.k (bat c) 3 (k0_off5_inb c 0) (off5_0 c)]
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat c) 2 _ (ctxOk_store I (bat c) 1 _ (hg) inb_S512x512_S512x64_0_64 rfl _ (by unfold head; rfl)) inb_S512x512_S512x64_0_128 rfl _ (by unfold head; rw [← load_k I.k (bat c) 2 (k0_off4_inb c 0) (off4_0 c), ← load_v I.v (bat c) 2 (k0_off4_inb c 0) (off4_0 c)]; rfl)

/-- The fourth head is stored. -/
theorem part13 (c : Dev nD) (I : Inp F) (w : BitVec 32) :
    iprop(Ins c I ∗ Ctx c I (bat c) 3)
      ⊢ (runs c (onBufs (k0_part13 (F := F)) c mask w (proj I (bat c)) (k0_pay38 (proj I (bat c))) (k0_pay39 (slab I.k (bat c) 3)))
        (fun r => iprop(⌜r = ⟨k0_pay41 (slab I.v (bat c) 4), k0_pay42 mask (proj I (bat c)) (slab I.k (bat c) 4)⟩⌝ ∗ Ins c I ∗ Ctx c I (bat c) 4)) : sProp 𝕄) := by
  iintro ⟨⟨HX, HW, HK, HV, HO⟩, ⟨%g, HC, %hg⟩⟩
  simp only [runs, onBufs, k0_part13_eq_skeleton, k0_part13_skel]
  sl_exec
  sl_step
  isplitr
  · ipureintro
    rw [← load_k I.k (bat c) 4 (k0_off6_inb c 0) (off6_0 c)]
    rw [← load_v I.v (bat c) 4 (k0_off6_inb c 0) (off6_0 c)]
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat c) 3 _ (hg) inb_S512x512_S512x64_0_192 rfl _ (by unfold head; rw [← load_v I.v (bat c) 3 (k0_off5_inb c 0) (off5_0 c)]; rfl)

/-- The fifth head is stored. -/
theorem part14 (c : Dev nD) (I : Inp F) (w : BitVec 32) :
    iprop(Ins c I ∗ Ctx c I (bat c) 4)
      ⊢ (runs c (onBufs (k0_part14 (F := F)) c mask w (proj I (bat c)) (k0_pay41 (slab I.v (bat c) 4)) (k0_pay42 mask (proj I (bat c)) (slab I.k (bat c) 4)))
        (fun r => iprop(⌜r = k0_pay44 mask (proj I (bat c)) (slab I.k (bat c) 5) (slab I.v (bat c) 5)⌝ ∗ Ins c I ∗ Ctx c I (bat c) 5)) : sProp 𝕄) := by
  iintro ⟨⟨HX, HW, HK, HV, HO⟩, ⟨%g, HC, %hg⟩⟩
  simp only [runs, onBufs, k0_part14_eq_skeleton, k0_part14_skel]
  sl_exec
  sl_step
  isplitr
  · ipureintro
    rw [← load_k I.k (bat c) 5 (k0_off7_inb c 0) (off7_0 c)]
    rw [← load_v I.v (bat c) 5 (k0_off7_inb c 0) (off7_0 c)]
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat c) 4 _ (hg) inb_S512x512_S512x64_0_256 rfl _ (by unfold head; rfl)

/-- The sixth and seventh heads are stored. -/
theorem part15 (c : Dev nD) (I : Inp F) (w : BitVec 32) :
    iprop(Ins c I ∗ Ctx c I (bat c) 5)
      ⊢ (runs c (onBufs (k0_part15 (F := F)) c mask w (proj I (bat c)) (k0_pay44 mask (proj I (bat c)) (slab I.k (bat c) 5) (slab I.v (bat c) 5)))
        (fun r => iprop(⌜r = ⟨k0_pay47 (proj I (bat c)), k0_pay48 (slab I.k (bat c) 7)⟩⌝ ∗ Ins c I ∗ Ctx c I (bat c) 7)) : sProp 𝕄) := by
  iintro ⟨⟨HX, HW, HK, HV, HO⟩, ⟨%g, HC, %hg⟩⟩
  simp only [runs, onBufs, k0_part15_eq_skeleton, k0_part15_skel]
  sl_exec
  sl_step
  isplitr
  · ipureintro
    rw [← load_k I.k (bat c) 7 (k0_off9_inb c 0) (off9_0 c)]
    rfl
  isplitl [HX HW HK HV HO]
  · isplitl [HX]; · iexact HX
    isplitl [HW]; · iexact HW
    isplitl [HK]; · iexact HK
    isplitl [HV]; · iexact HV
    iexact HO
  iexists _
  isplitl [HC]
  · iexact HC
  ipureintro
  exact ctxOk_store I (bat c) 6 _ (ctxOk_store I (bat c) 5 _ (hg) inb_S512x512_S512x64_0_320 rfl _ (by unfold head; rfl)) inb_S512x512_S512x64_0_384 rfl _ (by unfold head; rw [← load_k I.k (bat c) 6 (k0_off8_inb c 0) (off8_0 c), ← load_v I.v (bat c) 6 (k0_off8_inb c 0) (off8_0 c)]; rfl)

/-- The eighth head is stored, and the product with the output weights completes the accumulator. -/
theorem part16 (c : Dev nD) (I : Inp F) (w w' w'' : BitVec 32) :
    iprop(Ins c I ∗ Ctx c I (bat c) 7 ∗ AccHalf c I)
      ⊢ (runs c (onBufs (k0_part16 (F := F)) c mask w w' w'' (k0_pay47 (proj I (bat c))) (k0_pay48 (slab I.k (bat c) 7)))
        (fun r => iprop(Ins c I ∗ Ctx c I (bat c) 8 ∗ AccFull c I)) : sProp 𝕄) := by
  iintro ⟨⟨HX, HW, HK, HV, HO⟩, ⟨%g, HC, %hg⟩, ⟨%f, HA, %hf⟩⟩
  simp only [runs, onBufs, k0_part16_eq_skeleton, k0_part16_skel]
  sl_exec
  sl_step
  have hok : CtxOk I (bat c) 8 (ctxM.view.writes (Elt F) g (part16.sl.HC_1 c I)) :=
    ctxOk_store I (bat c) 7 g hg inb_S512x512_S512x64_0_448 rfl _ (by unfold head; rw [← load_v I.v (bat c) 7 (k0_off9_inb c 0) (off9_0 c)]; rfl)
  have hpay := part_of_ctx I (bat c) _ hok inb_S512x512_S512x512_0_0 inb_S512x768_S512x768_0_0
  isplitl [HX HW HK HV HO]
  · isplitl [HX]; · iexact HX
    isplitl [HW]; · iexact HW
    isplitl [HK]; · iexact HK
    isplitl [HV]; · iexact HV
    iexact HO
  isplitl [HC]
  · iexists _
    isplitl [HC]
    · iexact HC
    ipureintro
    exact hok
  have hA := fun i => acc_store I (bat c) f (k0_off10_inb c 0) ((off10_0 c).trans (by rw [lo_self])) _ ((pay50_eq _ _).trans hpay) i
  iexists _
  isplitl [HA]
  · iexact HA
  ipureintro
  exact funext fun i => (hA i).trans (by
    split_ifs with h
    · rfl
    · exact hf i ((bat_cases c _ (by have : (i (0 : Fin 2)).val < 1024 := (i (0 : Fin 2)).isLt; omega)).resolve_left h))

end Cert.KernelIdeal.Proof

end
-- ==== Proof.Geom.lean ====
module

public import proofs.«01_k».proof.Proof.Compute

@[expose] public section

/-! # Rows

A device keeps, sends and receives whole rows of its buffers. `rg` names a block of rows, `reg n c` the rows that device `c`
is responsible for before step `n` of the reduction. -/

noncomputable section

namespace Cert.KernelIdeal.Proof

open Idealize.ShloMosaic
open Cert.KernelIdeal Cert.KernelIdeal.Gen

variable {F : FTy → Type} [FloatOps F]

/-- The `l` rows from row `a` on. -/
def rg (R a l : ℕ) : Finset (⟨2, ![R, 768]⟩ : Shape).Idx := Finset.univ.filter fun i => a ≤ (i (0 : Fin 2)).val ∧ (i (0 : Fin 2)).val < a + l

theorem mem_rg {R a l : ℕ} {i : (⟨2, ![R, 768]⟩ : Shape).Idx} : i ∈ rg R a l ↔ a ≤ (i (0 : Fin 2)).val ∧ (i (0 : Fin 2)).val < a + l := by
  unfold rg; rw [Finset.mem_filter]; exact and_iff_right (Finset.mem_univ _)

/-- A rectangle of whole rows is a block of rows. -/
theorem set_unit {R : ℕ} {off sz : Fin 2 → ℕ} (inb : ∀ x, off x + sz x ≤ (⟨2, ![R, 768]⟩ : Shape).size x) {a l : ℕ} (ho : off = ![a, 0]) (hs : sz = ![l, 768]) :
    (Rect.unit (s := (⟨2, ![R, 768]⟩ : Shape)) off sz inb).set = rg R a l := by
  subst ho hs
  ext i
  rw [mem_rg, Rect.mem_set_unit]
  constructor
  · intro h; exact h (0 : Fin 2)
  · intro h
    refine Fin.forall_fin_two.mpr ⟨h, Nat.zero_le _, ?_⟩
    have := (i (1 : Fin 2)).isLt
    simpa using this

/-- All rows. -/
theorem rg_all (R : ℕ) : rg R 0 R = Finset.univ := by
  ext i; rw [mem_rg]
  have : (i (0 : Fin 2)).val < R := (i (0 : Fin 2)).isLt
  exact iff_of_true ⟨Nat.zero_le _, by omega⟩ (Finset.mem_univ _)

/-- Two blocks of rows, one after the other. -/
theorem rg_add {R a l b k : ℕ} (h : b = a + l) : rg R a (l + k) = rg R a l ∪ rg R b k := by
  ext i; rw [Finset.mem_union, mem_rg, mem_rg, mem_rg]; omega

theorem rg_disj {R a l b k : ℕ} (h : a + l ≤ b ∨ b + k ≤ a) : Disjoint (rg R a l) (rg R b k) :=
  Finset.disjoint_left.mpr fun i h1 h2 => by rw [mem_rg] at h1 h2; omega

/-! ## The blocks of the reduction -/

/-- The first row of the block before step `n`. -/
def rlo : Fin 5 → Dev nD → ℕ := Fin.cons (fun _ => 0) lo
/-- The number of rows of the block before step `n`. -/
def rlen : Fin 5 → ℕ := ![1024, 512, 256, 128, 64]
/-- The rows that device `c` is responsible for before step `n` of the reduction. -/
def reg (n : Fin 5) (c : Dev nD) : Finset S1024x768.Idx := rg 1024 (rlo n c) (rlen n)

theorem rlo_succ (k : Fin 4) (c : Dev nD) : rlo k.succ c = lo k c := rfl
theorem rlen_succ (k : Fin 4) : rlen k.succ = len k := by revert k; decide

/-- The two halves of a block: one that `c` keeps and one that its neighbour keeps. -/
theorem halves (k : Fin 4) (c : Dev nD) : rlen k.castSucc = len k + len k ∧
    ((lo k c = rlo k.castSucc c ∧ lo k (nb k c) = rlo k.castSucc c + len k) ∨ (lo k (nb k c) = rlo k.castSucc c ∧ lo k c = rlo k.castSucc c + len k)) := by
  revert k c; decide

theorem reg_zero (c : Dev nD) : reg 0 c = Finset.univ := rg_all 1024

theorem reg_succ (k : Fin 4) (c : Dev nD) : reg k.succ c = rg 1024 (lo k c) (len k) := by
  unfold reg; rw [rlen_succ]; rfl

/-- A block is its two halves. -/
theorem reg_halves (k : Fin 4) (c : Dev nD) : reg k.castSucc c = reg k.succ c ∪ rg 1024 (lo k (nb k c)) (len k) := by
  obtain ⟨h, h'⟩ := halves k c
  rw [reg_succ]; unfold reg
  ext i; rw [Finset.mem_union, mem_rg, mem_rg, mem_rg]; omega

theorem reg_disj (k : Fin 4) (c : Dev nD) : Disjoint (reg k.succ c) (rg 1024 (lo k (nb k c)) (len k)) := by
  obtain ⟨h, h'⟩ := halves k c
  rw [reg_succ]; exact rg_disj (by omega)

theorem reg_sub (k : Fin 4) (c : Dev nD) : reg k.succ c ⊆ reg k.castSucc c := by rw [reg_halves]; exact Finset.subset_union_left
theorem sib_sub (k : Fin 4) (c : Dev nD) : rg 1024 (lo k (nb k c)) (len k) ⊆ reg k.castSucc c := by rw [reg_halves]; exact Finset.subset_union_right

/-- A block's rows are rows of the buffer. -/
theorem lo_lt (k : Fin 4) (c : Dev nD) : lo k c + len k ≤ 1024 := by revert k c; decide

/-! ## Reading and writing blocks of rows -/

/-- The place under row `j 0` of a block that starts at row `a`. -/
theorem emb_row {R : ℕ} {off sz : Fin 2 → ℕ} (inb : ∀ x, off x + sz x ≤ (⟨2, ![R, 768]⟩ : Shape).size x) {a : ℕ} (ho : off = ![a, 0])
    (j : (Rect.unit (s := (⟨2, ![R, 768]⟩ : Shape)) off sz inb).shape.Idx) (i : (⟨2, ![R, 768]⟩ : Shape).Idx)
    (h0 : (i (0 : Fin 2)).val = a + (j (0 : Fin 2)).val) (h1 : (i (1 : Fin 2)).val = (j (1 : Fin 2)).val) :
    (Rect.unit (s := (⟨2, ![R, 768]⟩ : Shape)) off sz inb).emb j = i := by
  subst ho
  funext x
  apply Fin.ext
  rw [Rect.emb_apply]
  revert x
  refine Fin.forall_fin_two.mpr ⟨?_, ?_⟩
  · show a + 1 * (j (0 : Fin 2)).val = _; rw [h0]; omega
  · show 0 + 1 * (j (1 : Fin 2)).val = _; rw [h1]; omega

/-- A place of a block, from the block's first row. -/
theorem row_of_mem {R : ℕ} {off sz : Fin 2 → ℕ} (inb : ∀ x, off x + sz x ≤ (⟨2, ![R, 768]⟩ : Shape).size x) {a l : ℕ} (ho : off = ![a, 0]) (hs : sz = ![l, 768])
    {i : (⟨2, ![R, 768]⟩ : Shape).Idx} (hi : i ∈ rg R a l) :
    ∃ j : (Rect.unit (s := (⟨2, ![R, 768]⟩ : Shape)) off sz inb).shape.Idx,
      (Rect.unit (s := (⟨2, ![R, 768]⟩ : Shape)) off sz inb).emb j = i ∧ (i (0 : Fin 2)).val = a + (j (0 : Fin 2)).val ∧ (i (1 : Fin 2)).val = (j (1 : Fin 2)).val := by
  rw [← set_unit inb ho hs, ← Rect.map_emb_univ] at hi
  obtain ⟨j, -, rfl⟩ := Finset.mem_map.mp hi
  refine ⟨j, rfl, ?_, ?_⟩
  · rw [Rect.emb_apply]; subst ho; show a + 1 * (j (0 : Fin 2)).val = _; omega
  · rw [Rect.emb_apply]; subst ho; show 0 + 1 * (j (1 : Fin 2)).val = _; omega

theorem at_val (r : ℕ) (h : r < 1024) (q : Fin 768) : ((at' r q) (0 : Fin 2)).val = r := Nat.mod_eq_of_lt h

theorem at_eq (r : ℕ) (q : Fin 768) (i : S1024x768.Idx) (h0 : (i (0 : Fin 2)).val = r) (h1 : (i (1 : Fin 2)) = q) : at' r q = i := by
  have hr : r < 1024 := h0 ▸ (i (0 : Fin 2)).isLt
  funext x
  revert x
  refine Fin.forall_fin_two.mpr ⟨Fin.ext ?_, h1.symm⟩
  show r % 1024 = _; rw [h0]; exact Nat.mod_eq_of_lt hr

/-- The accumulator holds the sums of step `n` on the rows kept then. -/
def AccOk (I : Dev nD → Inp F) (c : Dev nD) (n : Fin 5) (f : Vec F S1024x768 .f32) : Prop := ∀ i ∈ reg n c, f i = A I n.val c i

/-- Loading rows of the accumulator that are kept. -/
theorem acc_load (I : Dev nD → Inp F) (c : Dev nD) (n : Fin 5) (f : Vec F S1024x768 .f32) (hf : AccOk I c n f) (a l : ℕ) (hal : rg 1024 a l ⊆ reg n c) {off sz : Fin 2 → ℕ}
    (inb : ∀ x, off x + sz x ≤ S1024x768.size x) (ho : off = ![a, 0]) (hs : sz = ![l, 768]) (j : (Rect.unit (s := S1024x768) off sz inb).shape.Idx)
    (i : S1024x768.Idx) (h0 : (i (0 : Fin 2)).val = a + (j (0 : Fin 2)).val) (h1 : (i (1 : Fin 2)).val = (j (1 : Fin 2)).val) :
    View.readAt (Elt F) accM.view (Rect.unit (s := S1024x768) off sz inb).toLoadRect f j = A I n.val c i := by
  have he := emb_row inb ho j i h0 h1
  rw [← hf i (hal (by rw [← set_unit inb ho hs, ← Rect.map_emb_univ, ← he]; exact Finset.mem_map_of_mem _ (Finset.mem_univ _)))]
  rw [← he]; rfl

theorem stepOf_row (k : Fin 4) (r : ℕ) (h : roff k ≤ r) (h' : r < roff k + len k) : stepOf r = k := by
  unfold stepOf
  fin_cases k
  · simp only [roff, len] at h h'; simp at h'; rw [if_pos h']; rfl
  · simp [roff, len] at h h'; rw [if_neg (by omega), if_pos (by omega)]; rfl
  · simp [roff, len] at h h'; rw [if_neg (by omega), if_neg (by omega), if_pos (by omega)]; rfl
  · simp [roff, len] at h h'; rw [if_neg (by omega), if_neg (by omega), if_neg (by omega)]; rfl

/-- What is sent in step `k`, row by row. -/
theorem sent_row (I : Dev nD → Inp F) (c : Dev nD) (k : Fin 4) (i : S960x768.Idx) (hi : i ∈ rg 960 (roff k) (len k)) :
    sent I c i = truncf .bf16 (A I k.val c) bitsLt_bf16_f32 (at' (lo k (nb k c) + ((i (0 : Fin 2)).val - roff k)) (i (1 : Fin 2))) := by
  have hk := stepOf_row k (i (0 : Fin 2)).val (mem_rg.mp hi).1 (mem_rg.mp hi).2
  unfold sent; rw [hk]

/-- What is received in step `k`. -/
theorem recvd_row (I : Dev nD → Inp F) (c : Dev nD) (k : Fin 4) (i : S960x768.Idx) (hi : i ∈ rg 960 (roff k) (len k)) : recvd I c i = sent I (nb k c) i := by
  have hk := stepOf_row k (i (0 : Fin 2)).val (mem_rg.mp hi).1 (mem_rg.mp hi).2
  unfold recvd; rw [hk]

/-- Storing the rows to send. -/
theorem snd_store (I : Dev nD → Inp F) (c : Dev nD) (k : Fin 4) (g : Vec F S960x768 .bf16) {off sz : Fin 2 → ℕ}
    (inb : ∀ x, off x + sz x ≤ S960x768.size x) (ho : off = ![roff k, 0]) (hs : sz = ![len k, 768])
    (w : (Rect.unit (s := S960x768) off sz inb).shape.Idx → Elt F .bf16)
    (hw : ∀ j q, (j (1 : Fin 2)).val = q.val → w j = truncf .bf16 (A I k.val c) bitsLt_bf16_f32 (at' (lo k (nb k c) + (j (0 : Fin 2)).val) q)) :
    ∀ i ∈ rg 960 (roff k) (len k), (sndM.access (Rect.unit (s := S960x768) off sz inb)).write (Elt F) g w Finset.univ i = sent I c i := by
  intro i hi
  obtain ⟨j, he, h0, h1⟩ := row_of_mem inb ho hs hi
  rw [sent_row I c k i hi, show (i (0 : Fin 2)).val - roff k = (j (0 : Fin 2)).val by omega, ← hw j (i (1 : Fin 2)) h1.symm]
  rw [← he]
  exact View.write_emb_of_mem (v := sndM.access (Rect.unit (s := S960x768) off sz inb)) g w (Finset.mem_univ j)

/-- Adding the received rows to the kept ones: one step of the reduction. -/
theorem acc_step (I : Dev nD → Inp F) (c : Dev nD) (k : Fin 4) (f : Vec F S1024x768 .f32) {off sz : Fin 2 → ℕ}
    (inb : ∀ x, off x + sz x ≤ S1024x768.size x) (ho : off = ![lo k c, 0]) (hs : sz = ![len k, 768])
    (w : (Rect.unit (s := S1024x768) off sz inb).shape.Idx → Elt F .f32)
    (hw : ∀ j i, (i (0 : Fin 2)).val = lo k c + (j (0 : Fin 2)).val → (i (1 : Fin 2)).val = (j (1 : Fin 2)).val → w j = A I (k.val + 1) c i) :
    AccOk I c k.succ ((accM.access (Rect.unit (s := S1024x768) off sz inb)).write (Elt F) f w Finset.univ) := by
  intro i hi
  rw [reg_succ] at hi
  obtain ⟨j, he, h0, h1⟩ := row_of_mem inb ho hs hi
  show _ = A I (k.val + 1) c i
  rw [← hw j i h0 h1, ← he]
  exact View.write_emb_of_mem (v := accM.access (Rect.unit (s := S1024x768) off sz inb)) f w (Finset.mem_univ j)

/-- The received rows, loaded. -/
theorem rcv_load (I : Dev nD → Inp F) (c : Dev nD) (k : Fin 4) {off sz : Fin 2 → ℕ}
    (inb : ∀ x, off x + sz x ≤ S960x768.size x) (ho : off = ![roff k, 0]) (hs : sz = ![len k, 768]) (j : (Rect.unit (s := S960x768) off sz inb).shape.Idx)
    (i : S1024x768.Idx) (h0 : (i (0 : Fin 2)).val = lo k c + (j (0 : Fin 2)).val) (h1 : (i (1 : Fin 2)).val = (j (1 : Fin 2)).val) :
    View.readAt (Elt F) rcvM.view (Rect.unit (s := S960x768) off sz inb).toLoadRect (recvd I c) j = truncf .bf16 (A I k.val (nb k c)) bitsLt_bf16_f32 i := by
  have hm : (Rect.unit (s := S960x768) off sz inb).emb j ∈ rg 960 (roff k) (len k) := by
    rw [← set_unit inb ho hs, ← Rect.map_emb_univ]; exact Finset.mem_map_of_mem _ (Finset.mem_univ _)
  have h : View.readAt (Elt F) rcvM.view (Rect.unit (s := S960x768) off sz inb).toLoadRect (recvd I c) j = recvd I c ((Rect.unit (s := S960x768) off sz inb).emb j) := rfl
  rw [h, recvd_row I c k _ hm, sent_row I (nb k c) k _ hm, nb_nb]
  congr 1
  refine at_eq _ _ i ?_ (Fin.ext ?_)
  · subst ho; rw [h0]; show _ = _ + ((roff k + 1 * (j (0 : Fin 2)).val) - roff k); omega
  · subst ho; rw [h1]; show _ = 0 + 1 * (j (1 : Fin 2)).val; omega

/-- One step of the reduction at a place. -/
theorem A_succ (I : Dev nD → Inp F) (c : Dev nD) (k : Fin 4) (i : S1024x768.Idx) :
    A I (k.val + 1) c i = addf (A I k.val c) (extf .f32 (truncf .bf16 (A I k.val (nb k c)) bitsLt_bf16_f32) bitsLt_bf16_f32) i := by
  have h : Fin.ofNat 4 k.val = k := by revert k; decide
  show stepA (Fin.ofNat 4 k.val) (A I k.val) c i = _
  rw [h]; rfl

theorem lo_piece (c : Dev nD) : lo 3 c % 64 = 0 ∧ owner (lo 3 c / 64) = c := by revert c; decide

theorem owner_row (c : Dev nD) (r : ℕ) (h : lo 3 c ≤ r) (h' : r < lo 3 c + 64) : owner (r / 64) = c := by
  obtain ⟨h0, h1⟩ := lo_piece c
  rw [show r / 64 = lo 3 c / 64 by omega, h1]

/-- Storing the device's own piece for the all-gather. -/
theorem ag_store (I : Dev nD → Inp F) (c : Dev nD) (g : Vec F S1024x768 .bf16) {off sz : Fin 2 → ℕ}
    (inb : ∀ x, off x + sz x ≤ S1024x768.size x) (ho : off = ![lo 3 c, 0]) (hs : sz = ![64, 768])
    (w : (Rect.unit (s := S1024x768) off sz inb).shape.Idx → Elt F .bf16)
    (hw : ∀ j i, (i (0 : Fin 2)).val = lo 3 c + (j (0 : Fin 2)).val → (i (1 : Fin 2)).val = (j (1 : Fin 2)).val → w j = truncf .bf16 (A I 4 c) bitsLt_bf16_f32 i) :
    ∀ i ∈ reg 4 c, (agM.access (Rect.unit (s := S1024x768) off sz inb)).write (Elt F) g w Finset.univ i = G I i := by
  intro i hi
  have hi' : i ∈ rg 1024 (lo 3 c) 64 := hi
  obtain ⟨j, he, h0, h1⟩ := row_of_mem inb ho hs hi'
  unfold G
  rw [owner_row c _ (mem_rg.mp hi').1 (mem_rg.mp hi').2, ← hw j i h0 h1, ← he]
  exact View.write_emb_of_mem (v := agM.access (Rect.unit (s := S1024x768) off sz inb)) g w (Finset.mem_univ j)

/-- A copy of rows to the same rows of another device's buffer: the reduction's. -/
theorem land_rs (fd fs : Vec F S960x768 .bf16) {off sz : Fin 2 → ℕ} (inb : ∀ x, off x + sz x ≤ S960x768.size x) {a l : ℕ} (ho : off = ![a, 0]) (hs : sz = ![l, 768]) :
    ∀ i ∈ rg 960 a l, (rcvM.access (Rect.unit (s := S960x768) off sz inb)).write (Elt F) fd ((sndM.access (Rect.unit (s := S960x768) off sz inb)).read (Elt F) fs) Finset.univ i = fs i := by
  intro i hi
  obtain ⟨j, he, -, -⟩ := row_of_mem inb ho hs hi
  rw [← he]
  exact View.write_emb_of_mem (v := rcvM.access (Rect.unit (s := S960x768) off sz inb)) fd _ (Finset.mem_univ j)

/-- A copy of rows to the same rows of another device's buffer: the all-gather's. -/
theorem land_ag (fd fs : Vec F S1024x768 .bf16) {off sz : Fin 2 → ℕ} (inb : ∀ x, off x + sz x ≤ S1024x768.size x) {a l : ℕ} (ho : off = ![a, 0]) (hs : sz = ![l, 768]) :
    ∀ i ∈ rg 1024 a l, (agM.access (Rect.unit (s := S1024x768) off sz inb)).write (Elt F) fd ((agM.access (Rect.unit (s := S1024x768) off sz inb)).read (Elt F) fs) Finset.univ i = fs i := by
  intro i hi
  obtain ⟨j, he, -, -⟩ := row_of_mem inb ho hs hi
  rw [← he]
  exact View.write_emb_of_mem (v := agM.access (Rect.unit (s := S1024x768) off sz inb)) fd _ (Finset.mem_univ j)

end Cert.KernelIdeal.Proof

end
-- ==== Proof.Sched.lean ====
module

public import proofs.«01_k».proof.Proof.Geom

@[expose] public section

/-! # The protocol between the devices

Each device waits on twenty-three cells: its barrier cell, two cells of local copies, and for each of the four steps of the
reduction and of the all-gather a send cell and a receive cell. Every cell is used for one round.

* Before the first copy each device tells its four neighbours that its buffers may be written: it signals their barrier cells
  and hands over the rows that they are going to write.
* In step `k` of the reduction the device copies rows of its staging into the neighbour's receive buffer. The neighbour's
  receive cell hands over those rows at what was sent; the own send cell hands back the staging.
* In the all-gather the device copies the rows it has into the neighbour's buffer, lending a share of its own rows until its
  send cell is waited on.

Everything owed carries an index, and a device waits on an index only below everything it still owes: the barrier 1, the
reduction 2 to 5, the all-gather 6 to 9, what a device pays itself 0. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal Cert.KernelIdeal.Gen

variable {F : FTy → Type} [FloatOps F]

abbrev UU : Type := UR sig nD τ × URounds (GSem nD τ sig) (Fin 4)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 4)) (MT nD τ sig ℕ (Elt F) ℕ UU ℕ) := embR

/-- The barrier's semaphore. -/
abbrev barS : Sem sig := sig.barrier 0 rfl
/-- A device's barrier cell. -/
abbrev barCell (c : Dev nD) : GSem nD τ sig := ((c : Thread nD τ), .reg barS)
/-- A device's cell at a DMA semaphore. -/
abbrev dCell (c : Dev nD) (s : DmaSem sig) : GSem nD τ sig := ((c : Thread nD τ), .dma s)

/-- The cell that waits for step `k`'s rows in the reduction. -/
abbrev rsR : Fin 4 → DmaSem sig := ![10, 11, 12, 13]
/-- The cell that waits for step `k`'s staging to be free again. -/
abbrev rsS : Fin 4 → DmaSem sig := ![6, 7, 8, 9]
/-- The cell that waits for the all-gather's rows from the neighbour of step `k`. -/
abbrev agR : Fin 4 → DmaSem sig := ![21, 20, 19, 18]
/-- The cell that waits for the end of the all-gather's copy to the neighbour of step `k`. -/
abbrev agS : Fin 4 → DmaSem sig := ![17, 16, 15, 14]

/-- The shares of the all-gather's rows: one lent in each step, one kept. -/
def sh : Fin 4 → PosShare TreeShare := ![fullShare.left, fullShare.right.left, fullShare.right.right.left, fullShare.right.right.right.left]
@[inherit_doc sh] def shr : PosShare TreeShare := fullShare.right.right.right.right

/-- Rows of the reduction's staging. -/
abbrev sndP (c : Dev nD) (k : Fin 4) (f : Vec F S960x768 .bf16) : sProp 𝕄 := sndM.view.loc (c : Thread nD τ) ↦[rg 960 (roff k) (len k)]{fullShare} f
/-- Rows of the reduction's receive buffer. -/
abbrev rcvP (c : Dev nD) (k : Fin 4) (f : Vec F S960x768 .bf16) : sProp 𝕄 := rcvM.view.loc (c : Thread nD τ) ↦[rg 960 (roff k) (len k)]{fullShare} f
/-- Rows of the all-gather's buffer. -/
abbrev agP (c : Dev nD) (S : Finset S1024x768.Idx) (q : PosShare TreeShare) (f : Vec F S1024x768 .bf16) : sProp 𝕄 := agM.view.loc (c : Thread nD τ) ↦[S]{q} f

/-- How much a copy of step `k` credits. -/
abbrev nk : Fin 4 → ℕ := ![
  (rcvM.slice (Rect.unit (s := S960x768) ![0, 0] S512x768.size inb_S960x768_S512x768_0_0) (fun _ => rfl)).view.dmaCredit,
  (rcvM.slice (Rect.unit (s := S960x768) ![512, 0] S256x768.size inb_S960x768_S256x768_512_0) (fun _ => rfl)).view.dmaCredit,
  (rcvM.slice (Rect.unit (s := S960x768) ![768, 0] S128x768.size inb_S960x768_S128x768_768_0) (fun _ => rfl)).view.dmaCredit,
  (rcvM.slice (Rect.unit (s := S960x768) ![896, 0] S64x768.size inb_S960x768_S64x768_896_0) (fun _ => rfl)).view.dmaCredit]

/-- How much a cell waits for. -/
def amt : DmaSem sig → ℕ := ![1, 1, 1, 1, kM.view.dmaCredit, kM.view.dmaCredit, nk 0, nk 1, nk 2, nk 3, nk 0, nk 1, nk 2, nk 3,
  nk 3, nk 2, nk 1, nk 0, nk 3, nk 2, nk 1, nk 0]

theorem amt_pos (s : DmaSem sig) : 0 < amt s := by revert s; decide

/-- What device `c`'s barrier cell hands over with the signal of the neighbour of step `k`: the neighbour's rows that `c` writes. -/
def barPay (c : Dev nD) (k : Fin 4) : sProp 𝕄 :=
  iprop((∃ f, rcvP (F := F) (nb k c) k f) ∗ (∃ f, agP (F := F) (nb k c) (reg k.succ c) fullShare f)
    ∗ reached ER (dCell (nb k c) (rsR k)) 0 ∗ reached ER (dCell (nb k c) (agR k)) 0)

/-- What device `c`'s DMA cells hand over. -/
def dPay (I : Dev nD → Inp F) (c : Dev nD) (s : DmaSem sig) : sProp 𝕄 :=
  match s.val with
  | 4 => iprop(whole' c kM (I c).k ∗ whole' c khM (I c).k)
  | 5 => iprop(whole' c vM (I c).v ∗ whole' c vhM (I c).v)
  | 6 => sndP c 0 (sent I c)
  | 7 => sndP c 1 (sent I c)
  | 8 => sndP c 2 (sent I c)
  | 9 => sndP c 3 (sent I c)
  | 10 => rcvP c 0 (recvd I c)
  | 11 => rcvP c 1 (recvd I c)
  | 12 => rcvP c 2 (recvd I c)
  | 13 => rcvP c 3 (recvd I c)
  | 14 => agP c (reg 4 c) (sh 3) (G I)
  | 15 => agP c (reg 3 c) (sh 2) (G I)
  | 16 => agP c (reg 2 c) (sh 1) (G I)
  | 17 => agP c (reg 1 c) (sh 0) (G I)
  | 18 => agP c (reg 4 (nb 3 c)) fullShare (G I)
  | 19 => agP c (reg 3 (nb 2 c)) fullShare (G I)
  | 20 => agP c (reg 2 (nb 1 c)) fullShare (G I)
  | 21 => agP c (reg 1 (nb 0 c)) fullShare (G I)
  | _ => iprop(emp)

/-- One round on every cell: the barrier's with one duty for each neighbour, the others' with one duty. -/
def Rd (I : Dev nD → Inp F) : Rounds.Schedule (GSem nD τ sig) (Fin 4) 𝕄 where
  duties g r := if r = 0 then (match g.2 with | .reg _ => Finset.univ | .dma _ => {0}) else ∅
  unitless _ := False
  amount g _ _ := match g.2 with | .reg _ => 1 | .dma s => amt s
  payload g _ d := match g.2 with | .reg _ => barPay g.1.1 d | .dma s => dPay I g.1.1 s
  amount_pos g _ _ _ := by
    rcases g with ⟨t, s | s⟩
    · exact Nat.one_pos
    · exact amt_pos s

instance Rd_payload_storable (I : Dev nD → Inp F) (g : GSem nD τ sig) (r : ℕ) (d : Fin 4) :
    BI.Storable (upEmb : UEmb _ 𝕄) ((Rd I).payload g r d) := by
  rcases g with ⟨t, s | s⟩
  · show BI.Storable upEmb (barPay t.1 d)
    unfold barPay; infer_instance
  · show BI.Storable upEmb (dPay I t.1 s)
    unfold dPay; split <;> infer_instance

section Tables

variable (I : Dev nD → Inp F) (c : Dev nD)

theorem duties_bar : (Rd I).duties (barCell c) 0 = Finset.univ := rfl
theorem duties_d (s : DmaSem sig) : (Rd I).duties (dCell c s) 0 = {0} := rfl
theorem duties_later (g : GSem nD τ sig) : ∀ r, 1 ≤ r → (Rd I).duties g r = ∅ := fun r hr => if_neg (by omega)
theorem expect_bar : (Rd I).expect (barCell c) 0 = 4 := by
  unfold Schedule.expect Schedule.amountOf; rw [duties_bar]; rfl
theorem expect_d (s : DmaSem sig) : (Rd I).expect (dCell c s) 0 = amt s := by
  unfold Schedule.expect Schedule.amountOf; rw [duties_d, Finset.sum_singleton]; rfl
theorem rest_d (s : DmaSem sig) : bigSep ((Rd I).duties (dCell c s) 0 \ ∅) (fun u => (Rd I).payload (dCell c s) 0 u) = dPay I c s := by
  rw [Finset.sdiff_empty, duties_d, bigSep_singleton]; rfl
theorem rest_bar : bigSep ((Rd I).duties (barCell c) 0 \ ∅) (fun u => (Rd I).payload (barCell c) 0 u)
    = iprop(barPay c 0 ∗ barPay c 1 ∗ barPay c 2 ∗ barPay c 3) := by
  rw [Finset.sdiff_empty, duties_bar, bigSep_eq_bigSepL_of_eq [(0 : Fin 4), 1, 2, 3] (by decide) (by decide)]
  rfl

end Tables

/-! ## What is owed -/

/-- The barrier unit owed to the neighbour of step `k`. -/
abbrev pB (k : Fin 4) (c : Dev nD) : Pay nD τ sig := (barCell (nb k c), 1, 1)
/-- The reduction's rows owed to the neighbour of step `k`. -/
abbrev pR (k : Fin 4) (c : Dev nD) : Pay nD τ sig := (dCell (nb k c) (rsR k), 2 + k.val, nk k)
/-- The all-gather's rows owed to the neighbour of step `k`. -/
abbrev pG (k : Fin 4) (c : Dev nD) : Pay nD τ sig := (dCell (nb k c) (agR k), 9 - k.val, nk k)

/-- What a device owes when it enters the kernel, in the order it pays. -/
abbrev dueL (c : Dev nD) : List (Pay nD τ sig) :=
  [pB 0 c, pB 1 c, pB 2 c, pB 3 c, pR 0 c, pR 1 c, pR 2 c, pR 3 c, pG 3 c, pG 2 c, pG 1 c, pG 0 c]

/-- What a device owes, at some record of its waits. -/
def Owe (c : Dev nD) (l : List (Pay nD τ sig)) : sProp 𝕄 := iprop(∃ W, owes (c : Thread nD τ) (tallyL l) W)

/-- The payments of the list lie above index `i`. -/
def AboveL (i : ℕ) (l : List (Pay nD τ sig)) : Prop := ∀ x ∈ l, x.1.1.2 = .tc ∧ i < x.2.1 ∧ x.2.1 < 10

theorem aboveL_nil (i : ℕ) : AboveL i [] := fun _ h => absurd h List.not_mem_nil
theorem aboveL_cons {i : ℕ} {x : Pay nD τ sig} {l : List (Pay nD τ sig)} (hx : x.1.1.2 = .tc) (h : i < x.2.1) (h' : x.2.1 < 10) (hl : AboveL i l) : AboveL i (x :: l) :=
  List.forall_mem_cons.mpr ⟨⟨hx, h, h'⟩, hl⟩

theorem mayWait (i : ℕ) (hi : i < 10) (c : Dev nD) (s : SemLoc sig) (l : List (Pay nD τ sig)) (hl : AboveL i l) :
    (levAts (SiteBlocks.L 10) SiteBlocks.lv : sProp 𝕄) ⊢ MayWait (c : Thread nD τ) s i (tallyL l) :=
  SiteBlocks.mayWait_of hi c s _ fun g k h => by
    obtain ⟨x, hx, rfl, rfl⟩ := tallyL_pos h
    obtain ⟨h1, h2, h3⟩ := hl x hx
    exact ⟨SiteBlocks.mem_L' h1 h3, h2⟩

/-! ## The family of cells -/

/-- The tokens of the duties that device `c` pays. -/
def toks (c : Dev nD) : Finset (GSem nD τ sig × ℕ × Fin 4) :=
  (Finset.univ.image fun k : Fin 4 => (barCell (nb k c), 0, k)) ∪ (Finset.univ.image fun k : Fin 4 => (dCell (nb k c) (rsR k), 0, (0 : Fin 4)))
    ∪ (Finset.univ.image fun k : Fin 4 => (dCell (nb k c) (agR k), 0, (0 : Fin 4)))
    ∪ (Finset.univ.image fun k : Fin 4 => (dCell c (rsS k), 0, (0 : Fin 4))) ∪ (Finset.univ.image fun k : Fin 4 => (dCell c (agS k), 0, (0 : Fin 4)))
    ∪ {(dCell c 4, 0, 0), (dCell c 5, 0, 0)}

/-- Who pays a DMA cell of device `c`. -/
def payerD (c : Dev nD) (s : DmaSem sig) : Dev nD :=
  match s.val with
  | 10 => nb 0 c
  | 11 => nb 1 c
  | 12 => nb 2 c
  | 13 => nb 3 c
  | 18 => nb 3 c
  | 19 => nb 2 c
  | 20 => nb 1 c
  | 21 => nb 0 c
  | _ => c

/-- The cells of the launch and the tokens of their duties. -/
def Fm : Fam nD τ sig (Fin 4) 1 where
  bar := .reg barS
  dorm _ := (Finset.univ.filter fun s : DmaSem sig => 4 ≤ s.val).image SemLoc.dma
  toks c _ := toks c
  semKey _ := 0
  hsem j _ _ := Subsingleton.elim _ _
  hbar _ h := by
    obtain ⟨s, -, h⟩ := Finset.mem_image.mp h
    cases h
  tokKey x := (match x.1.2 with | .reg _ => nb x.2.2 x.1.1.1 | .dma s => payerD x.1.1.1 s, 0)
  htok c j x hx := by
    rw [Subsingleton.elim j 0]
    unfold toks at hx
    simp only [Finset.mem_union, Finset.mem_image, Finset.mem_univ, true_and, Finset.mem_insert, Finset.mem_singleton] at hx
    rcases hx with ((((⟨k, rfl⟩ | ⟨k, rfl⟩) | ⟨k, rfl⟩) | ⟨k, rfl⟩) | ⟨k, rfl⟩) | (rfl | rfl)
    · exact Prod.ext (nb_nb k c) rfl
    · fin_cases k <;> exact Prod.ext (nb_nb _ c) rfl
    · fin_cases k <;> exact Prod.ext (nb_nb _ c) rfl
    · fin_cases k <;> rfl
    · fin_cases k <;> rfl
    · rfl
    · rfl

theorem mem_dorm (s : DmaSem sig) (h : 4 ≤ s.val) : SemLoc.dma s ∈ Fm.dorm 0 :=
  Finset.mem_image_of_mem _ (Finset.mem_filter.mpr ⟨Finset.mem_univ _, h⟩)

/-- Every cell under its invariant. -/
abbrev Invs (I : Dev nD → Inp F) (κ : GSem nD τ sig → ℕ) : sProp 𝕄 := Fm.cellInvs ER (Rd I) κ

theorem inv_d (I : Dev nD → Inp F) (κ : GSem nD τ sig → ℕ) (c : Dev nD) (s : DmaSem sig) (h : 4 ≤ s.val) :
    Invs I κ ⊢ cellInv ER (Rd I) (κ (dCell c s)) (dCell c s) := Fm.cellInvs_dorm ER (Rd I) κ c (mem_dorm s h)
theorem inv_bar (I : Dev nD → Inp F) (κ : GSem nD τ sig → ℕ) (c : Dev nD) :
    Invs I κ ⊢ cellInv ER (Rd I) (κ (barCell c)) (barCell c) := Fm.cellInvs_bar ER (Rd I) κ c

/-- The levels of the indices. -/
abbrev Lev : sProp 𝕄 := levAts (SiteBlocks.L 10) SiteBlocks.lv

end Cert.KernelIdeal.Proof

end
-- ==== Proof.Steps.lean ====
module

public import proofs.«01_k».proof.Proof.Sched

@[expose] public section

/-! # The protocol's steps

One lemma for each kind of communication step of the kernel, at any device and any of its cells. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal Cert.KernelIdeal.Gen

variable {F : FTy → Type} [FloatOps F]

local notation "𝕄" => MT nD τ sig ℕ (Elt F) ℕ UU ℕ

variable {α : Type} (I : Dev nD → Inp F) (κ : GSem nD τ sig → ℕ) (c : Dev nD)

/-- The right to wait on an own cell: its position and the credit at index `i`. -/
def Tick (c : Dev nD) (s : DmaSem sig) (i : ℕ) : sProp 𝕄 :=
  iprop(atPos ER (dCell c s) 0 ∅ 0 ∗ cred (tallyAt (dCell c s) i (amt s)))

/-- An own cell after its round. -/
abbrev Done (c : Dev nD) (s : DmaSem sig) : sProp 𝕄 := atPos ER (dCell c s) 1 ∅ 0

/-- A wait for a copy: what the cell's payer handed over arrives. -/
theorem wp_wait_cell (s : DmaSem sig) (hs : 4 ≤ s.val) (i : ℕ) (hi : i < 10) (l : List (Pay nD τ sig)) (hl : AboveL i l)
    {sp sp' : Space} {s1 s2 : Shape} {e1 e2 : EltTy} {src : Memref sig .tc sp' s1 e1} {dst : Memref sig .tc sp s2 e2} {hsrc : src.view.WordExact} {hdst : dst.view.WordExact}
    (hN : dst.view.dmaCredit = amt s) {k : PUnit → Prog (TpuEff nD τ sig (Elt F) Λ₀ .tc) α} {Q : α → sProp 𝕄} :
    iprop(Invs I κ ∗ Lev ∗ Tick c s i ∗ Owe c l)
      ⊢ iprop(((Owe c l ∗ Done c s ∗ dPay I c s) -∗ wp frame (wpE defs₀ Variants.none (c : Thread nD τ) none) Set.univ (k ⟨⟩) Q)
          -∗ wp frame (wpE defs₀ Variants.none (c : Thread nD τ) none) Set.univ (.op (.waitDma2 s src dst hsrc hdst) k) Q) := by
  unfold Owe Tick
  iintro ⟨#HI, #Hlev, ⟨Hat, Hc⟩, %W, HO⟩ Hk
  iapply (Rounds.wp_wait_rest_token Variants.none ER (Rd I) (c : Thread nD τ) none (κ := κ (dCell c s))
      (wpE_waitDma2_eq (src := src) (dst := dst) (hsrc := hsrc) (hdst := hdst) Variants.none (c : Thread nD τ) none Set.univ) (Set.mem_univ _) i (O := tallyL l) (W := W) (R := 0) (m := 0) (T := ∅)
      ((Nat.zero_add _).trans (hN.trans (expect_d I c s).symm))) $$ [Hc HO Hat]
  · isplitr; · iapply (inv_d I κ c s hs); iexact HI
    isplitl [Hc]; · rw [hN]; iexact Hc
    isplitl [HO]; · iexact HO
    isplitr; · iapply (mayWait i hi c (.dma s) l hl); iexact Hlev
    iexact Hat
  iintro ⟨HO, Hat, -, Hpay⟩
  ihave Hp := (Entails.of_eq (rest_d I c s)) $$ Hpay
  iapply Hk
  isplitl [HO]; · iexists _; iexact HO
  isplitl [Hat]; · iexact Hat
  iexact Hp

/-- A copy to another device: the own send cell is to hand the source back, the other device's receive cell the rows copied. -/
theorem wp_send_cell (d : Dev nD) (sS sR : DmaSem sig) (hS : 4 ≤ sS.val) (hR : 4 ≤ sR.val) (i : ℕ) (l : List (Pay nD τ sig))
    {sp sp' : Space} {s1 : Shape} {e1 : EltTy} {src : Memref sig .tc sp s1 e1} {dst : Memref sig (Dev.tc d : Thread nD τ).2.kind sp' s1 e1}
    {hsc : dst.view.ref.isScScratch = false} {hsrc : src.view.WordExact} {hdst : dst.view.WordExact} {hsem : DmaTarget.Typed (nD := nD) (p := (c : Thread nD τ).2) sp (.dma sR) (.remote (Dev.tc d : Thread nD τ) dst (.dma sS) hsc)}
    (N : ℕ) (hN : dst.view.dmaCredit = N) (hNS : amt sS = N) (hNR : amt sR = N) {q : PosShare TreeShare} {fs : Buf (Elt F) (src.view.loc (c : Thread nD τ))}
    (hp1 : (src.view.loc (c : Thread nD τ) ↦[src.view.set]{q} fs : sProp 𝕄) ⊢ dPay I c sS)
    (hp2 : ∀ fd : Buf (Elt F) (dst.view.loc (d : Thread nD τ)),
      (dst.view.loc (d : Thread nD τ) ↦[dst.view.set]{fullShare} (dst.view.write (Elt F) fd (src.view.read (Elt F) fs) Finset.univ) : sProp 𝕄) ⊢ dPay I d sR)
    {k : PUnit → Prog (TpuEff nD τ sig (Elt F) Λ₀ .tc) α} {Q : α → sProp 𝕄} :
    iprop(Invs I κ ∗ (src.view.loc (c : Thread nD τ) ↦[src.view.set]{q} fs)
        ∗ (∃ fd : Buf (Elt F) (dst.view.loc (d : Thread nD τ)), dst.view.loc (d : Thread nD τ) ↦[dst.view.set]{fullShare} fd)
        ∗ Owe c ((dCell d sR, i, N) :: l) ∗ dutyTok ER (dCell c sS) 0 0 ∗ reached ER (dCell c sS) 0 ∗ dutyTok ER (dCell d sR) 0 0 ∗ reached ER (dCell d sR) 0
        ∗ atPos ER (dCell c sS) 0 ∅ 0)
      ⊢ iprop(((Tick c sS 0 ∗ Owe c l) -∗ wp frame (wpE defs₀ Variants.none (c : Thread nD τ) none) Set.univ (k ⟨⟩) Q)
          -∗ wp frame (wpE defs₀ Variants.none (c : Thread nD τ) none) Set.univ (.op (.enqueueDma src (.remote (Dev.tc d) dst (.dma sS) hsc) (.dma sR) hsrc hdst hsem) k) Q) := by
  unfold Owe Tick
  iintro ⟨#HI, Hs, ⟨%fd, Hd⟩, ⟨%W, HO⟩, HtS, HrS, HtR, HrR, Hat⟩ Hk
  iapply (Rounds.wp_send_pointsTo Variants.none ER (Rd I) (c : Thread nD τ) none (c' := (d : Thread nD τ)) (src := src) (dst := dst)
      (sS := .dma sS) (sem := .dma sR) (q := q) (fs := fs) (κ₁ := κ (dCell c sS)) (κ₂ := κ (dCell d sR))
      (r₁ := 0) (r₂ := 0) (d₁ := 0) (d₂ := 0) (fd := fd)
      (by rw [duties_d]; exact Finset.mem_singleton_self _) (by rw [duties_d]; exact Finset.mem_singleton_self _)
      i 0 N hN hNS hNR (tallyL l) (add_comm _ _) (W := W)
      hp1 (hp2 fd)) $$ [Hs Hd HO HtS HrS HtR HrR]
  · isplitr; · iapply (inv_d I κ c sS hS); iexact HI
    isplitr; · iapply (inv_d I κ d sR hR); iexact HI
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitl [Hc Hat]
  · isplitl [Hat]; · iexact Hat
    rw [hNS]; iexact Hc
  iexists _; iexact HO

/-- A local copy of a whole buffer. -/
theorem wp_copy_cell (s : DmaSem sig) (hs : 4 ≤ s.val)
    {sp sp' : Space} {s1 : Shape} {e1 : EltTy} {src : Memref sig .tc sp s1 e1} {dst : Memref sig .tc sp' s1 e1}
    {hsrc : src.view.WordExact} {hdst : dst.view.WordExact} {hsem : DmaTarget.Typed (nD := nD) (p := (c : Thread nD τ).2) sp (.dma s) (.here dst)}
    (hN : dst.view.dmaCredit = amt s) {fs : Buf (Elt F) (src.view.loc (c : Thread nD τ))} {fd : Buf (Elt F) (dst.view.loc (c : Thread nD τ))}
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ dPay I c s)
    {k : PUnit → Prog (TpuEff nD τ sig (Elt F) Λ₀ .tc) α} {Q : α → sProp 𝕄} :
    iprop(Invs I κ ∗ (src.view.loc (c : Thread nD τ) ↦[src.view.set]{fullShare} fs)
        ∗ (dst.view.loc (c : Thread nD τ) ↦[dst.view.set]{fullShare} fd)
        ∗ dutyTok ER (dCell c s) 0 0 ∗ reached ER (dCell c s) 0 ∗ atPos ER (dCell c s) 0 ∅ 0)
      ⊢ iprop((Tick c s 0 -∗ wp frame (wpE defs₀ Variants.none (c : Thread nD τ) none) Set.univ (k ⟨⟩) Q)
          -∗ wp frame (wpE defs₀ Variants.none (c : Thread nD τ) none) Set.univ (.op (.enqueueDma src (.here dst) (.dma s) hsrc hdst hsem) k) Q) := by
  unfold Tick
  iintro ⟨#HI, Hs, Hd, HtS, HrS, Hat⟩ Hk
  iapply (Rounds.wp_copy_pointsTo Variants.none ER (Rd I) (c : Thread nD τ) none (src := src) (dst := dst) (sem := .dma s) (q := fullShare)
      (fs := fs) (fd := fd) (r := 0) (d := 0) (κ := κ (dCell c s))
      (by rw [duties_d]; exact Finset.mem_singleton_self _) 0 (amt s) hN rfl hpay) $$ [Hs Hd HtS HrS]
  · isplitr; · iapply (inv_d I κ c s hs); iexact HI
    isplitl [Hs]; · iexact Hs
    isplitl [Hd]; · iexact Hd
    isplitl [HtS]; · iexact HtS
    iexact HrS
  iintro Hc
  iapply Hk
  isplitl [Hat]; · iexact Hat
  iexact Hc

/-- A signal to the neighbour of step `k`: its barrier cell is to hand over the rows it writes. -/
theorem wp_signal_cell (k : Fin 4) (l : List (Pay nD τ sig)) {K : PUnit → Prog (TpuEff nD τ sig (Elt F) Λ₀ .tc) α} {Q : α → sProp 𝕄} :
    iprop(Invs I κ ∗ Owe c (pB k c :: l) ∗ dutyTok ER (barCell (nb k c)) 0 k ∗ reached ER (barCell (nb k c)) 0
        ∗ (∃ f, rcvP (F := F) c k f) ∗ (∃ f, agP (F := F) c (reg k.succ (nb k c)) fullShare f)
        ∗ reached ER (dCell c (rsR k)) 0 ∗ reached ER (dCell c (agR k)) 0)
      ⊢ iprop((Owe c l -∗ wp frame (wpE defs₀ Variants.none (c : Thread nD τ) none) Set.univ (K ⟨⟩) Q)
          -∗ wp frame (wpE defs₀ Variants.none (c : Thread nD τ) none) Set.univ (.op (.semSignal (Dev.tc (nb k c)) barS 1) K) Q) := by
  unfold Owe
  iintro ⟨#HI, ⟨%W, HO⟩, Ht, Hr, Hv, Hg, Hr1, Hr2⟩ Hk
  iapply (Rounds.wp_signal Variants.none ER (Rd I) (c : Thread nD τ) none (dst := (nb k c : Thread nD τ)) (sem := barS) (r := 0) (d := k) (κ := κ (barCell (nb k c)))
      (by rw [duties_bar]; exact Finset.mem_univ _) rfl 1 (tallyL l) (add_comm _ _) (W := W))
    $$ [HO Ht Hr Hv Hg Hr1 Hr2]
  · isplitr; · iapply (inv_bar I κ (nb k c)); iexact HI
    isplitl [HO]; · iexact HO
    isplitl [Ht]; · iexact Ht
    isplitl [Hv Hg Hr1 Hr2]
    · rw [show (Rd I).payload (barCell (nb k c)) 0 k = barPay (nb k c) k from rfl]
      unfold barPay; rw [nb_nb]
      isplitl [Hv]; · iexact Hv
      isplitl [Hg]; · iexact Hg
      isplitl [Hr1]; · iexact Hr1
      iexact Hr2
    · iexact Hr
  iintro HO
  iapply Hk
  iexists _; iexact HO

/-- The wait on the own barrier cell: all four neighbours' rows arrive. -/
theorem wp_barrier (l : List (Pay nD τ sig)) (hl : AboveL 1 l) {K : PUnit → Prog (TpuEff nD τ sig (Elt F) Λ₀ .tc) α} {Q : α → sProp 𝕄} :
    iprop(Invs I κ ∗ Lev ∗ cred (tallyAt (barCell c) 1 4) ∗ atPos ER (barCell c) 0 ∅ 0 ∗ Owe c l)
      ⊢ iprop(((Owe c l ∗ atPos ER (barCell c) 1 ∅ 0 ∗ barPay c 0 ∗ barPay c 1 ∗ barPay c 2 ∗ barPay c 3)
            -∗ wp frame (wpE defs₀ Variants.none (c : Thread nD τ) none) Set.univ (K ⟨⟩) Q)
          -∗ wp frame (wpE defs₀ Variants.none (c : Thread nD τ) none) Set.univ (.op (.semWait barS 4) K) Q) := by
  unfold Owe
  iintro ⟨#HI, #Hlev, Hc, Hat, %W, HO⟩ Hk
  iapply (Rounds.wp_wait_rest_token Variants.none ER (Rd I) (c : Thread nD τ) none (κ := κ (barCell c))
      (wpE_semWait_eq Variants.none (c : Thread nD τ) none Set.univ) (Set.mem_univ _) 1 (O := tallyL l) (W := W) (R := 0) (m := 0) (T := ∅)
      ((Nat.zero_add _).trans (expect_bar I c).symm)) $$ [Hc HO Hat]
  · isplitr; · iapply (inv_bar I κ c); iexact HI
    isplitl [Hc]; · iexact Hc
    isplitl [HO]; · iexact HO
    isplitr; · iapply (mayWait 1 (by decide) c (.reg barS) l hl); iexact Hlev
    iexact Hat
  iintro ⟨HO, Hat, -, Hpay⟩
  ihave Hp := (Entails.of_eq (rest_bar I c)) $$ Hpay
  iapply Hk
  isplitl [HO]; · iexists _; iexact HO
  isplitl [Hat]; · iexact Hat
  iexact Hp

/-- A step of the program in front of the rest of it. -/
theorem wp_then {β : Type} {P R : sProp 𝕄} {p : Prog (TpuEff nD τ sig (Elt F) Λ₀ .tc) β} {k : β → Prog (TpuEff nD τ sig (Elt F) Λ₀ .tc) α} {S : β → sProp 𝕄} {Q : α → sProp 𝕄}
    (h : P ⊢ wp frame (wpE defs₀ Variants.none (c : Thread nD τ) none) Set.univ p S)
    (hk : ∀ r, iprop(S r ∗ R) ⊢ wp frame (wpE defs₀ Variants.none (c : Thread nD τ) none) Set.univ (k r) Q) :
    iprop(P ∗ R) ⊢ wp frame (wpE defs₀ Variants.none (c : Thread nD τ) none) Set.univ (p >>= k) Q := by
  rw [wp_bind]
  exact (sep_mono_left h).trans ((wp_frame_r _ _ _).trans (wp_mono _ _ _ hk))

end Cert.KernelIdeal.Proof

end
-- ==== Proof.Talk1.lean ====
module

public import proofs.«01_k».proof.Proof.Steps

@[expose] public section

/-! # The entry of the kernel

The local copies of the keys and values, the barrier with the four neighbours, and the first rows on their way. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.Tactic
open Cert.KernelIdeal Cert.KernelIdeal.Gen

variable {F : FTy → Type} [FloatOps F]

local notation "𝕄" => MT nD τ sig ℕ (Elt F) ℕ UU ℕ

variable (I : Dev nD → Inp F) (κ : GSem nD τ sig → ℕ) (c : Dev nD)

/-- What the signal to the neighbour of step `k` hands over. -/
def BarTok (c : Dev nD) (k : Fin 4) : sProp 𝕄 :=
  iprop(dutyTok ER (barCell (nb k c)) 0 k ∗ reached ER (barCell (nb k c)) 0
        ∗ (∃ f, rcvP (F := F) c k f) ∗ (∃ f, agP (F := F) c (reg k.succ (nb k c)) fullShare f)
        ∗ reached ER (dCell c (rsR k)) 0 ∗ reached ER (dCell c (agR k)) 0)

/-- The right to pay an own cell, and its position. -/
def LocTok (c : Dev nD) (s : DmaSem sig) : sProp 𝕄 :=
  iprop(dutyTok ER (dCell c s) 0 0 ∗ reached ER (dCell c s) 0 ∗ atPos ER (dCell c s) 0 ∅ 0)

theorem above_R {i : ℕ} {c : Dev nD} (k : Fin 4) {l : List (Pay nD τ sig)} (h : i < 2 + k.val) (hl : AboveL i l) : AboveL i (pR k c :: l) :=
  aboveL_cons rfl h (show 2 + k.val < 10 by omega) hl
theorem above_G {i : ℕ} {c : Dev nD} (k : Fin 4) {l : List (Pay nD τ sig)} (h : i < 9 - k.val) (hl : AboveL i l) : AboveL i (pG k c :: l) :=
  aboveL_cons rfl h (show 9 - k.val < 10 by omega) hl

/-- All that is owed after the barrier lies above index 1. -/
theorem owe_bar (c : Dev nD) : AboveL 1 ([pR 0 c, pR 1 c, pR 2 c, pR 3 c, pG 3 c, pG 2 c, pG 1 c, pG 0 c] : List (Pay nD τ sig)) :=
  above_R 0 (by decide) (above_R 1 (by decide) (above_R 2 (by decide) (above_R 3 (by decide)
    (above_G 3 (by decide) (above_G 2 (by decide) (above_G 1 (by decide) (above_G 0 (by decide) (aboveL_nil _))))))))
/-- And above index 0. -/
theorem owe_bar0 (c : Dev nD) : AboveL 0 ([pR 0 c, pR 1 c, pR 2 c, pR 3 c, pG 3 c, pG 2 c, pG 1 c, pG 0 c] : List (Pay nD τ sig)) :=
  above_R 0 (by decide) (above_R 1 (by decide) (above_R 2 (by decide) (above_R 3 (by decide)
    (above_G 3 (by decide) (above_G 2 (by decide) (above_G 1 (by decide) (above_G 0 (by decide) (aboveL_nil _))))))))

/-- The program's entry: the keys and values are in VMEM, and the neighbours' buffers may be written. -/
theorem part1 :
    iprop(Invs I κ ∗ Lev ∗ Owe c (dueL c) ∗ BarTok c 0 ∗ BarTok c 1 ∗ BarTok c 2 ∗ BarTok c 3
        ∗ cred (tallyAt (barCell c) 1 4) ∗ atPos ER (barCell c) 0 ∅ 0 ∗ LocTok c 4 ∗ LocTok c 5
        ∗ whole' c khM (I c).k ∗ whole' c vhM (I c).v ∗ (∃ f, whole' c kM f) ∗ (∃ f, whole' c vM f))
      ⊢ (wp frame (wpE defs₀ Variants.none (c : Thread nD τ) none) Set.univ (onBufs (k0_part1 (F := F)))
        (fun r => iprop(⌜∃ w, r = ⟨c, w, iota .tc S512x512 32 [0] iota_S512x512_d0_w32, 64#32⟩⌝
          ∗ Owe c [pR 0 c, pR 1 c, pR 2 c, pR 3 c, pG 3 c, pG 2 c, pG 1 c, pG 0 c]
          ∗ atPos ER (barCell c) 1 ∅ 0 ∗ barPay c 0 ∗ barPay c 1 ∗ barPay c 2 ∗ barPay c 3 ∗ Done c 4 ∗ Done c 5
          ∗ whole' c khM (I c).k ∗ whole' c vhM (I c).v ∗ whole' c kM (I c).k ∗ whole' c vM (I c).v)) : sProp 𝕄) := by
  simp only [onBufs, k0_part1_eq_skeleton, k0_part1_skel]
  simp only [semSignalWord, semWaitWord, Prog.lift, Prog.bind_op, Prog.bind_ret, Prog.pure_eq_ret, wp_deviceId]
  simp only [dev1_eq, dev2_eq, dev3_eq, dev4_eq]
  unfold BarTok LocTok
  iintro ⟨#HI, #Hlev, HO, ⟨Ht0, Hb0, Hv0, Hg0, Hr0, Hq0⟩, ⟨Ht1, Hb1, Hv1, Hg1, Hr1, Hq1⟩, ⟨Ht2, Hb2, Hv2, Hg2, Hr2, Hq2⟩, ⟨Ht3, Hb3, Hv3, Hg3, Hr3, Hq3⟩,
    HcB, HatB, ⟨Ht4, Hr4, Hat4⟩, ⟨Ht5, Hr5, Hat5⟩, Hkh, Hvh, ⟨%fk, Hk⟩, ⟨%fv, Hv⟩⟩
  iapply (wp_copy_cell I κ c 4 (by decide) (src := khM) (dst := kM) rfl (fs := (I c).k) (fd := fk)
    (by rw [View.set_whole, View.set_whole, View.read_whole, View.write_whole_univ]; exact .rfl)) $$ [Hkh Hk Ht4 Hr4 Hat4]
  · isplitr; · iexact HI
    isplitl [Hkh]; · rw [View.set_whole]; iexact Hkh
    isplitl [Hk]; · rw [View.set_whole]; iexact Hk
    isplitl [Ht4]; · iexact Ht4
    isplitl [Hr4]; · iexact Hr4
    iexact Hat4
  iintro Hk4
  iapply (wp_copy_cell I κ c 5 (by decide) (src := vhM) (dst := vM) rfl (fs := (I c).v) (fd := fv)
    (by rw [View.set_whole, View.set_whole, View.read_whole, View.write_whole_univ]; exact .rfl)) $$ [Hvh Hv Ht5 Hr5 Hat5]
  · isplitr; · iexact HI
    isplitl [Hvh]; · rw [View.set_whole]; iexact Hvh
    isplitl [Hv]; · rw [View.set_whole]; iexact Hv
    isplitl [Ht5]; · iexact Ht5
    isplitl [Hr5]; · iexact Hr5
    iexact Hat5
  iintro Hk5
  iapply (wp_signal_cell I κ c 0 [pB 1 c, pB 2 c, pB 3 c, pR 0 c, pR 1 c, pR 2 c, pR 3 c, pG 3 c, pG 2 c, pG 1 c, pG 0 c]) $$ [HO Ht0 Hb0 Hv0 Hg0 Hr0 Hq0]
  · isplitr; · iexact HI
    isplitl [HO]; · iexact HO
    isplitl [Ht0]; · iexact Ht0
    isplitl [Hb0]; · iexact Hb0
    isplitl [Hv0]; · iexact Hv0
    isplitl [Hg0]; · iexact Hg0
    isplitl [Hr0]; · iexact Hr0
    iexact Hq0
  iintro HO
  iapply (wp_signal_cell I κ c 1 [pB 2 c, pB 3 c, pR 0 c, pR 1 c, pR 2 c, pR 3 c, pG 3 c, pG 2 c, pG 1 c, pG 0 c]) $$ [HO Ht1 Hb1 Hv1 Hg1 Hr1 Hq1]
  · isplitr; · iexact HI
    isplitl [HO]; · iexact HO
    isplitl [Ht1]; · iexact Ht1
    isplitl [Hb1]; · iexact Hb1
    isplitl [Hv1]; · iexact Hv1
    isplitl [Hg1]; · iexact Hg1
    isplitl [Hr1]; · iexact Hr1
    iexact Hq1
  iintro HO
  iapply (wp_signal_cell I κ c 2 [pB 3 c, pR 0 c, pR 1 c, pR 2 c, pR 3 c, pG 3 c, pG 2 c, pG 1 c, pG 0 c]) $$ [HO Ht2 Hb2 Hv2 Hg2 Hr2 Hq2]
  · isplitr; · iexact HI
    isplitl [HO]; · iexact HO
    isplitl [Ht2]; · iexact Ht2
    isplitl [Hb2]; · iexact Hb2
    isplitl [Hv2]; · iexact Hv2
    isplitl [Hg2]; · iexact Hg2
    isplitl [Hr2]; · iexact Hr2
    iexact Hq2
  iintro HO
  iapply (wp_signal_cell I κ c 3 [pR 0 c, pR 1 c, pR 2 c, pR 3 c, pG 3 c, pG 2 c, pG 1 c, pG 0 c]) $$ [HO Ht3 Hb3 Hv3 Hg3 Hr3 Hq3]
  · isplitr; · iexact HI
    isplitl [HO]; · iexact HO
    isplitl [Ht3]; · iexact Ht3
    isplitl [Hb3]; · iexact Hb3
    isplitl [Hv3]; · iexact Hv3
    isplitl [Hg3]; · iexact Hg3
    isplitl [Hr3]; · iexact Hr3
    iexact Hq3
  iintro HO
  iapply (wp_wait_cell I κ c 4 (by decide) 0 (by decide) [pR 0 c, pR 1 c, pR 2 c, pR 3 c, pG 3 c, pG 2 c, pG 1 c, pG 0 c] (owe_bar0 c) (src := khM) (dst := kM) rfl) $$ [HO Hk4]
  · isplitr; · iexact HI
    isplitr; · iexact Hlev
    isplitl [Hk4]; · iexact Hk4
    iexact HO
  iintro ⟨HO, Hd4, Hp4⟩
  iapply (wp_wait_cell I κ c 5 (by decide) 0 (by decide) [pR 0 c, pR 1 c, pR 2 c, pR 3 c, pG 3 c, pG 2 c, pG 1 c, pG 0 c] (owe_bar0 c) (src := vhM) (dst := vM) rfl) $$ [HO Hk5]
  · isplitr; · iexact HI
    isplitr; · iexact Hlev
    isplitl [Hk5]; · iexact Hk5
    iexact HO
  iintro ⟨HO, Hd5, Hp5⟩
  iapply (wp_barrier I κ c [pR 0 c, pR 1 c, pR 2 c, pR 3 c, pG 3 c, pG 2 c, pG 1 c, pG 0 c] (owe_bar c)) $$ [HO HcB HatB]
  · isplitr; · iexact HI
    isplitr; · iexact Hlev
    isplitl [HcB]; · iexact HcB
    isplitl [HatB]; · iexact HatB
    iexact HO
  iintro ⟨HO, HatB, HB0, HB1, HB2, HB3⟩
  rw [wp_ret]
  imodintro
  isplitr; · ipureintro; exact ⟨_, rfl⟩
  isplitl [HO]; · iexact HO
  isplitl [HatB]; · iexact HatB
  isplitl [HB0]; · iexact HB0
  isplitl [HB1]; · iexact HB1
  isplitl [HB2]; · iexact HB2
  isplitl [HB3]; · iexact HB3
  isplitl [Hd4]; · iexact Hd4
  isplitl [Hd5]; · iexact Hd5
  ihave H4 := (Entails.of_eq (show dPay I c 4 = iprop(whole' c kM (I c).k ∗ whole' c khM (I c).k) from rfl)) $$ Hp4
  ihave H5 := (Entails.of_eq (show dPay I c 5 = iprop(whole' c vM (I c).v ∗ whole' c vhM (I c).v) from rfl)) $$ Hp5
  icases H4 with ⟨Hk, Hkh⟩
  icases H5 with ⟨Hv, Hvh⟩
  isplitl [Hkh]; · iexact Hkh
  isplitl [Hvh]; · iexact Hvh
  isplitl [Hk]; · iexact Hk
  iexact Hv

end Cert.KernelIdeal.Proof

end
-- ==== Proof.Rows.lean ====
module

public import proofs.«01_k».proof.Proof.Talk1

@[expose] public section

/-! # Steps on rows of the buffers

Loads, stores and copies of the rows of one step, stated for any step. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.Tactic
open Cert.KernelIdeal Cert.KernelIdeal.Gen

variable {F : FTy → Type} [FloatOps F]

local notation "𝕄" => MT nD τ sig ℕ (Elt F) ℕ UU ℕ

variable (I : Dev nD → Inp F) (κ : GSem nD τ sig → ℕ) (c : Dev nD) {α : Type}

/-- A run of a program of device `c`. -/
local notation "WP" => wp frame (wpE defs₀ Variants.none (c : Thread nD τ) none) Set.univ

theorem dPay_rsR (k : Fin 4) : dPay I c (rsR k) = rcvP c k (recvd I c) := by fin_cases k <;> rfl
theorem dPay_rsS (k : Fin 4) : dPay I c (rsS k) = sndP c k (sent I c) := by fin_cases k <;> rfl
theorem dPay_agR (k : Fin 4) : dPay I c (agR k) = agP c (reg k.succ (nb k c)) fullShare (G I) := by fin_cases k <;> rfl
theorem dPay_agS (k : Fin 4) : dPay I c (agS k) = agP c (reg k.succ c) (sh k) (G I) := by fin_cases k <;> rfl
theorem amt_rsR (k : Fin 4) : amt (rsR k) = nk k := by fin_cases k <;> rfl
theorem amt_rsS (k : Fin 4) : amt (rsS k) = nk k := by fin_cases k <;> rfl
theorem amt_agR (k : Fin 4) : amt (agR k) = nk k := by fin_cases k <;> rfl
theorem amt_agS (k : Fin 4) : amt (agS k) = nk k := by fin_cases k <;> rfl
theorem own_rsR (k : Fin 4) : 4 ≤ (rsR k).val := by revert k; decide
theorem own_rsS (k : Fin 4) : 4 ≤ (rsS k).val := by revert k; decide
theorem own_agR (k : Fin 4) : 4 ≤ (agR k).val := by revert k; decide
theorem own_agS (k : Fin 4) : 4 ≤ (agS k).val := by revert k; decide

section Snd

variable (k : Fin 4) {off sz : Fin 2 → ℕ} (inb : ∀ x, off x + sz x ≤ S960x768.size x) (ho : off = ![roff k, 0]) (hs : sz = ![len k, 768])
include ho hs

/-- Loading rows of the staging whose contents don't matter. -/
theorem wp_snd_load {hl : sndM.view.LoadsAt (Rect.unit (s := S960x768) off sz inb).toLoadRect} {K : _ → Prog (TpuEff nD τ sig (Elt F) Λ₀ .tc) α} {Q : α → sProp 𝕄} :
    (iprop(∃ f, sndP (F := F) c k f))
      ⊢ iprop((∀ v, (∃ f, sndP (F := F) c k f) -∗ WP (K v) Q) -∗ WP (.op (.load sndM (Rect.unit (s := S960x768) off sz inb).toLoadRect hl) K) Q) := by
  iintro ⟨%f, Hs⟩ Hk
  iapply (wp_load_rect Variants.none (c : Thread nD τ) none Set.univ (m := sndM) (r := (Rect.unit (s := S960x768) off sz inb)) (f := f) (S := rg 960 (roff k) (len k))
    (by
      rw [show View.set _ = (Rect.unit off sz inb).set from View.set_slice_whole _ _, set_unit inb ho hs])) $$ [Hs]
  · iexact Hs
  iintro Hs
  iapply Hk
  iexists f; iexact Hs

/-- Storing the rows to send. -/
theorem wp_snd_store {w : (Rect.unit (s := S960x768) off sz inb).shape.Idx → Elt F .bf16} {hx : (sndM.access (Rect.unit (s := S960x768) off sz inb)).Stores Finset.univ} {hm}
    (hw : ∀ j q, (j (1 : Fin 2)).val = q.val → w j = truncf .bf16 (A I k.val c) bitsLt_bf16_f32 (at' (lo k (nb k c) + (j (0 : Fin 2)).val) q))
    {K : _ → Prog (TpuEff nD τ sig (Elt F) Λ₀ .tc) α} {Q : α → sProp 𝕄} :
    (iprop(∃ f, sndP (F := F) c k f))
      ⊢ iprop((sndP c k (sent I c) -∗ WP (K ⟨⟩) Q) -∗ WP (.op (.store sndM (Rect.unit (s := S960x768) off sz inb) w Finset.univ hx hm) K) Q) := by
  iintro ⟨%f, Hs⟩ Hk
  iapply (wp_store Variants.none (c : Thread nD τ) none Set.univ (m := sndM) (r := (Rect.unit (s := S960x768) off sz inb)) (f := f) (S := rg 960 (roff k) (len k))
    (by
      show (sndM.access (Rect.unit (s := S960x768) off sz inb)).set ⊆ _
      rw [show (sndM.access (Rect.unit (s := S960x768) off sz inb)).set = (Rect.unit (s := S960x768) off sz inb).set from View.set_slice_whole _ _, set_unit inb ho hs])) $$ [Hs]
  · iexact Hs
  iintro Hs
  iapply Hk
  ihave H := (Entails.of_eq (pointsTo_congr (snd_store I c k f inb ho hs w hw))) $$ Hs
  iexact H

/-- Loading the received rows. -/
theorem wp_rcv_load {hl : rcvM.view.LoadsAt (Rect.unit (s := S960x768) off sz inb).toLoadRect} {K : _ → Prog (TpuEff nD τ sig (Elt F) Λ₀ .tc) α} {Q : α → sProp 𝕄} :
    (rcvP c k (recvd I c) : sProp 𝕄)
      ⊢ iprop((rcvP c k (recvd I c) -∗ WP (K (View.readAt (Elt F) rcvM.view (Rect.unit (s := S960x768) off sz inb).toLoadRect (recvd I c))) Q)
        -∗ WP (.op (.load rcvM (Rect.unit (s := S960x768) off sz inb).toLoadRect hl) K) Q) :=
  wp_load_rect Variants.none (c : Thread nD τ) none Set.univ (m := rcvM) (r := (Rect.unit (s := S960x768) off sz inb)) (f := recvd I c) (S := rg 960 (roff k) (len k))
    (by
      rw [show View.set _ = (Rect.unit off sz inb).set from View.set_slice_whole _ _, set_unit inb ho hs])

/-- Sending the rows of step `k` of the reduction. -/
theorem wp_rs_send {d : Dev nD} (hd : d = nb k c) (l : List (Pay nD τ sig)) {h h' : ∀ a, (Rect.unit (s := S960x768) off sz inb).stride a = 1}
    {hsc : (rcvM.slice (Rect.unit (s := S960x768) off sz inb) h).view.ref.isScScratch = false} {hsrc hdst}
    {hsem : DmaTarget.Typed (nD := nD) (p := (c : Thread nD τ).2) Space.vmem (.dma (rsR k)) (.remote (Dev.tc d : Thread nD τ) (rcvM.slice (Rect.unit (s := S960x768) off sz inb) h) (.dma (rsS k)) hsc)}
    (hN : (rcvM.slice (Rect.unit (s := S960x768) off sz inb) h).view.dmaCredit = nk k)
    {K : PUnit → Prog (TpuEff nD τ sig (Elt F) Λ₀ .tc) α} {Q : α → sProp 𝕄} :
    iprop(Invs I κ ∗ sndP c k (sent I c) ∗ (∃ f, rcvP (F := F) (nb k c) k f) ∗ Owe c (pR k c :: l) ∗ LocTok c (rsS k)
        ∗ dutyTok ER (dCell (nb k c) (rsR k)) 0 0 ∗ reached ER (dCell (nb k c) (rsR k)) 0)
      ⊢ iprop(((Tick c (rsS k) 0 ∗ Owe c l) -∗ WP (K ⟨⟩) Q)
        -∗ WP (.op (.enqueueDma (sndM.slice (Rect.unit (s := S960x768) off sz inb) h') (.remote (Dev.tc d) (rcvM.slice (Rect.unit (s := S960x768) off sz inb) h) (.dma (rsS k)) hsc) (.dma (rsR k)) hsrc hdst hsem) K) Q) := by
  subst hd
  have e1 : (sndM.slice (Rect.unit (s := S960x768) off sz inb) h').view.set = rg 960 (roff k) (len k) :=
    (show _ = (Rect.unit (s := S960x768) off sz inb).set from View.set_slice_whole _ _).trans (set_unit inb ho hs)
  have e2 : (rcvM.slice (Rect.unit (s := S960x768) off sz inb) h).view.set = rg 960 (roff k) (len k) :=
    (show _ = (Rect.unit (s := S960x768) off sz inb).set from View.set_slice_whole _ _).trans (set_unit inb ho hs)
  unfold LocTok
  iintro ⟨#HI, Hs, Hd, HO, ⟨HtS, HrS, Hat⟩, HtR, HrR⟩ Hk
  iapply (wp_send_cell I κ c (nb k c) (rsS k) (rsR k) (own_rsS k) (own_rsR k) (2 + k.val) l (nk k) hN (amt_rsS k) (amt_rsR k) (q := fullShare) (fs := sent I c)
    (by rw [e1, dPay_rsS])
    (fun fd => by
      rw [e2, dPay_rsR]
      refine Entails.of_eq (pointsTo_congr fun i hi => ?_)
      rw [recvd_row I (nb k c) k i hi, nb_nb]
      exact land_rs fd (sent I c) inb ho hs i hi)) $$ [Hs Hd HO HtS HrS HtR HrR Hat]
  · isplitr; · iexact HI
    isplitl [Hs]; · rw [e1]; iexact Hs
    isplitl [Hd]; · rw [e2]; iexact Hd
    isplitl [HO]; · iexact HO
    isplitl [HtS]; · iexact HtS
    isplitl [HrS]; · iexact HrS
    isplitl [HtR]; · iexact HtR
    isplitl [HrR]; · iexact HrR
    iexact Hat
  iexact Hk

end Snd

/-- The wait for the rows of step `k` of the reduction. -/
theorem wp_rs_wait (k : Fin 4) (l : List (Pay nD τ sig)) (hl : AboveL (2 + k.val) l)
    {sp sp' : Space} {s1 s2 : Shape} {e1 e2 : EltTy} {src : Memref sig .tc sp' s1 e1} {dst : Memref sig .tc sp s2 e2} {hsrc : src.view.WordExact} {hdst : dst.view.WordExact}
    (hN : dst.view.dmaCredit = nk k) {K : PUnit → Prog (TpuEff nD τ sig (Elt F) Λ₀ .tc) α} {Q : α → sProp 𝕄} :
    iprop(Invs I κ ∗ Lev ∗ Tick c (rsR k) (2 + k.val) ∗ Owe c l)
      ⊢ iprop(((Owe c l ∗ Done c (rsR k) ∗ rcvP c k (recvd I c)) -∗ WP (K ⟨⟩) Q) -∗ WP (.op (.waitDma2 (rsR k) src dst hsrc hdst) K) Q) := by
  rw [← dPay_rsR]
  exact wp_wait_cell I κ c (rsR k) (own_rsR k) (2 + k.val) (by omega) l hl (hN.trans (amt_rsR k).symm)

/-- The wait for the staging of step `k` to be free. -/
theorem wp_rs_free (k : Fin 4) {sp sp' : Space} {s1 s2 : Shape} {e1 e2 : EltTy} {src : Memref sig .tc sp' s1 e1} {dst : Memref sig .tc sp s2 e2} {hsrc : src.view.WordExact} {hdst : dst.view.WordExact}
    (hN : dst.view.dmaCredit = nk k) {K : PUnit → Prog (TpuEff nD τ sig (Elt F) Λ₀ .tc) α} {Q : α → sProp 𝕄} :
    iprop(Invs I κ ∗ Lev ∗ Tick c (rsS k) 0 ∗ Owe c [])
      ⊢ iprop(((Owe c [] ∗ Done c (rsS k) ∗ sndP c k (sent I c)) -∗ WP (K ⟨⟩) Q) -∗ WP (.op (.waitDma2 (rsS k) src dst hsrc hdst) K) Q) := by
  rw [← dPay_rsS]
  exact wp_wait_cell I κ c (rsS k) (own_rsS k) 0 (by omega) [] (aboveL_nil _) (hN.trans (amt_rsS k).symm)

/-- The wait for the rows of step `k` of the all-gather. -/
theorem wp_ag_wait (k : Fin 4) (l : List (Pay nD τ sig)) (hl : AboveL (9 - k.val) l)
    {sp sp' : Space} {s1 s2 : Shape} {e1 e2 : EltTy} {src : Memref sig .tc sp' s1 e1} {dst : Memref sig .tc sp s2 e2} {hsrc : src.view.WordExact} {hdst : dst.view.WordExact}
    (hN : dst.view.dmaCredit = nk k) {K : PUnit → Prog (TpuEff nD τ sig (Elt F) Λ₀ .tc) α} {Q : α → sProp 𝕄} :
    iprop(Invs I κ ∗ Lev ∗ Tick c (agR k) (9 - k.val) ∗ Owe c l)
      ⊢ iprop(((Owe c l ∗ Done c (agR k) ∗ agP c (reg k.succ (nb k c)) fullShare (G I)) -∗ WP (K ⟨⟩) Q) -∗ WP (.op (.waitDma2 (agR k) src dst hsrc hdst) K) Q) := by
  rw [← dPay_agR]
  exact wp_wait_cell I κ c (agR k) (own_agR k) (9 - k.val) (by omega) l hl (hN.trans (amt_agR k).symm)

/-- The wait for the rows lent in step `k` of the all-gather. -/
theorem wp_ag_free (k : Fin 4) {sp sp' : Space} {s1 s2 : Shape} {e1 e2 : EltTy} {src : Memref sig .tc sp' s1 e1} {dst : Memref sig .tc sp s2 e2} {hsrc : src.view.WordExact} {hdst : dst.view.WordExact}
    (hN : dst.view.dmaCredit = nk k) {K : PUnit → Prog (TpuEff nD τ sig (Elt F) Λ₀ .tc) α} {Q : α → sProp 𝕄} :
    iprop(Invs I κ ∗ Lev ∗ Tick c (agS k) 0 ∗ Owe c [])
      ⊢ iprop(((Owe c [] ∗ Done c (agS k) ∗ agP c (reg k.succ c) (sh k) (G I)) -∗ WP (K ⟨⟩) Q) -∗ WP (.op (.waitDma2 (agS k) src dst hsrc hdst) K) Q) := by
  rw [← dPay_agS]
  exact wp_wait_cell I κ c (agS k) (own_agS k) 0 (by omega) [] (aboveL_nil _) (hN.trans (amt_agS k).symm)

section Ag

variable (k : Fin 4) {off sz : Fin 2 → ℕ} (inb : ∀ x, off x + sz x ≤ S1024x768.size x) (ho : off = ![lo k c, 0]) (hs : sz = ![len k, 768])
include ho hs

/-- Sending the rows of step `k` of the all-gather. -/
theorem wp_ag_send {d : Dev nD} (hd : d = nb k c) (l : List (Pay nD τ sig)) {h h' : ∀ a, (Rect.unit (s := S1024x768) off sz inb).stride a = 1}
    {hsc : (agM.slice (Rect.unit (s := S1024x768) off sz inb) h).view.ref.isScScratch = false} {hsrc hdst}
    {hsem : DmaTarget.Typed (nD := nD) (p := (c : Thread nD τ).2) Space.vmem (.dma (agR k)) (.remote (Dev.tc d : Thread nD τ) (agM.slice (Rect.unit (s := S1024x768) off sz inb) h) (.dma (agS k)) hsc)}
    (hN : (agM.slice (Rect.unit (s := S1024x768) off sz inb) h).view.dmaCredit = nk k)
    {K : PUnit → Prog (TpuEff nD τ sig (Elt F) Λ₀ .tc) α} {Q : α → sProp 𝕄} :
    iprop(Invs I κ ∗ agP c (reg k.succ c) (sh k) (G I) ∗ (∃ f, agP (F := F) (nb k c) (reg k.succ c) fullShare f) ∗ Owe c (pG k c :: l) ∗ LocTok c (agS k)
        ∗ dutyTok ER (dCell (nb k c) (agR k)) 0 0 ∗ reached ER (dCell (nb k c) (agR k)) 0)
      ⊢ iprop(((Tick c (agS k) 0 ∗ Owe c l) -∗ WP (K ⟨⟩) Q)
        -∗ WP (.op (.enqueueDma (agM.slice (Rect.unit (s := S1024x768) off sz inb) h') (.remote (Dev.tc d) (agM.slice (Rect.unit (s := S1024x768) off sz inb) h) (.dma (agS k)) hsc) (.dma (agR k)) hsrc hdst hsem) K) Q) := by
  subst hd
  have e1 : (agM.slice (Rect.unit (s := S1024x768) off sz inb) h).view.set = reg k.succ c :=
    ((show _ = (Rect.unit (s := S1024x768) off sz inb).set from View.set_slice_whole _ _).trans (set_unit inb ho hs)).trans (reg_succ k c).symm
  unfold LocTok
  iintro ⟨#HI, Hs, Hd, HO, ⟨HtS, HrS, Hat⟩, HtR, HrR⟩ Hk
  iapply (wp_send_cell I κ c (nb k c) (agS k) (agR k) (own_agS k) (own_agR k) (9 - k.val) l (nk k) hN (amt_agS k) (amt_agR k) (q := sh k) (fs := G I)
    (by rw [e1, dPay_agS])
    (fun fd => by
      rw [e1, dPay_agR, nb_nb]
      refine Entails.of_eq (pointsTo_congr fun i hi => ?_)
      rw [reg_succ] at hi
      exact land_ag fd (G I) inb ho hs i hi)) $$ [Hs Hd HO HtS HrS HtR HrR Hat]
  · isplitr; · iexact HI
    isplitl [Hs]; · rw [e1]; iexact Hs
    isplitl [Hd]; · rw [e1]; iexact Hd
    isplitl [HO]; · iexact HO
    isplitl [HtS]; · iexact HtS
    isplitl [HrS]; · iexact HrS
    isplitl [HtR]; · iexact HtR
    isplitl [HrR]; · iexact HrR
    iexact Hat
  iexact Hk

end Ag

/-- Loading rows of the accumulator. -/
theorem wp_acc_load (f : Vec F S1024x768 .f32) {r : LoadRect S1024x768} {hl : accM.view.LoadsAt r} {K : _ → Prog (TpuEff nD τ sig (Elt F) Λ₀ .tc) α} {Q : α → sProp 𝕄} :
    (whole' c accM f : sProp 𝕄) ⊢ iprop((whole' c accM f -∗ WP (K (View.readAt (Elt F) accM.view r f)) Q) -∗ WP (.op (.load accM r hl) K) Q) :=
  wp_load Variants.none (c : Thread nD τ) none Set.univ (m := accM) (f := f) (S := Finset.univ) (Finset.subset_univ _)

/-- Storing rows of the accumulator. -/
theorem wp_acc_store (f : Vec F S1024x768 .f32) {off sz : Fin 2 → ℕ} (inb : ∀ x, off x + sz x ≤ S1024x768.size x)
    {w : (Rect.unit (s := S1024x768) off sz inb).shape.Idx → Elt F .f32} {hx : (accM.access (Rect.unit (s := S1024x768) off sz inb)).Stores Finset.univ} {hm}
    {K : _ → Prog (TpuEff nD τ sig (Elt F) Λ₀ .tc) α} {Q : α → sProp 𝕄} :
    (whole' c accM f : sProp 𝕄) ⊢ iprop((whole' c accM ((accM.access (Rect.unit (s := S1024x768) off sz inb)).write (Elt F) f w Finset.univ) -∗ WP (K ⟨⟩) Q)
      -∗ WP (.op (.store accM (Rect.unit (s := S1024x768) off sz inb) w Finset.univ hx hm) K) Q) := by
  iintro Hs Hk
  iapply (wp_store Variants.none (c : Thread nD τ) none Set.univ (m := accM) (r := Rect.unit (s := S1024x768) off sz inb) (f := f) (S := (Finset.univ : Finset S1024x768.Idx)) (Finset.subset_univ _)) $$ [Hs]
  · iexact Hs
  iexact Hk

section Own

variable {off sz : Fin 2 → ℕ} (inb : ∀ x, off x + sz x ≤ S1024x768.size x) (ho : off = ![lo 3 c, 0]) (hs : sz = ![64, 768])
include ho hs

/-- Loading the own piece of the all-gather's buffer before it is filled. -/
theorem wp_own_load {hl : agM.view.LoadsAt (Rect.unit (s := S1024x768) off sz inb).toLoadRect} {K : _ → Prog (TpuEff nD τ sig (Elt F) Λ₀ .tc) α} {Q : α → sProp 𝕄} :
    (iprop(∃ f, agP (F := F) c (reg 4 c) fullShare f))
      ⊢ iprop((∀ v, (∃ f, agP (F := F) c (reg 4 c) fullShare f) -∗ WP (K v) Q) -∗ WP (.op (.load agM (Rect.unit (s := S1024x768) off sz inb).toLoadRect hl) K) Q) := by
  iintro ⟨%f, Hs⟩ Hk
  iapply (wp_load_rect Variants.none (c : Thread nD τ) none Set.univ (m := agM) (r := (Rect.unit (s := S1024x768) off sz inb)) (f := f) (S := reg 4 c)
    (by
      rw [show View.set _ = (Rect.unit off sz inb).set from View.set_slice_whole _ _, set_unit inb ho hs]; exact Finset.Subset.refl _)) $$ [Hs]
  · iexact Hs
  iintro Hs
  iapply Hk
  iexists f; iexact Hs

/-- Filling the own piece of the all-gather's buffer. -/
theorem wp_own_store {w : (Rect.unit (s := S1024x768) off sz inb).shape.Idx → Elt F .bf16} {hx : (agM.access (Rect.unit (s := S1024x768) off sz inb)).Stores Finset.univ} {hm}
    (hw : ∀ j i, (i (0 : Fin 2)).val = lo 3 c + (j (0 : Fin 2)).val → (i (1 : Fin 2)).val = (j (1 : Fin 2)).val → w j = truncf .bf16 (A I 4 c) bitsLt_bf16_f32 i)
    {K : _ → Prog (TpuEff nD τ sig (Elt F) Λ₀ .tc) α} {Q : α → sProp 𝕄} :
    (iprop(∃ f, agP (F := F) c (reg 4 c) fullShare f))
      ⊢ iprop((agP c (reg 4 c) fullShare (G I) -∗ WP (K ⟨⟩) Q) -∗ WP (.op (.store agM (Rect.unit (s := S1024x768) off sz inb) w Finset.univ hx hm) K) Q) := by
  iintro ⟨%f, Hs⟩ Hk
  iapply (wp_store Variants.none (c : Thread nD τ) none Set.univ (m := agM) (r := (Rect.unit (s := S1024x768) off sz inb)) (f := f) (S := reg 4 c)
    (by
      show (agM.access (Rect.unit (s := S1024x768) off sz inb)).set ⊆ _
      rw [show (agM.access (Rect.unit (s := S1024x768) off sz inb)).set = (Rect.unit (s := S1024x768) off sz inb).set from View.set_slice_whole _ _, set_unit inb ho hs]; exact Finset.Subset.refl _)) $$ [Hs]
  · iexact Hs
  iintro Hs
  iapply Hk
  ihave H := (Entails.of_eq (pointsTo_congr (ag_store I c f inb ho hs w hw))) $$ Hs
  iexact H

end Own

end Cert.KernelIdeal.Proof

end
-- ==== Proof.Share.lean ====
module

public import proofs.«01_k».proof.Proof.Rows

@[expose] public section

/-! # The shares of the all-gather's buffer

While a step's copy is on its way its rows are lent: the device keeps five shares of every row it has, one for each step and
one to read with at the end, and lends the step's share until the copy's own cell is waited on. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal Cert.KernelIdeal.Gen

variable {F : FTy → Type} [FloatOps F]

local notation "𝕄" => MT nD τ sig ℕ (Elt F) ℕ UU ℕ

variable (I : Dev nD → Inp F) (c : Dev nD)

/-- Full rows are their five shares. -/
theorem five (S : Finset S1024x768.Idx) (f : Vec F S1024x768 .bf16) :
    (agP c S fullShare f : sProp 𝕄) ⊣⊢ iprop(agP c S (sh 0) f ∗ agP c S (sh 1) f ∗ agP c S (sh 2) f ∗ agP c S (sh 3) f ∗ agP c S shr f) := by
  have e (q : PosShare TreeShare) : (agP c S q f : sProp 𝕄) ⊣⊢ iprop(agP c S q.left f ∗ agP c S q.right f) := pointsTo_share (PosShare.mem_left_op_right q)
  exact (e _).trans (sep_congr .rfl ((e _).trans (sep_congr .rfl ((e _).trans (sep_congr .rfl (e _))))))

/-- The rows of step `j`'s share that are not lent, when the rows of `reg n c` are there and the steps from `s` on have lent. -/
def col (n : Fin 5) (s : ℕ) (j : Fin 4) (c : Dev nD) : Finset S1024x768.Idx := if s ≤ j.val then reg n c \ reg j.succ c else reg n c

/-- What is left of the rows of `reg n c` when the steps from `s` on have lent theirs. -/
def AgSt (n : Fin 5) (s : ℕ) : sProp 𝕄 :=
  iprop(agP c (col n s 0 c) (sh 0) (G I) ∗ agP c (col n s 1 c) (sh 1) (G I) ∗ agP c (col n s 2 c) (sh 2) (G I) ∗ agP c (col n s 3 c) (sh 3) (G I) ∗ agP c (reg n c) shr (G I))

/-- The own piece, before anything is lent. -/
theorem agSt_start : (agP c (reg 4 c) fullShare (G I) : sProp 𝕄) ⊢ AgSt I c 4 4 := (five c _ _).1

/-- Step `k` lends its share of the rows it sends. -/
theorem agSt_send (k : Fin 4) : (AgSt I c k.succ (k.val + 1) : sProp 𝕄) ⊢ iprop(agP c (reg k.succ c) (sh k) (G I) ∗ AgSt I c k.succ k.val) := by
  have hlow (j : Fin 4) (h : j ≠ k) : col k.succ k.val j c = col k.succ (k.val + 1) j c := by
    unfold col
    have : j.val ≠ k.val := fun e => h (Fin.ext e)
    by_cases h1 : k.val + 1 ≤ j.val
    · rw [if_pos h1, if_pos (by omega)]
    · rw [if_neg h1, if_neg (by omega)]
  have hk : col k.succ (k.val + 1) k c = reg k.succ c := if_neg (by omega)
  have hk' : col k.succ k.val k c = ∅ := (if_pos (le_refl _)).trans (Finset.sdiff_self _)
  have hA (j : Fin 4) (h : j ≠ k) : (agP c (col k.succ (k.val + 1) j c) (sh j) (G I) : sProp 𝕄) ⊢ agP c (col k.succ k.val j c) (sh j) (G I) := by rw [hlow j h]
  have hB : (agP c (col k.succ (k.val + 1) k c) (sh k) (G I) : sProp 𝕄) ⊢ agP c (reg k.succ c) (sh k) (G I) := by rw [hk]
  have hC : (emp : sProp 𝕄) ⊢ agP c (col k.succ k.val k c) (sh k) (G I) := by rw [hk']; exact Entails.of_eq pointsTo_empty.symm
  clear hk hk' hlow
  unfold AgSt
  iintro ⟨H0, H1, H2, H3, Hr⟩
  fin_cases k
  · isplitl [H0]; · iapply hB; iexact H0
    isplitr; · iapply hC; iempintro
    isplitl [H1]; · iapply (hA 1 (by decide)); iexact H1
    isplitl [H2]; · iapply (hA 2 (by decide)); iexact H2
    isplitl [H3]; · iapply (hA 3 (by decide)); iexact H3
    iexact Hr
  · isplitl [H1]; · iapply hB; iexact H1
    isplitl [H0]; · iapply (hA 0 (by decide)); iexact H0
    isplitr; · iapply hC; iempintro
    isplitl [H2]; · iapply (hA 2 (by decide)); iexact H2
    isplitl [H3]; · iapply (hA 3 (by decide)); iexact H3
    iexact Hr
  · isplitl [H2]; · iapply hB; iexact H2
    isplitl [H0]; · iapply (hA 0 (by decide)); iexact H0
    isplitl [H1]; · iapply (hA 1 (by decide)); iexact H1
    isplitr; · iapply hC; iempintro
    isplitl [H3]; · iapply (hA 3 (by decide)); iexact H3
    iexact Hr
  · isplitl [H3]; · iapply hB; iexact H3
    isplitl [H0]; · iapply (hA 0 (by decide)); iexact H0
    isplitl [H1]; · iapply (hA 1 (by decide)); iexact H1
    isplitl [H2]; · iapply (hA 2 (by decide)); iexact H2
    isplitr; · iapply hC; iempintro
    iexact Hr

theorem nested (k j : Fin 4) (c : Dev nD) (h : k ≤ j) : lo k c ≤ lo j c ∧ lo j c + len j ≤ lo k c + len k := by revert k j c; decide

theorem sib_eq (k : Fin 4) : reg k.succ (nb k c) = rg 1024 (lo k (nb k c)) (len k) := reg_succ k (nb k c)

theorem sib_disj (k : Fin 4) : Disjoint (reg k.succ c) (reg k.succ (nb k c)) := by rw [sib_eq]; exact reg_disj k c

theorem reg_nested (k j : Fin 4) (h : k ≤ j) : reg j.succ c ⊆ reg k.succ c := by
  intro i hi
  obtain ⟨h1, h2⟩ := nested k j c h
  rw [reg_succ, mem_rg] at hi ⊢; omega

/-- The rows of one share grow by the neighbour's. -/
theorem col_grow (k j : Fin 4) : col k.castSucc k.val j c = col k.succ k.val j c ∪ reg k.succ (nb k c) ∧ Disjoint (col k.succ k.val j c) (reg k.succ (nb k c)) := by
  have h := reg_halves k c
  rw [← sib_eq] at h
  unfold col
  by_cases hj : k.val ≤ j.val
  · rw [if_pos hj, if_pos hj]
    refine ⟨?_, (sib_disj c k).mono_left Finset.sdiff_subset⟩
    rw [h, Finset.union_sdiff_distrib]
    congr 1
    exact Finset.sdiff_eq_self_of_disjoint (((sib_disj c k).mono_left (reg_nested c k j hj)).symm)
  · rw [if_neg hj, if_neg hj]
    exact ⟨h, sib_disj c k⟩

theorem share_grow (k j : Fin 4) (q : PosShare TreeShare) :
    iprop(agP c (col k.succ k.val j c) q (G I) ∗ agP c (reg k.succ (nb k c)) q (G I)) ⊢ (agP c (col k.castSucc k.val j c) q (G I) : sProp 𝕄) := by
  rw [(col_grow c k j).1]
  exact (pointsTo_union (col_grow c k j).2).2

/-- The neighbour's rows of step `k` arrive. -/
theorem agSt_recv (k : Fin 4) : iprop(AgSt I c k.succ k.val ∗ agP c (reg k.succ (nb k c)) fullShare (G I)) ⊢ (AgSt I c k.castSucc k.val : sProp 𝕄) := by
  have h := reg_halves k c
  rw [← sib_eq] at h
  unfold AgSt
  iintro ⟨⟨H0, H1, H2, H3, Hr⟩, Hn⟩
  ihave Hn := (five c _ _).1 $$ Hn
  icases Hn with ⟨N0, N1, N2, N3, Nr⟩
  isplitl [H0 N0]
  · iapply (share_grow I c k 0 (sh 0)); isplitl [H0]; · iexact H0
    iexact N0
  isplitl [H1 N1]
  · iapply (share_grow I c k 1 (sh 1)); isplitl [H1]; · iexact H1
    iexact N1
  isplitl [H2 N2]
  · iapply (share_grow I c k 2 (sh 2)); isplitl [H2]; · iexact H2
    iexact N2
  isplitl [H3 N3]
  · iapply (share_grow I c k 3 (sh 3)); isplitl [H3]; · iexact H3
    iexact N3
  rw [h]
  iapply (pointsTo_union (sib_disj c k)).2
  isplitl [Hr]; · iexact Hr
  iexact Nr

theorem share_back (j : Fin 4) (q : PosShare TreeShare) :
    iprop(agP c (col 0 0 j c) q (G I) ∗ agP c (reg j.succ c) q (G I)) ⊢ (agP c Finset.univ q (G I) : sProp 𝕄) := by
  have h : col 0 0 j c = Finset.univ \ reg j.succ c := (if_pos (Nat.zero_le _)).trans (by rw [reg_zero])
  rw [h]
  exact sep_comm.1.trans (pointsTo_split_subset (Finset.subset_univ _)).2

/-- Everything lent is back: the buffer is whole again. -/
theorem agSt_end : iprop(AgSt I c 0 0 ∗ agP c (reg 1 c) (sh 0) (G I) ∗ agP c (reg 2 c) (sh 1) (G I) ∗ agP c (reg 3 c) (sh 2) (G I) ∗ agP c (reg 4 c) (sh 3) (G I))
    ⊢ (whole' c agM (G I) : sProp 𝕄) := by
  unfold AgSt
  iintro ⟨⟨H0, H1, H2, H3, Hr⟩, N0, N1, N2, N3⟩
  iapply (five c Finset.univ (G I)).2
  isplitl [H0 N0]
  · iapply (share_back I c 0 (sh 0)); isplitl [H0]; · iexact H0
    iexact N0
  isplitl [H1 N1]
  · iapply (share_back I c 1 (sh 1)); isplitl [H1]; · iexact H1
    iexact N1
  isplitl [H2 N2]
  · iapply (share_back I c 2 (sh 2)); isplitl [H2]; · iexact H2
    iexact N2
  isplitl [H3 N3]
  · iapply (share_back I c 3 (sh 3)); isplitl [H3]; · iexact H3
    iexact N3
  rw [reg_zero]
  iexact Hr

/-! ## Taking the buffers apart -/

/-- The all-gather's buffer: the own piece and what each neighbour writes. -/
theorem ag_split (f : Vec F S1024x768 .bf16) :
    (whole' c agM f : sProp 𝕄) ⊢ iprop((∃ f, agP (F := F) c (reg 4 c) fullShare f) ∗ (∃ f, agP (F := F) c (reg 1 (nb 0 c)) fullShare f) ∗ (∃ f, agP (F := F) c (reg 2 (nb 1 c)) fullShare f)
      ∗ (∃ f, agP (F := F) c (reg 3 (nb 2 c)) fullShare f) ∗ (∃ f, agP (F := F) c (reg 4 (nb 3 c)) fullShare f)) := by
  have e (k : Fin 4) : (agP c (reg k.castSucc c) fullShare f : sProp 𝕄) ⊢ iprop(agP c (reg k.succ c) fullShare f ∗ agP c (reg k.succ (nb k c)) fullShare f) := by
    have h := reg_halves k c
    rw [← sib_eq] at h
    rw [h]; exact (pointsTo_union (sib_disj c k)).1
  have e0 : (agP c (reg 0 c) fullShare f : sProp 𝕄) ⊢ iprop(agP c (reg 1 c) fullShare f ∗ agP c (reg 1 (nb 0 c)) fullShare f) := e 0
  have e1 : (agP c (reg 1 c) fullShare f : sProp 𝕄) ⊢ iprop(agP c (reg 2 c) fullShare f ∗ agP c (reg 2 (nb 1 c)) fullShare f) := e 1
  have e2 : (agP c (reg 2 c) fullShare f : sProp 𝕄) ⊢ iprop(agP c (reg 3 c) fullShare f ∗ agP c (reg 3 (nb 2 c)) fullShare f) := e 2
  have e3 : (agP c (reg 3 c) fullShare f : sProp 𝕄) ⊢ iprop(agP c (reg 4 c) fullShare f ∗ agP c (reg 4 (nb 3 c)) fullShare f) := e 3
  iintro H
  ihave H := (Entails.of_eq (show (whole' c agM f : sProp 𝕄) = agP c (reg 0 c) fullShare f by rw [reg_zero])) $$ H
  ihave H := e0 $$ H
  icases H with ⟨H, H0⟩
  ihave H := e1 $$ H
  icases H with ⟨H, H1⟩
  ihave H := e2 $$ H
  icases H with ⟨H, H2⟩
  ihave H := e3 $$ H
  icases H with ⟨H, H3⟩
  isplitl [H]; · iexists f; iexact H
  isplitl [H0]; · iexists f; iexact H0
  isplitl [H1]; · iexists f; iexact H1
  isplitl [H2]; · iexists f; iexact H2
  iexists f; iexact H3

/-- Rows of a buffer of 960 rows, one block under the other. -/
theorem rows960 : (Finset.univ : Finset S960x768.Idx) = rg 960 0 512 ∪ (rg 960 512 256 ∪ (rg 960 768 128 ∪ rg 960 896 64)) := by
  ext i
  have : (i (0 : Fin 2)).val < 960 := (i (0 : Fin 2)).isLt
  simp only [Finset.mem_univ, Finset.mem_union, mem_rg, true_iff]
  omega

theorem d960a : Disjoint (rg 960 0 512) (rg 960 512 256 ∪ (rg 960 768 128 ∪ rg 960 896 64)) :=
  Finset.disjoint_union_right.mpr ⟨rg_disj (by omega), Finset.disjoint_union_right.mpr ⟨rg_disj (by omega), rg_disj (by omega)⟩⟩
theorem d960b : Disjoint (rg 960 512 256) (rg 960 768 128 ∪ rg 960 896 64) :=
  Finset.disjoint_union_right.mpr ⟨rg_disj (by omega), rg_disj (by omega)⟩
theorem d960c : Disjoint (rg 960 768 128) (rg 960 896 64) := rg_disj (by omega)

/-- The reduction's staging, step by step. -/
theorem snd_split (f : Vec F S960x768 .bf16) :
    (whole' c sndM f : sProp 𝕄) ⊣⊢ iprop(sndP c 0 f ∗ sndP c 1 f ∗ sndP c 2 f ∗ sndP c 3 f) := by
  have e : (whole' c sndM f : sProp 𝕄) = sndM.view.loc (c : Thread nD τ) ↦[rg 960 0 512 ∪ (rg 960 512 256 ∪ (rg 960 768 128 ∪ rg 960 896 64))]{fullShare} f :=
    congrArg (fun S => (sndM.view.loc (c : Thread nD τ) ↦[S]{fullShare} f : sProp 𝕄)) rows960
  rw [e]
  exact (pointsTo_union d960a).trans (sep_congr .rfl ((pointsTo_union d960b).trans (sep_congr .rfl (pointsTo_union d960c))))

/-- The reduction's receive buffer, step by step. -/
theorem rcv_split (f : Vec F S960x768 .bf16) :
    (whole' c rcvM f : sProp 𝕄) ⊣⊢ iprop(rcvP c 0 f ∗ rcvP c 1 f ∗ rcvP c 2 f ∗ rcvP c 3 f) := by
  have e : (whole' c rcvM f : sProp 𝕄) = rcvM.view.loc (c : Thread nD τ) ↦[rg 960 0 512 ∪ (rg 960 512 256 ∪ (rg 960 768 128 ∪ rg 960 896 64))]{fullShare} f :=
    congrArg (fun S => (rcvM.view.loc (c : Thread nD τ) ↦[S]{fullShare} f : sProp 𝕄)) rows960
  rw [e]
  exact (pointsTo_union d960a).trans (sep_congr .rfl ((pointsTo_union d960b).trans (sep_congr .rfl (pointsTo_union d960c))))

end Cert.KernelIdeal.Proof

end
-- ==== Proof.Reduce.lean ====
module

public import proofs.«01_k».proof.Proof.Share
public import proofs.«01_k».proof.Proof.Compute

@[expose] public section

/-! # The reduction

The four steps in which a device sends half of the rows it is responsible for and adds what its neighbour sends to the other
half. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.Tactic
open Cert.KernelIdeal Cert.KernelIdeal.Gen

variable {F : FTy → Type} [FloatOps F]

local notation "𝕄" => MT nD τ sig ℕ (Elt F) ℕ UU ℕ

variable (I : Dev nD → Inp F) (κ : GSem nD τ sig → ℕ) (c : Dev nD)

/-- What the copy of step `k` of the reduction needs. -/
def RsTok (c : Dev nD) (k : Fin 4) : sProp 𝕄 :=
  iprop(LocTok c (rsS k) ∗ dutyTok ER (dCell (nb k c) (rsR k)) 0 0 ∗ (∃ f, rcvP (F := F) (nb k c) k f) ∗ reached ER (dCell (nb k c) (rsR k)) 0)

/-- What the copy of step `k` of the all-gather needs. -/
def AgTok (c : Dev nD) (k : Fin 4) : sProp 𝕄 :=
  iprop(LocTok c (agS k) ∗ dutyTok ER (dCell (nb k c) (agR k)) 0 0 ∗ (∃ f, agP (F := F) (nb k c) (reg k.succ c) fullShare f) ∗ reached ER (dCell (nb k c) (agR k)) 0)

/-- The accumulator before step `n`. -/
def AccKeep (I : Dev nD → Inp F) (c : Dev nD) (n : Fin 5) : sProp 𝕄 := iprop(∃ f : Vec F S1024x768 .f32, whole' c accM f ∗ ⌜AccOk I c n f⌝)

/-! ## The values -/

theorem tr_at {s t : Shape} (a : FVec F s .f32) (b : FVec F t .f32) (j : s.Idx) (i : t.Idx) (h : a j = b i) :
    truncf .bf16 a bitsLt_bf16_f32 j = truncf .bf16 b bitsLt_bf16_f32 i := by
  rw [truncf_apply, truncf_apply, h]

theorem add_at {s t : Shape} (a : FVec F s .f32) (b : FVec F s .bf16) (a' : FVec F t .f32) (b' : FVec F t .bf16) (j : s.Idx) (i : t.Idx) (h : a j = a' i) (h' : b j = b' i) :
    addf a (extf .f32 b bitsLt_bf16_f32) j = addf a' (extf .f32 b' bitsLt_bf16_f32) i := by
  rw [addf_apply, addf_apply, extf_apply, extf_apply, h, h']

/-- The product of a batch, as rows of both. -/
theorem A0_row (J : Inp F) (b : Fin 2) (r : Fin 512) (q : Fin 768) : A0 J (at' (512 * b.val + r.val) q) = part J b (Shape.pair r q) := by
  have h : ((at' (512 * b.val + r.val) q) (0 : Fin 2)).val = 512 * b.val + r.val := at_val _ (by omega) q
  unfold A0
  have e1 : (⟨((at' (512 * b.val + r.val) q) (0 : Fin 2)).val / 512, by rw [h]; omega⟩ : Fin 2) = b := Fin.ext (by show _ / 512 = _; rw [h]; omega)
  have e2 : (⟨((at' (512 * b.val + r.val) q) (0 : Fin 2)).val % 512, Nat.mod_lt _ (by decide)⟩ : Fin 512) = r := Fin.ext (by show _ % 512 = _; rw [h]; omega)
  rw [e1]
  refine congrArg (part J b) (funext fun x => ?_)
  revert x
  exact Fin.forall_fin_two.mpr ⟨e2, rfl⟩

/-- What step 0 stores to send. -/
theorem snd_val0 (j : S512x768.Idx) (q : Fin 768) (hq : (j (1 : Fin 2)).val = q.val) :
    k0_pay28 (part (I c) (bat' c)) j = truncf .bf16 (A I 0 c) bitsLt_bf16_f32 (at' (lo 0 (nb 0 c) + (j (0 : Fin 2)).val) q) := by
  rw [show k0_pay28 (part (I c) (bat' c)) = truncf .bf16 (part (I c) (bat' c)) bitsLt_bf16_f32 from shapeCast_id _ _]
  refine tr_at _ _ _ _ ?_
  show _ = A0 (I c) _
  rw [lo_nb, A0_row (I c) (bat' c) (j (0 : Fin 2)) q]
  congr 1
  funext x
  revert x
  exact Fin.forall_fin_two.mpr ⟨rfl, Fin.ext hq⟩

section Vals

variable (k : Fin 4) (f : Vec F S1024x768 .f32) (hf : AccOk I c k.castSucc f) {off sz : Fin 2 → ℕ} (inb : ∀ x, off x + sz x ≤ S1024x768.size x)
include hf

/-- What step `k` stores to send. -/
theorem snd_val (ho : off = ![lo k (nb k c), 0]) (hs : sz = ![len k, 768]) (j : (Rect.unit (s := S1024x768) off sz inb).shape.Idx) (q : Fin 768) (hq : (j (1 : Fin 2)).val = q.val) :
    truncf .bf16 (View.readAt (Elt F) accM.view (Rect.unit (s := S1024x768) off sz inb).toLoadRect f) bitsLt_bf16_f32 j
      = truncf .bf16 (A I k.val c) bitsLt_bf16_f32 (at' (lo k (nb k c) + (j (0 : Fin 2)).val) q) := by
  refine tr_at _ _ _ _ (acc_load I c k.castSucc f hf (lo k (nb k c)) (len k) (sib_sub k c) inb ho hs j _ ?_ hq.symm)
  have h1 := lo_lt k (nb k c)
  have h2 : (j (0 : Fin 2)).val < len k := by subst hs; exact (j (0 : Fin 2)).isLt
  exact at_val _ (by omega) q

/-- What step `k` adds up. -/
theorem step_val (ho : off = ![lo k c, 0]) (hs : sz = ![len k, 768]) {off' : Fin 2 → ℕ} (inb' : ∀ x, off' x + sz x ≤ S960x768.size x) (ho' : off' = ![roff k, 0])
    (j : (Rect.unit (s := S1024x768) off sz inb).shape.Idx) (i : S1024x768.Idx) (h0 : (i (0 : Fin 2)).val = lo k c + (j (0 : Fin 2)).val) (h1 : (i (1 : Fin 2)).val = (j (1 : Fin 2)).val) :
    addf (View.readAt (Elt F) accM.view (Rect.unit (s := S1024x768) off sz inb).toLoadRect f)
      (extf .f32 (View.readAt (Elt F) rcvM.view (Rect.unit (s := S960x768) off' sz inb').toLoadRect (recvd I c) : FVec F (Rect.unit (s := S1024x768) off sz inb).shape .bf16) bitsLt_bf16_f32) j = A I (k.val + 1) c i := by
  rw [A_succ]
  refine add_at _ _ _ _ _ _ (acc_load I c k.castSucc f hf (lo k c) (len k) ?_ inb ho hs j i h0 h1) (rcv_load I c k inb' ho' hs j i h0 h1)
  rw [← reg_succ]; exact reg_sub k c

end Vals

/-! ## The windows of the body -/

/-- The first rows are sent, and the other batch begins. -/
theorem part10 (w w' : BitVec 32) (l : List (Pay nD τ sig)) :
    iprop(Invs I κ ∗ RsTok c 0 ∗ (∃ f, sndP (F := F) c 0 f) ∗ Owe c (pR 0 c :: l) ∗ Ins c (I c))
      ⊢ (runs c (onBufs (k0_part10 (F := F)) c w w' (part (I c) (bat' c)))
        (fun r => iprop(⌜∃ a b, r = ⟨a, b, proj (I c) (bat c), k0_pay8 (slab (I c).v (bat c) 0), k0_pay31 (xRow (I c).x (bat c)) (I c).wq (slab (I c).k (bat c) 0), k0_pay32⟩⌝
          ∗ Tick c (rsS 0) 0 ∗ Owe c l ∗ Ins c (I c))) : sProp 𝕄) := by
  simp only [runs, onBufs, k0_part10_eq_skeleton, k0_part10_skel]
  simp only [Prog.lift, Prog.bind_op, Prog.bind_ret, Prog.pure_eq_ret]
  unfold RsTok
  iintro ⟨#HI, ⟨HL, HtR, Hd, HrR⟩, Hs, HO, ⟨HX, HW, HK, HV, HOw⟩⟩
  iapply (wp_snd_load c 0 inb_S960x768_S512x768_0_0 rfl rfl) $$ [Hs]
  · iexact Hs
  iintro %v Hs
  iapply (wp_snd_store I c 0 inb_S960x768_S512x768_0_0 rfl rfl (snd_val0 I c)) $$ [Hs]
  · iexact Hs
  iintro Hs
  iapply (wp_rs_send I κ c 0 inb_S960x768_S512x768_0_0 rfl rfl (dev5_eq c) l rfl) $$ [Hs Hd HO HL HtR HrR]
  · isplitr; · iexact HI
    isplitl [Hs]; · iexact Hs
    isplitl [Hd]; · iexact Hd
    isplitl [HO]; · iexact HO
    isplitl [HL]; · iexact HL
    isplitl [HtR]; · iexact HtR
    iexact HrR
  iintro ⟨HT, HO⟩
  sl_exec
  rw [wp_ret]
  imodintro
  isplitr
  · ipureintro
    refine ⟨Scalar.xori w 1#32, Scalar.xori w' 0#32, ?_⟩
    unfold proj
    rw [← load_x (I c).x (bat c) (k0_off1_inb c 0) (off1_0 c), ← load_k (I c).k (bat c) 0 (k0_off2_inb c 0) (off2_0 c), ← load_v (I c).v (bat c) 0 (k0_off2_inb c 0) (off2_0 c)]
    have hw := load_wq (I c).wq inb_S768x512_S768x512_0_0
    rw [← hw]
    simp only [hw]
    rfl
  isplitl [HT]; · iexact HT
  isplitl [HO]; · iexact HO
  isplitl [HX]; · iexact HX
  isplitl [HW]; · iexact HW
  isplitl [HK]; · iexact HK
  isplitl [HV]; · iexact HV
  iexact HOw

/-- Step 0 of the reduction ends; step 1's rows are ready. -/
theorem part17 (w w' : BitVec 32) :
    iprop(Invs I κ ∗ Lev ∗ Tick c (rsR 0) 2 ∗ Owe c [pR 1 c, pR 2 c, pR 3 c, pG 3 c, pG 2 c, pG 1 c, pG 0 c] ∗ AccKeep I c 0 ∗ (∃ f, sndP (F := F) c 1 f))
      ⊢ (wp frame (wpE defs₀ Variants.none (c : Thread nD τ) none) Set.univ (onBufs (k0_part17 (F := F)) c w w')
        (fun _ => iprop(Owe c [pR 1 c, pR 2 c, pR 3 c, pG 3 c, pG 2 c, pG 1 c, pG 0 c] ∗ Done c (rsR 0) ∗ rcvP c 0 (recvd I c) ∗ AccKeep I c 1 ∗ sndP c 1 (sent I c))) : sProp 𝕄) := by
  simp only [onBufs, k0_part17_eq_skeleton, k0_part17_skel]
  simp only [Prog.lift, Prog.bind_op, Prog.bind_ret, Prog.pure_eq_ret]
  unfold AccKeep
  iintro ⟨#HI, #Hlev, HW, HO, ⟨%f, HA, %hf⟩, Hs⟩
  iapply (wp_rs_wait I κ c 0 [pR 1 c, pR 2 c, pR 3 c, pG 3 c, pG 2 c, pG 1 c, pG 0 c] (above_R 1 (by decide) (above_R 2 (by decide) (above_R 3 (by decide) (above_G 3 (by decide) (above_G 2 (by decide) (above_G 1 (by decide) (above_G 0 (by decide) (aboveL_nil _)))))))) rfl) $$ [HO HW]
  · isplitr; · iexact HI
    isplitr; · iexact Hlev
    isplitl [HW]; · iexact HW
    iexact HO
  iintro ⟨HO, HD, HR⟩
  iapply (wp_acc_load c f) $$ [HA]
  · iexact HA
  iintro HA
  iapply (wp_rcv_load I c 0 inb_S960x768_S512x768_0_0 rfl rfl) $$ [HR]
  · iexact HR
  iintro HR
  iapply (wp_acc_load c f) $$ [HA]
  · iexact HA
  iintro HA
  have hf' := acc_step I c 0 f (k0_off11_inb c) (off11_eq c) rfl
    (k0_pay51 (View.readAt (Elt F) accM.view (Rect.unit (s := S1024x768) (k0_off11 c) S512x768.size (k0_off11_inb c)).toLoadRect f)
      (View.readAt (Elt F) rcvM.view (Rect.unit (s := S960x768) ![0, 0] S512x768.size inb_S960x768_S512x768_0_0).toLoadRect (recvd I c)))
    (fun j i h0 h1 => (congrFun (shapeCast_id (s := S512x768) _ _) j).trans (step_val I c 0 f hf (k0_off11_inb c) (off11_eq c) rfl inb_S960x768_S512x768_0_0 rfl j i h0 h1))
  iapply (wp_acc_store c f (k0_off11_inb c)) $$ [HA]
  · iexact HA
  iintro HA
  generalize (accM.access (Rect.unit (s := S1024x768) (k0_off11 c) S512x768.size (k0_off11_inb c))).write (Elt F) f _ Finset.univ = f' at hf' ⊢
  iapply (wp_acc_load c f') $$ [HA]
  · iexact HA
  iintro HA
  iapply (wp_snd_load c 1 inb_S960x768_S256x768_512_0 rfl rfl) $$ [Hs]
  · iexact Hs
  iintro %v Hs
  iapply (wp_snd_store I c 1 inb_S960x768_S256x768_512_0 rfl rfl (fun j q hq => (congrFun (shapeCast_id (s := S256x768) _ _) j).trans (snd_val I c 1 f' hf' (k0_off12_inb c) (off12_eq c) rfl j q hq))) $$ [Hs]
  · iexact Hs
  iintro Hs
  rw [wp_ret]
  imodintro
  isplitl [HO]; · iexact HO
  isplitl [HD]; · iexact HD
  isplitl [HR]; · iexact HR
  isplitl [HA]
  · iexists f'
    isplitl [HA]; · iexact HA
    ipureintro; exact hf'
  iexact Hs

/-- Step 1 of the reduction; step 2's rows are read. -/
theorem part18 (w w' w'' : BitVec 32) :
    iprop(Invs I κ ∗ Lev ∗ RsTok c 1 ∗ sndP c 1 (sent I c) ∗ Tick c (rsR 1) 3 ∗ Owe c [pR 1 c, pR 2 c, pR 3 c, pG 3 c, pG 2 c, pG 1 c, pG 0 c] ∗ AccKeep I c 1)
      ⊢ (wp frame (wpE defs₀ Variants.none (c : Thread nD τ) none) Set.univ (onBufs (k0_part18 (F := F)) c w w' w'')
        (fun r => iprop(⌜∀ (j : S128x768.Idx) (q : Fin 768), (j (1 : Fin 2)).val = q.val → r.2 j = truncf .bf16 (A I 2 c) bitsLt_bf16_f32 (at' (lo 2 (nb 2 c) + (j (0 : Fin 2)).val) q)⌝
          ∗ Owe c [pR 2 c, pR 3 c, pG 3 c, pG 2 c, pG 1 c, pG 0 c] ∗ Tick c (rsS 1) 0 ∗ Done c (rsR 1) ∗ rcvP c 1 (recvd I c) ∗ AccKeep I c 2)) : sProp 𝕄) := by
  simp only [onBufs, k0_part18_eq_skeleton, k0_part18_skel]
  simp only [Prog.lift, Prog.bind_op, Prog.bind_ret, Prog.pure_eq_ret]
  unfold AccKeep RsTok
  iintro ⟨#HI, #Hlev, ⟨HL, HtR, Hd, HrR⟩, Hs, HW, HO, ⟨%f, HA, %hf⟩⟩
  iapply (wp_rs_send I κ c 1 inb_S960x768_S256x768_512_0 rfl rfl (dev6_eq c) [pR 2 c, pR 3 c, pG 3 c, pG 2 c, pG 1 c, pG 0 c] rfl) $$ [Hs Hd HO HL HtR HrR]
  · isplitr; · iexact HI
    isplitl [Hs]; · iexact Hs
    isplitl [Hd]; · iexact Hd
    isplitl [HO]; · iexact HO
    isplitl [HL]; · iexact HL
    isplitl [HtR]; · iexact HtR
    iexact HrR
  iintro ⟨HT, HO⟩
  iapply (wp_rs_wait I κ c 1 [pR 2 c, pR 3 c, pG 3 c, pG 2 c, pG 1 c, pG 0 c] (above_R 2 (by decide) (above_R 3 (by decide) (above_G 3 (by decide) (above_G 2 (by decide) (above_G 1 (by decide) (above_G 0 (by decide) (aboveL_nil _))))))) rfl) $$ [HO HW]
  · isplitr; · iexact HI
    isplitr; · iexact Hlev
    isplitl [HW]; · iexact HW
    iexact HO
  iintro ⟨HO, HD, HR⟩
  iapply (wp_acc_load c f) $$ [HA]
  · iexact HA
  iintro HA
  iapply (wp_rcv_load I c 1 inb_S960x768_S256x768_512_0 rfl rfl) $$ [HR]
  · iexact HR
  iintro HR
  iapply (wp_acc_load c f) $$ [HA]
  · iexact HA
  iintro HA
  have hf' := acc_step I c 1 f (k0_off13_inb c) (off13_eq c) rfl
    (k0_pay53 (View.readAt (Elt F) accM.view (Rect.unit (s := S1024x768) (k0_off13 c) S256x768.size (k0_off13_inb c)).toLoadRect f)
      (View.readAt (Elt F) rcvM.view (Rect.unit (s := S960x768) ![512, 0] S256x768.size inb_S960x768_S256x768_512_0).toLoadRect (recvd I c)))
    (fun j i h0 h1 => (congrFun (shapeCast_id (s := S256x768) _ _) j).trans (step_val I c 1 f hf (k0_off13_inb c) (off13_eq c) rfl inb_S960x768_S256x768_512_0 rfl j i h0 h1))
  iapply (wp_acc_store c f (k0_off13_inb c)) $$ [HA]
  · iexact HA
  iintro HA
  generalize (accM.access (Rect.unit (s := S1024x768) (k0_off13 c) S256x768.size (k0_off13_inb c))).write (Elt F) f _ Finset.univ = f' at hf' ⊢
  iapply (wp_acc_load c f') $$ [HA]
  · iexact HA
  iintro HA
  rw [wp_ret]
  imodintro
  isplitr
  · ipureintro; exact fun j q hq => snd_val I c 2 f' hf' (k0_off14_inb c) (off14_eq c) rfl j q hq
  isplitl [HO]; · iexact HO
  isplitl [HT]; · iexact HT
  isplitl [HD]; · iexact HD
  isplitl [HR]; · iexact HR
  iexists f'
  isplitl [HA]; · iexact HA
  ipureintro; exact hf'

/-- Step 2 of the reduction. -/
theorem part19 (w w' : BitVec 32) (v : FVec F S128x768 .bf16)
    (hv : ∀ (j : S128x768.Idx) (q : Fin 768), (j (1 : Fin 2)).val = q.val → v j = truncf .bf16 (A I 2 c) bitsLt_bf16_f32 (at' (lo 2 (nb 2 c) + (j (0 : Fin 2)).val) q)) :
    iprop(Invs I κ ∗ Lev ∗ RsTok c 2 ∗ (∃ f, sndP (F := F) c 2 f) ∗ Tick c (rsR 2) 4 ∗ Owe c [pR 2 c, pR 3 c, pG 3 c, pG 2 c, pG 1 c, pG 0 c] ∗ AccKeep I c 2)
      ⊢ (wp frame (wpE defs₀ Variants.none (c : Thread nD τ) none) Set.univ (onBufs (k0_part19 (F := F)) c w w' v)
        (fun _ => iprop(Owe c [pR 3 c, pG 3 c, pG 2 c, pG 1 c, pG 0 c] ∗ Tick c (rsS 2) 0 ∗ Done c (rsR 2) ∗ rcvP c 2 (recvd I c) ∗ AccKeep I c 3)) : sProp 𝕄) := by
  simp only [onBufs, k0_part19_eq_skeleton, k0_part19_skel]
  simp only [Prog.lift, Prog.bind_op, Prog.bind_ret, Prog.pure_eq_ret]
  unfold AccKeep RsTok
  iintro ⟨#HI, #Hlev, ⟨HL, HtR, Hd, HrR⟩, Hs, HW, HO, ⟨%f, HA, %hf⟩⟩
  iapply (wp_snd_load c 2 inb_S960x768_S128x768_768_0 rfl rfl) $$ [Hs]
  · iexact Hs
  iintro %v Hs
  iapply (wp_snd_store I c 2 inb_S960x768_S128x768_768_0 rfl rfl (fun j q hq => (congrFun (shapeCast_id (s := S128x768) _ _) j).trans (hv j q hq))) $$ [Hs]
  · iexact Hs
  iintro Hs
  iapply (wp_rs_send I κ c 2 inb_S960x768_S128x768_768_0 rfl rfl (dev7_eq c) [pR 3 c, pG 3 c, pG 2 c, pG 1 c, pG 0 c] rfl) $$ [Hs Hd HO HL HtR HrR]
  · isplitr; · iexact HI
    isplitl [Hs]; · iexact Hs
    isplitl [Hd]; · iexact Hd
    isplitl [HO]; · iexact HO
    isplitl [HL]; · iexact HL
    isplitl [HtR]; · iexact HtR
    iexact HrR
  iintro ⟨HT, HO⟩
  iapply (wp_rs_wait I κ c 2 [pR 3 c, pG 3 c, pG 2 c, pG 1 c, pG 0 c] (above_R 3 (by decide) (above_G 3 (by decide) (above_G 2 (by decide) (above_G 1 (by decide) (above_G 0 (by decide) (aboveL_nil _)))))) rfl) $$ [HO HW]
  · isplitr; · iexact HI
    isplitr; · iexact Hlev
    isplitl [HW]; · iexact HW
    iexact HO
  iintro ⟨HO, HD, HR⟩
  iapply (wp_acc_load c f) $$ [HA]
  · iexact HA
  iintro HA
  iapply (wp_rcv_load I c 2 inb_S960x768_S128x768_768_0 rfl rfl) $$ [HR]
  · iexact HR
  iintro HR
  iapply (wp_acc_load c f) $$ [HA]
  · iexact HA
  iintro HA
  have hf' := acc_step I c 2 f (k0_off15_inb c) (off15_eq c) rfl
    (k0_pay56 (View.readAt (Elt F) accM.view (Rect.unit (s := S1024x768) (k0_off15 c) S128x768.size (k0_off15_inb c)).toLoadRect f)
      (View.readAt (Elt F) rcvM.view (Rect.unit (s := S960x768) ![768, 0] S128x768.size inb_S960x768_S128x768_768_0).toLoadRect (recvd I c)))
    (fun j i h0 h1 => (congrFun (shapeCast_id (s := S128x768) _ _) j).trans (step_val I c 2 f hf (k0_off15_inb c) (off15_eq c) rfl inb_S960x768_S128x768_768_0 rfl j i h0 h1))
  iapply (wp_acc_store c f (k0_off15_inb c)) $$ [HA]
  · iexact HA
  iintro HA
  generalize (accM.access (Rect.unit (s := S1024x768) (k0_off15 c) S128x768.size (k0_off15_inb c))).write (Elt F) f _ Finset.univ = f' at hf' ⊢
  rw [wp_ret]
  imodintro
  isplitl [HO]; · iexact HO
  isplitl [HT]; · iexact HT
  isplitl [HD]; · iexact HD
  isplitl [HR]; · iexact HR
  iexists f'
  isplitl [HA]; · iexact HA
  ipureintro; exact hf'

/-- Step 3 of the reduction up to the reading of what is kept. -/
theorem part20 (w w' w'' w₃ : BitVec 32) :
    iprop(Invs I κ ∗ Lev ∗ RsTok c 3 ∗ (∃ f, sndP (F := F) c 3 f) ∗ Tick c (rsR 3) 5 ∗ Owe c [pR 3 c, pG 3 c, pG 2 c, pG 1 c, pG 0 c] ∗ AccKeep I c 3)
      ⊢ (wp frame (wpE defs₀ Variants.none (c : Thread nD τ) none) Set.univ (onBufs (k0_part20 (F := F)) c w w' w'' w₃)
        (fun r => iprop(⌜∀ (j : S64x768.Idx) (i : S1024x768.Idx), (i (0 : Fin 2)).val = lo 3 c + (j (0 : Fin 2)).val → (i (1 : Fin 2)).val = (j (1 : Fin 2)).val → r.2 j = A I 3 c i⌝
          ∗ Owe c [pG 3 c, pG 2 c, pG 1 c, pG 0 c] ∗ Tick c (rsS 3) 0 ∗ Done c (rsR 3) ∗ rcvP c 3 (recvd I c) ∗ AccKeep I c 3)) : sProp 𝕄) := by
  simp only [onBufs, k0_part20_eq_skeleton, k0_part20_skel]
  simp only [Prog.lift, Prog.bind_op, Prog.bind_ret, Prog.pure_eq_ret]
  unfold AccKeep RsTok
  iintro ⟨#HI, #Hlev, ⟨HL, HtR, Hd, HrR⟩, Hs, HW, HO, ⟨%f, HA, %hf⟩⟩
  iapply (wp_acc_load c f) $$ [HA]
  · iexact HA
  iintro HA
  iapply (wp_snd_load c 3 inb_S960x768_S64x768_896_0 rfl rfl) $$ [Hs]
  · iexact Hs
  iintro %v Hs
  iapply (wp_snd_store I c 3 inb_S960x768_S64x768_896_0 rfl rfl (fun j q hq => (congrFun (shapeCast_id (s := S64x768) _ _) j).trans (snd_val I c 3 f hf (k0_off16_inb c) (off16_eq c) rfl j q hq))) $$ [Hs]
  · iexact Hs
  iintro Hs
  iapply (wp_rs_send I κ c 3 inb_S960x768_S64x768_896_0 rfl rfl (dev8_eq c) [pG 3 c, pG 2 c, pG 1 c, pG 0 c] rfl) $$ [Hs Hd HO HL HtR HrR]
  · isplitr; · iexact HI
    isplitl [Hs]; · iexact Hs
    isplitl [Hd]; · iexact Hd
    isplitl [HO]; · iexact HO
    isplitl [HL]; · iexact HL
    isplitl [HtR]; · iexact HtR
    iexact HrR
  iintro ⟨HT, HO⟩
  iapply (wp_rs_wait I κ c 3 [pG 3 c, pG 2 c, pG 1 c, pG 0 c] (above_G 3 (by decide) (above_G 2 (by decide) (above_G 1 (by decide) (above_G 0 (by decide) (aboveL_nil _))))) rfl) $$ [HO HW]
  · isplitr; · iexact HI
    isplitr; · iexact Hlev
    isplitl [HW]; · iexact HW
    iexact HO
  iintro ⟨HO, HD, HR⟩
  iapply (wp_acc_load c f) $$ [HA]
  · iexact HA
  iintro HA
  rw [wp_ret]
  imodintro
  isplitr
  · ipureintro; exact fun j i h0 h1 => acc_load I c 3 f hf (lo 3 c) 64 (reg_sub 3 c) (k0_off17_inb c) (off17_eq c) rfl j i h0 h1
  isplitl [HO]; · iexact HO
  isplitl [HT]; · iexact HT
  isplitl [HD]; · iexact HD
  isplitl [HR]; · iexact HR
  iexists f
  isplitl [HA]; · iexact HA
  ipureintro; exact hf

end Cert.KernelIdeal.Proof

end
-- ==== Proof.Gather.lean ====
module

public import proofs.«01_k».proof.Proof.Reduce

@[expose] public section

/-! # The all-gather

Each device sends all rows it has in turn to its four neighbours, the last one first, and writes the result. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.Tactic
open Cert.KernelIdeal Cert.KernelIdeal.Gen

variable {F : FTy → Type} [FloatOps F]

local notation "𝕄" => MT nD τ sig ℕ (Elt F) ℕ UU ℕ

variable (I : Dev nD → Inp F) (κ : GSem nD τ sig → ℕ) (c : Dev nD)

/-- The window of the result that holds batch `b`. -/
theorem out_emb {off : Fin 3 → ℕ} (inb : ∀ x, off x + S1x512x768.size x ≤ S2x512x768.size x) (b : Fin 2) (ho : off = ![b.val, 0, 0])
    (j : (Rect.unit (s := S2x512x768) off S1x512x768.size inb).shape.Idx) (x : Fin 3) :
    ((Rect.unit (s := S2x512x768) off S1x512x768.size inb).emb j x).val = (![b.val, (j (1 : Fin 3)).val, (j (2 : Fin 3)).val] : Fin 3 → ℕ) x := by
  subst ho
  rw [Rect.emb_apply]
  have h : (j (0 : Fin 3)).val < 1 := (j (0 : Fin 3)).isLt
  fin_cases x
  · show b.val + 1 * (j (0 : Fin 3)).val = b.val; omega
  · show 0 + 1 * (j (1 : Fin 3)).val = (j (1 : Fin 3)).val; omega
  · show 0 + 1 * (j (2 : Fin 3)).val = (j (2 : Fin 3)).val; omega

/-- Storing one batch of the result. -/
theorem out_store (I : Dev nD → Inp F) (b : Fin 2) (f : Vec F S2x512x768 .f32) {off : Fin 3 → ℕ} (inb : ∀ x, off x + S1x512x768.size x ≤ S2x512x768.size x) (ho : off = ![b.val, 0, 0])
    {off' : Fin 2 → ℕ} (inb' : ∀ x, off' x + S512x768.size x ≤ S1024x768.size x) (ho' : off' = ![512 * b.val, 0])
    (w : (Rect.unit (s := S2x512x768) off S1x512x768.size inb).shape.Idx → Elt F .f32)
    (hw : w = shapeCast S1x512x768 (extf .f32 (View.readAt (Elt F) agM.view (Rect.unit (s := S1024x768) off' S512x768.size inb').toLoadRect (G I) : FVec F S512x768 .bf16) bitsLt_bf16_f32) shapeCasts_S512x768_S1x512x768)
    (i : S2x512x768.Idx) :
    (outM.access (Rect.unit (s := S2x512x768) off S1x512x768.size inb)).write (Elt F) f w Finset.univ i = if (i (0 : Fin 3)).val = b.val then res I i else f i := by
  by_cases hi : (i (0 : Fin 3)).val = b.val
  · rw [if_pos hi]
    let j : (Rect.unit (s := S2x512x768) off S1x512x768.size inb).shape.Idx := fun x => match x with
      | ⟨0, _⟩ => ⟨0, Nat.one_pos⟩ | ⟨1, _⟩ => i (1 : Fin 3) | ⟨2, _⟩ => i (2 : Fin 3)
    have he : (Rect.unit (s := S2x512x768) off S1x512x768.size inb).emb j = i := by
      funext x
      apply Fin.ext
      rw [out_emb inb b ho]
      fin_cases x
      · exact hi.symm
      · rfl
      · rfl
    have e : (outM.access (Rect.unit (s := S2x512x768) off S1x512x768.size inb)).write (Elt F) f w Finset.univ ((Rect.unit (s := S2x512x768) off S1x512x768.size inb).emb j) = w j :=
      View.write_emb_of_mem (v := outM.access (Rect.unit (s := S2x512x768) off S1x512x768.size inb)) f w (Finset.mem_univ j)
    rw [he] at e
    rw [e, hw]
    refine (shapeCast_addUnit_apply ![512, 768] _ _ _).trans ?_
    refine congrArg (FloatOps.extf FTy.f32 bitsLt_bf16_f32) (show G I ((Rect.unit (s := S1024x768) off' S512x768.size inb').emb _) = G I _ from congrArg (G I) ?_)
    refine emb_row inb' ho' _ _ ?_ rfl
    have h1 : (i (1 : Fin 3)).val < 512 := (i (1 : Fin 3)).isLt
    have h0 := b.isLt
    refine (at_val (512 * (i (0 : Fin 3)).val + (i (1 : Fin 3)).val) (by rw [hi]; omega) (i (2 : Fin 3))).trans ?_
    rw [hi]
    rfl
  · rw [if_neg hi]
    refine View.write_of_not_mem (v := outM.access (Rect.unit (s := S2x512x768) off S1x512x768.size inb)) f w Finset.univ ?_
    intro hm
    obtain ⟨j, -, hj⟩ := Finset.mem_map.mp hm
    refine hi ?_
    have := out_emb inb b ho j 0
    rw [← hj]
    exact this

/-- A copy of step `k` of the all-gather credits what the reduction's does: as much as its shape. -/
theorem ag_credit (k : Fin 4) {off sz : Fin 2 → ℕ} (inb : ∀ x, off x + sz x ≤ S1024x768.size x) (hs : sz = ![len k, 768]) (h : ∀ a, (Rect.unit (s := S1024x768) off sz inb).stride a = 1) :
    (agM.slice (Rect.unit (s := S1024x768) off sz inb) h).view.dmaCredit = nk k := by
  subst hs
  have e1 : (agM.slice (Rect.unit (s := S1024x768) off ![len k, 768] inb) h).view.dmaCredit = RefSig.tileCredit ⟨2, ![len k, 768]⟩ .bf16 := rfl
  have e2 : nk k = RefSig.tileCredit ⟨2, ![len k, 768]⟩ .bf16 := by fin_cases k <;> rfl
  exact e1.trans e2.symm

/-- So does the wait for a staging. -/
theorem snd_credit (k : Fin 4) {off sz : Fin 2 → ℕ} (inb : ∀ x, off x + sz x ≤ S960x768.size x) (hs : sz = ![len k, 768]) (h : ∀ a, (Rect.unit (s := S960x768) off sz inb).stride a = 1) :
    (sndM.slice (Rect.unit (s := S960x768) off sz inb) h).view.dmaCredit = nk k := by
  subst hs
  have e1 : (sndM.slice (Rect.unit (s := S960x768) off ![len k, 768] inb) h).view.dmaCredit = RefSig.tileCredit ⟨2, ![len k, 768]⟩ .bf16 := rfl
  have e2 : nk k = RefSig.tileCredit ⟨2, ![len k, 768]⟩ .bf16 := by fin_cases k <;> rfl
  exact e1.trans e2.symm

/-- The reduction ends, and the own piece is sent. -/
theorem part21 (w w' : BitVec 32) (v : Vec F S64x768 .f32)
    (hv : ∀ (j : S64x768.Idx) (i : S1024x768.Idx), (i (0 : Fin 2)).val = lo 3 c + (j (0 : Fin 2)).val → (i (1 : Fin 2)).val = (j (1 : Fin 2)).val → v j = A I 3 c i) :
    iprop(Invs I κ ∗ rcvP c 3 (recvd I c) ∗ AccKeep I c 3 ∗ (∃ f, agP (F := F) c (reg 4 c) fullShare f) ∗ AgTok c 3 ∗ Owe c [pG 3 c, pG 2 c, pG 1 c, pG 0 c])
      ⊢ (wp frame (wpE defs₀ Variants.none (c : Thread nD τ) none) Set.univ (onBufs (k0_part21 (F := F)) c w w' v)
        (fun _ => iprop(Owe c [pG 2 c, pG 1 c, pG 0 c] ∗ rcvP c 3 (recvd I c) ∗ AccKeep I c 4 ∗ Tick c (agS 3) 0 ∗ AgSt I c 4 3)) : sProp 𝕄) := by
  simp only [onBufs, k0_part21_eq_skeleton, k0_part21_skel]
  simp only [Prog.lift, Prog.bind_op, Prog.bind_ret, Prog.pure_eq_ret]
  unfold AccKeep AgTok
  iintro ⟨#HI, HR, ⟨%f, HA, %hf⟩, HG, ⟨HL, HtR, Hd, HrR⟩, HO⟩
  iapply (wp_rcv_load I c 3 inb_S960x768_S64x768_896_0 rfl rfl) $$ [HR]
  · iexact HR
  iintro HR
  iapply (wp_acc_load c f) $$ [HA]
  · iexact HA
  iintro HA
  have hf' := acc_step I c 3 f (k0_off17_inb c) (off17_eq c) rfl
    (k0_pay58 v (View.readAt (Elt F) rcvM.view (Rect.unit (s := S960x768) ![896, 0] S64x768.size inb_S960x768_S64x768_896_0).toLoadRect (recvd I c)))
    (fun j i h0 h1 => (congrFun (shapeCast_id (s := S64x768) _ _) j).trans ((add_at _ _ _ _ _ _ (hv j i h0 h1) (rcv_load I c 3 inb_S960x768_S64x768_896_0 rfl rfl j i h0 h1)).trans (A_succ I c 3 i).symm))
  iapply (wp_acc_store c f (k0_off17_inb c)) $$ [HA]
  · iexact HA
  iintro HA
  generalize (accM.access (Rect.unit (s := S1024x768) (k0_off17 c) S64x768.size (k0_off17_inb c))).write (Elt F) f _ Finset.univ = f' at hf' ⊢
  iapply (wp_acc_load c f') $$ [HA]
  · iexact HA
  iintro HA
  iapply (wp_own_load c (k0_off17_inb c) (off17_eq c) rfl) $$ [HG]
  · iexact HG
  iintro %u HG
  iapply (wp_own_store I c (k0_off17_inb c) (off17_eq c) rfl
    (fun j i h0 h1 => (congrFun (shapeCast_id (s := S64x768) _ _) j).trans (tr_at _ _ _ _ (acc_load I c 4 f' hf' (lo 3 c) 64 (Finset.Subset.refl _) (k0_off17_inb c) (off17_eq c) rfl j i h0 h1)))) $$ [HG]
  · iexact HG
  iintro HG
  ihave HS := (agSt_start I c) $$ HG
  ihave HS := (show (AgSt I c 4 4 : sProp 𝕄) ⊢ iprop(agP c (reg 4 c) (sh 3) (G I) ∗ AgSt I c 4 3) from agSt_send I c 3) $$ HS
  icases HS with ⟨Hs, HS⟩
  iapply (wp_ag_send I κ c 3 (k0_off18_inb c) (off18_eq c) rfl (dev9_eq c) [pG 2 c, pG 1 c, pG 0 c] (ag_credit 3 (k0_off18_inb c) rfl (fun _ => rfl))) $$ [Hs Hd HO HL HtR HrR]
  · isplitr; · iexact HI
    isplitl [Hs]; · iexact Hs
    isplitl [Hd]; · iexact Hd
    isplitl [HO]; · iexact HO
    isplitl [HL]; · iexact HL
    isplitl [HtR]; · iexact HtR
    iexact HrR
  iintro ⟨HT, HO⟩
  rw [wp_ret]
  imodintro
  isplitl [HO]; · iexact HO
  isplitl [HR]; · iexact HR
  isplitl [HA]
  · iexists f'
    isplitl [HA]; · iexact HA
    ipureintro; exact hf'
  isplitl [HT]; · iexact HT
  iexact HS

/-- The piece of the first neighbour arrives; both are sent on, and the next neighbour's arrive. -/
theorem part22 (w w' w'' : BitVec 32) :
    iprop(Invs I κ ∗ Lev ∗ AgSt I c 4 3 ∗ Tick c (agR 3) 6 ∗ AgTok c 2 ∗ Tick c (agR 2) 7 ∗ Owe c [pG 2 c, pG 1 c, pG 0 c])
      ⊢ (wp frame (wpE defs₀ Variants.none (c : Thread nD τ) none) Set.univ (onBufs (k0_part22 (F := F)) c w w' w'')
        (fun _ => iprop(Owe c [pG 1 c, pG 0 c] ∗ Done c (agR 3) ∗ Tick c (agS 2) 0 ∗ Done c (agR 2) ∗ AgSt I c 2 2)) : sProp 𝕄) := by
  simp only [onBufs, k0_part22_eq_skeleton, k0_part22_skel]
  simp only [Prog.lift, Prog.bind_op, Prog.bind_ret, Prog.pure_eq_ret]
  unfold AgTok
  iintro ⟨#HI, #Hlev, HS, HW, ⟨HLb, HtRb, Hdb, HrRb⟩, HWb, HO⟩
  iapply (wp_ag_wait I κ c 3 [pG 2 c, pG 1 c, pG 0 c] (above_G 2 (by decide) (above_G 1 (by decide) (above_G 0 (by decide) (aboveL_nil _)))) (ag_credit 3 (k0_off18_inb c) rfl (fun _ => rfl))) $$ [HO HW]
  · isplitr; · iexact HI
    isplitr; · iexact Hlev
    isplitl [HW]; · iexact HW
    iexact HO
  iintro ⟨HO, HD, HN⟩
  ihave HS := (show iprop(AgSt I c 4 3 ∗ agP c (reg 4 (nb 3 c)) fullShare (G I)) ⊢ (AgSt I c 3 3 : sProp 𝕄) from agSt_recv I c 3) $$ [HS HN]
  · isplitl [HS]; · iexact HS
    iexact HN
  ihave HS := (show (AgSt I c 3 3 : sProp 𝕄) ⊢ iprop(agP c (reg 3 c) (sh 2) (G I) ∗ AgSt I c 3 2) from agSt_send I c 2) $$ HS
  icases HS with ⟨Hs, HS⟩
  iapply (wp_ag_send I κ c 2 (k0_off19_inb c) (off19_eq c) rfl (dev10_eq c) [pG 1 c, pG 0 c] (ag_credit 2 (k0_off19_inb c) rfl (fun _ => rfl))) $$ [Hs Hdb HO HLb HtRb HrRb]
  · isplitr; · iexact HI
    isplitl [Hs]; · iexact Hs
    isplitl [Hdb]; · iexact Hdb
    isplitl [HO]; · iexact HO
    isplitl [HLb]; · iexact HLb
    isplitl [HtRb]; · iexact HtRb
    iexact HrRb
  iintro ⟨HTb, HO⟩
  iapply (wp_ag_wait I κ c 2 [pG 1 c, pG 0 c] (above_G 1 (by decide) (above_G 0 (by decide) (aboveL_nil _))) (ag_credit 2 (k0_off19_inb c) rfl (fun _ => rfl))) $$ [HO HWb]
  · isplitr; · iexact HI
    isplitr; · iexact Hlev
    isplitl [HWb]; · iexact HWb
    iexact HO
  iintro ⟨HO, HDb, HN⟩
  ihave HS := (show iprop(AgSt I c 3 2 ∗ agP c (reg 3 (nb 2 c)) fullShare (G I)) ⊢ (AgSt I c 2 2 : sProp 𝕄) from agSt_recv I c 2) $$ [HS HN]
  · isplitl [HS]; · iexact HS
    iexact HN
  rw [wp_ret]
  imodintro
  isplitl [HO]; · iexact HO
  isplitl [HD]; · iexact HD
  isplitl [HTb]; · iexact HTb
  isplitl [HDb]; · iexact HDb
  iexact HS

/-- The last two sends. -/
theorem part23 (w w' w'' w₃ : BitVec 32) :
    iprop(Invs I κ ∗ Lev ∗ AgSt I c 2 2 ∗ AgTok c 1 ∗ Tick c (agR 1) 8 ∗ AgTok c 0 ∗ Owe c [pG 1 c, pG 0 c])
      ⊢ (wp frame (wpE defs₀ Variants.none (c : Thread nD τ) none) Set.univ (onBufs (k0_part23 (F := F)) c w w' w'' w₃)
        (fun _ => iprop(Owe c [] ∗ Tick c (agS 1) 0 ∗ Done c (agR 1) ∗ Tick c (agS 0) 0 ∗ AgSt I c 1 0)) : sProp 𝕄) := by
  simp only [onBufs, k0_part23_eq_skeleton, k0_part23_skel]
  simp only [Prog.lift, Prog.bind_op, Prog.bind_ret, Prog.pure_eq_ret]
  unfold AgTok
  iintro ⟨#HI, #Hlev, HS, ⟨HL, HtR, Hd, HrR⟩, HW, ⟨HLb, HtRb, Hdb, HrRb⟩, HO⟩
  ihave HS := (show (AgSt I c 2 2 : sProp 𝕄) ⊢ iprop(agP c (reg 2 c) (sh 1) (G I) ∗ AgSt I c 2 1) from agSt_send I c 1) $$ HS
  icases HS with ⟨Hs, HS⟩
  iapply (wp_ag_send I κ c 1 (k0_off20_inb c) (off20_eq c) rfl (dev11_eq c) [pG 0 c] (ag_credit 1 (k0_off20_inb c) rfl (fun _ => rfl))) $$ [Hs Hd HO HL HtR HrR]
  · isplitr; · iexact HI
    isplitl [Hs]; · iexact Hs
    isplitl [Hd]; · iexact Hd
    isplitl [HO]; · iexact HO
    isplitl [HL]; · iexact HL
    isplitl [HtR]; · iexact HtR
    iexact HrR
  iintro ⟨HT, HO⟩
  iapply (wp_ag_wait I κ c 1 [pG 0 c] (above_G 0 (by decide) (aboveL_nil _)) (ag_credit 1 (k0_off20_inb c) rfl (fun _ => rfl))) $$ [HO HW]
  · isplitr; · iexact HI
    isplitr; · iexact Hlev
    isplitl [HW]; · iexact HW
    iexact HO
  iintro ⟨HO, HD, HN⟩
  ihave HS := (show iprop(AgSt I c 2 1 ∗ agP c (reg 2 (nb 1 c)) fullShare (G I)) ⊢ (AgSt I c 1 1 : sProp 𝕄) from agSt_recv I c 1) $$ [HS HN]
  · isplitl [HS]; · iexact HS
    iexact HN
  ihave HS := (show (AgSt I c 1 1 : sProp 𝕄) ⊢ iprop(agP c (reg 1 c) (sh 0) (G I) ∗ AgSt I c 1 0) from agSt_send I c 0) $$ HS
  icases HS with ⟨Hs, HS⟩
  iapply (wp_ag_send I κ c 0 (k0_off21_inb c) (off21_eq c) rfl (dev12_eq c) [] (ag_credit 0 (k0_off21_inb c) rfl (fun _ => rfl))) $$ [Hs Hdb HO HLb HtRb HrRb]
  · isplitr; · iexact HI
    isplitl [Hs]; · iexact Hs
    isplitl [Hdb]; · iexact Hdb
    isplitl [HO]; · iexact HO
    isplitl [HLb]; · iexact HLb
    isplitl [HtRb]; · iexact HtRb
    iexact HrRb
  iintro ⟨HTb, HO⟩
  rw [wp_ret]
  imodintro
  isplitl [HO]; · iexact HO
  isplitl [HT]; · iexact HT
  isplitl [HD]; · iexact HD
  isplitl [HTb]; · iexact HTb
  iexact HS

/-- The last rows arrive, the result is written, and the first two stagings are free again. -/
theorem part24 :
    iprop(Invs I κ ∗ Lev ∗ AgSt I c 1 0 ∗ Tick c (agR 0) 9 ∗ (∃ f, whole' c outM f) ∗ Tick c (rsS 0) 0 ∗ Tick c (rsS 1) 0 ∗ Owe c [])
      ⊢ (wp frame (wpE defs₀ Variants.none (c : Thread nD τ) none) Set.univ (onBufs (k0_part24 (F := F)) c)
        (fun _ => iprop(Owe c [] ∗ Done c (agR 0) ∗ AgSt I c 0 0 ∗ whole' c outM (res I) ∗ Done c (rsS 0) ∗ sndP c 0 (sent I c) ∗ Done c (rsS 1) ∗ sndP c 1 (sent I c))) : sProp 𝕄) := by
  simp only [onBufs, k0_part24_eq_skeleton, k0_part24_skel]
  simp only [Prog.lift, Prog.bind_op, Prog.bind_ret, Prog.pure_eq_ret]
  iintro ⟨#HI, #Hlev, HS, HW, ⟨%g, Hout⟩, HF0, HF1, HO⟩
  iapply (wp_ag_wait I κ c 0 [] (aboveL_nil _) (ag_credit 0 (k0_off21_inb c) rfl (fun _ => rfl))) $$ [HO HW]
  · isplitr; · iexact HI
    isplitr; · iexact Hlev
    isplitl [HW]; · iexact HW
    iexact HO
  iintro ⟨HO, HD, HN⟩
  ihave HS := (show iprop(AgSt I c 1 0 ∗ agP c (reg 1 (nb 0 c)) fullShare (G I)) ⊢ (AgSt I c 0 0 : sProp 𝕄) from agSt_recv I c 0) $$ [HS HN]
  · isplitl [HS]; · iexact HS
    iexact HN
  unfold AgSt
  icases HS with ⟨S0, S1, S2, S3, Hr⟩
  iapply (wp_load Variants.none (c : Thread nD τ) none Set.univ (m := agM) (f := G I) (q := shr) (S := (reg 0 c : Finset S1024x768.Idx)) (by rw [reg_zero]; exact Finset.subset_univ _)) $$ [Hr]
  · iexact Hr
  iintro Hr
  iapply (wp_load Variants.none (c : Thread nD τ) none Set.univ (m := outM) (f := g) (q := fullShare) (S := (Finset.univ : Finset S2x512x768.Idx)) (Finset.subset_univ _)) $$ [Hout]
  · iexact Hout
  iintro Hout
  iapply (wp_store Variants.none (c : Thread nD τ) none Set.univ (m := outM) (r := Rect.unit (s := S2x512x768) ![0, 0, 0] S1x512x768.size inb_S2x512x768_S1x512x768_0_0_0) (f := g) (S := (Finset.univ : Finset S2x512x768.Idx)) (Finset.subset_univ _)) $$ [Hout]
  · iexact Hout
  iintro Hout
  have h0 := out_store I 0 g inb_S2x512x768_S1x512x768_0_0_0 rfl inb_S1024x768_S512x768_0_0 rfl
    (k0_pay60 (View.readAt (Elt F) agM.view (Rect.unit (s := S1024x768) ![0, 0] S512x768.size inb_S1024x768_S512x768_0_0).toLoadRect (G I))) rfl
  generalize (outM.access (Rect.unit (s := S2x512x768) ![0, 0, 0] S1x512x768.size inb_S2x512x768_S1x512x768_0_0_0)).write (Elt F) g _ Finset.univ = g₁ at h0 ⊢
  iapply (wp_load Variants.none (c : Thread nD τ) none Set.univ (m := agM) (f := G I) (q := shr) (S := (reg 0 c : Finset S1024x768.Idx)) (by rw [reg_zero]; exact Finset.subset_univ _)) $$ [Hr]
  · iexact Hr
  iintro Hr
  iapply (wp_load Variants.none (c : Thread nD τ) none Set.univ (m := outM) (f := g₁) (q := fullShare) (S := (Finset.univ : Finset S2x512x768.Idx)) (Finset.subset_univ _)) $$ [Hout]
  · iexact Hout
  iintro Hout
  iapply (wp_store Variants.none (c : Thread nD τ) none Set.univ (m := outM) (r := Rect.unit (s := S2x512x768) ![1, 0, 0] S1x512x768.size inb_S2x512x768_S1x512x768_1_0_0) (f := g₁) (S := (Finset.univ : Finset S2x512x768.Idx)) (Finset.subset_univ _)) $$ [Hout]
  · iexact Hout
  iintro Hout
  have h1 := out_store I 1 g₁ inb_S2x512x768_S1x512x768_1_0_0 rfl inb_S1024x768_S512x768_512_0 rfl
    (k0_pay61 (View.readAt (Elt F) agM.view (Rect.unit (s := S1024x768) ![512, 0] S512x768.size inb_S1024x768_S512x768_512_0).toLoadRect (G I))) rfl
  generalize (outM.access (Rect.unit (s := S2x512x768) ![1, 0, 0] S1x512x768.size inb_S2x512x768_S1x512x768_1_0_0)).write (Elt F) g₁ _ Finset.univ = g₂ at h1 ⊢
  have hout : g₂ = res I := by
    funext i
    rw [h1 i]
    by_cases hi : (i (0 : Fin 3)).val = 1
    · exact if_pos hi
    · refine (if_neg hi).trans ((h0 i).trans (if_pos ?_))
      have h2 : (i (0 : Fin 3)).val < 2 := (i (0 : Fin 3)).isLt
      show (i (0 : Fin 3)).val = 0
      omega
  subst hout
  iapply (wp_rs_free I κ c 0 (snd_credit 0 inb_S960x768_S512x768_0_0 rfl (fun _ => rfl))) $$ [HO HF0]
  · isplitr; · iexact HI
    isplitr; · iexact Hlev
    isplitl [HF0]; · iexact HF0
    iexact HO
  iintro ⟨HO, HE0, HP0⟩
  iapply (wp_rs_free I κ c 1 (snd_credit 1 inb_S960x768_S256x768_512_0 rfl (fun _ => rfl))) $$ [HO HF1]
  · isplitr; · iexact HI
    isplitr; · iexact Hlev
    isplitl [HF1]; · iexact HF1
    iexact HO
  iintro ⟨HO, HE1, HP1⟩
  rw [wp_ret]
  imodintro
  isplitl [HO]; · iexact HO
  isplitl [HD]; · iexact HD
  isplitl [S0 S1 S2 S3 Hr]
  · isplitl [S0]; · iexact S0
    isplitl [S1]; · iexact S1
    isplitl [S2]; · iexact S2
    isplitl [S3]; · iexact S3
    iexact Hr
  isplitl [Hout]; · iexact Hout
  isplitl [HE0]; · iexact HE0
  isplitl [HP0]; · iexact HP0
  isplitl [HE1]; · iexact HE1
  iexact HP1

end Cert.KernelIdeal.Proof

end
-- ==== Proof.Body.lean ====
module

public import proofs.«01_k».proof.Proof.Gather
public import proofs.«01_k».proof.Proof.Talk1

@[expose] public section

/-! # The body

The parts one after the other: from the rights and buffers of a device to the result in its buffer, every copy waited for. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.Tactic
open Cert.KernelIdeal Cert.KernelIdeal.Gen

variable {F : FTy → Type} [FloatOps F]

local notation "𝕄" => MT nD τ sig ℕ (Elt F) ℕ UU ℕ

variable (I : Dev nD → Inp F) (κ : GSem nD τ sig → ℕ) (c : Dev nD)

/-- A call, and the rest of the program with what it returns. -/
theorem wp_call {α β : Type} {P : sProp 𝕄} {p : Prog (TpuEff nD τ sig (Elt F) Λ₀ .tc) β} {k : β → Prog (TpuEff nD τ sig (Elt F) Λ₀ .tc) α} {S : β → sProp 𝕄} {Q : α → sProp 𝕄}
    (h : P ⊢ wp frame (wpE defs₀ Variants.none (c : Thread nD τ) none) Set.univ p S) :
    P ⊢ iprop((∀ r, S r -∗ wp frame (wpE defs₀ Variants.none (c : Thread nD τ) none) Set.univ (k r) Q)
      -∗ wp frame (wpE defs₀ Variants.none (c : Thread nD τ) none) Set.univ (p >>= k) Q) := by
  iintro HP Hk
  iapply (wp_then c h (R := iprop(∀ r, S r -∗ wp frame (wpE defs₀ Variants.none (c : Thread nD τ) none) Set.univ (k r) Q)) fun r => by
    iintro ⟨HS, Hk⟩
    iapply Hk
    iexact HS)
  isplitl [HP]; · iexact HP
  iexact Hk

/-- The part that only compares indices. -/
theorem part2 (v : IVec S512x512 32) (w : BitVec 32) :
    (emp : sProp 𝕄) ⊢ (wp frame (wpE defs₀ Variants.none (c : Thread nD τ) none) Set.univ (onBufs (k0_part2 (F := F)) v w)
        (fun r => iprop(⌜r = ⟨k0_pay1 v w, k0_pay2, k0_pay3, k0_pay4⟩⌝)) : sProp 𝕄) := by
  simp only [onBufs, k0_part2_eq_skeleton, k0_part2_skel]
  simp only [Prog.pure_eq_ret]
  rw [wp_ret]
  iintro _
  imodintro
  ipureintro
  rfl

/-- The rights of device `c` in step `k`: its signal, its two copies, and the two waits for its neighbour's. -/
def StepTok (c : Dev nD) (k : Fin 4) : sProp 𝕄 :=
  iprop(dutyTok ER (barCell (nb k c)) 0 k ∗ reached ER (barCell (nb k c)) 0 ∗ LocTok c (rsS k) ∗ LocTok c (agS k)
    ∗ dutyTok ER (dCell (nb k c) (rsR k)) 0 0 ∗ dutyTok ER (dCell (nb k c) (agR k)) 0 0
    ∗ reached ER (dCell c (rsR k)) 0 ∗ reached ER (dCell c (agR k)) 0
    ∗ Tick c (rsR k) (2 + k.val) ∗ Tick c (agR k) (9 - k.val))

/-- The rights of device `c` in the launch. -/
def Rights (c : Dev nD) : sProp 𝕄 :=
  iprop(cred (tallyAt (barCell c) 1 4) ∗ atPos ER (barCell c) 0 ∅ 0 ∗ LocTok c 4 ∗ LocTok c 5
    ∗ StepTok c 0 ∗ StepTok c 1 ∗ StepTok c 2 ∗ StepTok c 3)

/-- The scratch buffers, at any contents. -/
def Scr (c : Dev nD) : sProp 𝕄 :=
  iprop((∃ f, whole' c kM f) ∗ (∃ f, whole' c vM f) ∗ (∃ f, whole' c accM f) ∗ (∃ f, whole' c ctxM f) ∗ (∃ f, whole' c sndM f) ∗ (∃ f, whole' c rcvM f) ∗ (∃ f, whole' c agM f))

/-- The inputs of the launch. -/
def InBufs (I : Dev nD → Inp F) (c : Dev nD) : sProp 𝕄 :=
  iprop(whole' c xM (I c).x ∗ whole' c wqM (I c).wq ∗ whole' c khM (I c).k ∗ whole' c vhM (I c).v ∗ whole' c woM (I c).wo)

/-- Every own DMA cell after its round. -/
def AllDone (c : Dev nD) : sProp 𝕄 :=
  iprop(Done c 4 ∗ Done c 5 ∗ Done c (rsS 0) ∗ Done c (rsS 1) ∗ Done c (rsS 2) ∗ Done c (rsS 3) ∗ Done c (rsR 0) ∗ Done c (rsR 1) ∗ Done c (rsR 2) ∗ Done c (rsR 3)
    ∗ Done c (agS 3) ∗ Done c (agS 2) ∗ Done c (agS 1) ∗ Done c (agS 0) ∗ Done c (agR 3) ∗ Done c (agR 2) ∗ Done c (agR 1) ∗ Done c (agR 0))

/-- What the body leaves before its last two waits. -/
def Late (I : Dev nD → Inp F) (c : Dev nD) : sProp 𝕄 :=
  iprop(Owe c [] ∗ atPos ER (barCell c) 1 ∅ 0
    ∗ (Done c 4 ∗ Done c 5 ∗ Done c (rsS 0) ∗ Done c (rsS 1) ∗ Done c (rsS 2) ∗ Done c (rsS 3) ∗ Done c (rsR 0) ∗ Done c (rsR 1) ∗ Done c (rsR 2) ∗ Done c (rsR 3)
      ∗ Done c (agS 3) ∗ Done c (agS 2) ∗ Done c (agR 3) ∗ Done c (agR 2) ∗ Done c (agR 1) ∗ Done c (agR 0))
    ∗ Tick c (agS 1) 0 ∗ Tick c (agS 0) 0
    ∗ AgSt I c 0 0 ∗ agP c (reg 4 c) (sh 3) (G I) ∗ agP c (reg 3 c) (sh 2) (G I)
    ∗ InBufs I c ∗ whole' c outM (res I)
    ∗ (∃ f, whole' c kM f) ∗ (∃ f, whole' c vM f) ∗ (∃ f, whole' c accM f) ∗ (∃ f, whole' c ctxM f) ∗ (∃ f, whole' c sndM f) ∗ (∃ f, whole' c rcvM f))

/-- The body up to its last two waits. -/
theorem part25 :
    iprop(Invs I κ ∗ Lev ∗ Owe c (dueL c) ∗ Rights c ∗ InBufs I c ∗ (∃ f, whole' c outM f) ∗ Scr c)
      ⊢ (wp frame (wpE defs₀ Variants.none (c : Thread nD τ) none) Set.univ (onBufs (k0_part25 (F := F)))
        (fun r => iprop(⌜r = c⌝ ∗ Late I c)) : sProp 𝕄) := by
  simp only [onBufs, k0_part25_eq_skeleton, k0_part25_skel]
  simp only [Prog.lift, Prog.bind_op, Prog.bind_ret, Prog.pure_eq_ret]
  unfold Rights Scr InBufs StepTok
  iintro ⟨#HI, #Hlev, HO, ⟨HcB, HatB, HL4, HL5, ⟨Ht0, Hb0, HrsS0, HagS0, HrsD0, HagD0, #Hr0, #Hq0, HrsW0, HagW0⟩, ⟨Ht1, Hb1, HrsS1, HagS1, HrsD1, HagD1, #Hr1, #Hq1, HrsW1, HagW1⟩, ⟨Ht2, Hb2, HrsS2, HagS2, HrsD2, HagD2, #Hr2, #Hq2, HrsW2, HagW2⟩, ⟨Ht3, Hb3, HrsS3, HagS3, HrsD3, HagD3, #Hr3, #Hq3, HrsW3, HagW3⟩⟩, ⟨HX, HWq, Hkh, Hvh, HWo⟩, Hout, ⟨Hk, Hv, Hacc, ⟨%g, Hctx⟩, ⟨%fs, Hsnd⟩, ⟨%fr, Hrcv⟩, ⟨%fa, Hag⟩⟩⟩
  ihave Hsnd := (snd_split c fs).1 $$ Hsnd
  icases Hsnd with ⟨Hs0, Hs1, Hs2, Hs3⟩
  ihave Hrcv := (rcv_split c fr).1 $$ Hrcv
  icases Hrcv with ⟨Hv0, Hv1, Hv2, Hv3⟩
  ihave Hag := (ag_split c fa) $$ Hag
  icases Hag with ⟨Hown, Hg0, Hg1, Hg2, Hg3⟩
  ihave HB0 : BarTok (F := F) c 0 $$ [Ht0 Hb0 Hv0 Hg0]
  · unfold BarTok
    isplitl [Ht0]; · iexact Ht0
    isplitl [Hb0]; · iexact Hb0
    isplitl [Hv0]; · iexists fr; iexact Hv0
    isplitl [Hg0]; · iexact Hg0
    isplitr; · iexact Hr0
    iexact Hq0
  ihave HB1 : BarTok (F := F) c 1 $$ [Ht1 Hb1 Hv1 Hg1]
  · unfold BarTok
    isplitl [Ht1]; · iexact Ht1
    isplitl [Hb1]; · iexact Hb1
    isplitl [Hv1]; · iexists fr; iexact Hv1
    isplitl [Hg1]; · iexact Hg1
    isplitr; · iexact Hr1
    iexact Hq1
  ihave HB2 : BarTok (F := F) c 2 $$ [Ht2 Hb2 Hv2 Hg2]
  · unfold BarTok
    isplitl [Ht2]; · iexact Ht2
    isplitl [Hb2]; · iexact Hb2
    isplitl [Hv2]; · iexists fr; iexact Hv2
    isplitl [Hg2]; · iexact Hg2
    isplitr; · iexact Hr2
    iexact Hq2
  ihave HB3 : BarTok (F := F) c 3 $$ [Ht3 Hb3 Hv3 Hg3]
  · unfold BarTok
    isplitl [Ht3]; · iexact Ht3
    isplitl [Hb3]; · iexact Hb3
    isplitl [Hv3]; · iexists fr; iexact Hv3
    isplitl [Hg3]; · iexact Hg3
    isplitr; · iexact Hr3
    iexact Hq3
  iapply (wp_call c (part1 I κ c)) $$ [HO HB0 HB1 HB2 HB3 HcB HatB HL4 HL5 Hkh Hvh Hk Hv]
  · isplitr; · iexact HI
    isplitr; · iexact Hlev
    isplitl [HO]; · iexact HO
    isplitl [HB0]; · iexact HB0
    isplitl [HB1]; · iexact HB1
    isplitl [HB2]; · iexact HB2
    isplitl [HB3]; · iexact HB3
    isplitl [HcB]; · iexact HcB
    isplitl [HatB]; · iexact HatB
    isplitl [HL4]; · iexact HL4
    isplitl [HL5]; · iexact HL5
    isplitl [Hkh]; · iexact Hkh
    isplitl [Hvh]; · iexact Hvh
    isplitl [Hk]; · iexact Hk
    iexact Hv
  iintro %r ⟨%hr, HO, HatB, Hp0, Hp1, Hp2, Hp3, HD4, HD5, Hkh, Hvh, Hk, Hv⟩
  obtain ⟨w, rfl⟩ := hr
  unfold barPay
  icases Hp0 with ⟨Hpv0, Hpg0, HprR0, HpgR0⟩
  icases Hp1 with ⟨Hpv1, Hpg1, HprR1, HpgR1⟩
  icases Hp2 with ⟨Hpv2, Hpg2, HprR2, HpgR2⟩
  icases Hp3 with ⟨Hpv3, Hpg3, HprR3, HpgR3⟩
  ihave HR0 : RsTok (F := F) c 0 $$ [HrsS0 HrsD0 Hpv0 HprR0]
  · unfold RsTok
    isplitl [HrsS0]; · iexact HrsS0
    isplitl [HrsD0]; · iexact HrsD0
    isplitl [Hpv0]; · iexact Hpv0
    iexact HprR0
  ihave HA0 : AgTok (F := F) c 0 $$ [HagS0 HagD0 Hpg0 HpgR0]
  · unfold AgTok
    isplitl [HagS0]; · iexact HagS0
    isplitl [HagD0]; · iexact HagD0
    isplitl [Hpg0]; · iexact Hpg0
    iexact HpgR0
  ihave HR1 : RsTok (F := F) c 1 $$ [HrsS1 HrsD1 Hpv1 HprR1]
  · unfold RsTok
    isplitl [HrsS1]; · iexact HrsS1
    isplitl [HrsD1]; · iexact HrsD1
    isplitl [Hpv1]; · iexact Hpv1
    iexact HprR1
  ihave HA1 : AgTok (F := F) c 1 $$ [HagS1 HagD1 Hpg1 HpgR1]
  · unfold AgTok
    isplitl [HagS1]; · iexact HagS1
    isplitl [HagD1]; · iexact HagD1
    isplitl [Hpg1]; · iexact Hpg1
    iexact HpgR1
  ihave HR2 : RsTok (F := F) c 2 $$ [HrsS2 HrsD2 Hpv2 HprR2]
  · unfold RsTok
    isplitl [HrsS2]; · iexact HrsS2
    isplitl [HrsD2]; · iexact HrsD2
    isplitl [Hpv2]; · iexact Hpv2
    iexact HprR2
  ihave HA2 : AgTok (F := F) c 2 $$ [HagS2 HagD2 Hpg2 HpgR2]
  · unfold AgTok
    isplitl [HagS2]; · iexact HagS2
    isplitl [HagD2]; · iexact HagD2
    isplitl [Hpg2]; · iexact Hpg2
    iexact HpgR2
  ihave HR3 : RsTok (F := F) c 3 $$ [HrsS3 HrsD3 Hpv3 HprR3]
  · unfold RsTok
    isplitl [HrsS3]; · iexact HrsS3
    isplitl [HrsD3]; · iexact HrsD3
    isplitl [Hpv3]; · iexact Hpv3
    iexact HprR3
  ihave HA3 : AgTok (F := F) c 3 $$ [HagS3 HagD3 Hpg3 HpgR3]
  · unfold AgTok
    isplitl [HagS3]; · iexact HagS3
    isplitl [HagD3]; · iexact HagD3
    isplitl [Hpg3]; · iexact Hpg3
    iexact HpgR3
  iapply (wp_call c (part2 c (iota .tc S512x512 32 [0] iota_S512x512_d0_w32) 64#32)) $$ []
  · iempintro
  iintro %r %hr
  subst hr
  ihave HIns : Ins c (I c) $$ [HX HWq Hk Hv HWo]
  · isplitl [HX]; · iexact HX
    isplitl [HWq]; · iexact HWq
    isplitl [Hk]; · iexact Hk
    isplitl [Hv]; · iexact Hv
    iexact HWo
  iapply (wp_call c (part3 c (I c) _)) $$ [HIns]
  · iexact HIns
  iintro %r ⟨%hr, HIns⟩
  subst hr
  ihave Hctx : Ctx c (I c) (bat' c) 0 $$ [Hctx]
  · iexists g
    isplitl [Hctx]; · iexact Hctx
    ipureintro; exact ctxOk_zero _ _ _
  iapply (wp_call c (part4 c (I c) _)) $$ [HIns Hctx]
  · isplitl [HIns]; · iexact HIns
    iexact Hctx
  iintro %r ⟨%hr, HIns, Hctx⟩
  subst hr
  iapply (wp_call c (part5 c (I c) _)) $$ [HIns Hctx]
  · isplitl [HIns]; · iexact HIns
    iexact Hctx
  iintro %r ⟨%hr, HIns, Hctx⟩
  subst hr
  iapply (wp_call c (part6 c (I c) _)) $$ [HIns Hctx]
  · isplitl [HIns]; · iexact HIns
    iexact Hctx
  iintro %r ⟨%hr, HIns, Hctx⟩
  subst hr
  iapply (wp_call c (part7 c (I c) _)) $$ [HIns Hctx]
  · isplitl [HIns]; · iexact HIns
    iexact Hctx
  iintro %r ⟨%hr, HIns, Hctx⟩
  subst hr
  iapply (wp_call c (part8 c (I c) _)) $$ [HIns Hctx]
  · isplitl [HIns]; · iexact HIns
    iexact Hctx
  iintro %r ⟨%hr, HIns, Hctx⟩
  subst hr
  iapply (wp_call c (part9 c (I c) _)) $$ [HIns Hctx Hacc]
  · isplitl [HIns]; · iexact HIns
    isplitl [Hctx]; · iexact Hctx
    iexact Hacc
  iintro %r ⟨%hr, HIns, ⟨%g', Hctx, %hg'⟩, Hacc⟩
  subst hr
  clear hg' g
  ihave Hs0 : iprop(∃ f, sndP (F := F) c 0 f) $$ [Hs0]
  · iexists fs; iexact Hs0
  iapply (wp_call c (part10 I κ c _ _ [pR 1 c, pR 2 c, pR 3 c, pG 3 c, pG 2 c, pG 1 c, pG 0 c])) $$ [HR0 Hs0 HO HIns]
  · isplitr; · iexact HI
    isplitl [HR0]; · iexact HR0
    isplitl [Hs0]; · iexact Hs0
    isplitl [HO]; · iexact HO
    iexact HIns
  iintro %r ⟨%hr, HTrS0, HO, HIns⟩
  obtain ⟨a, b, rfl⟩ := hr
  ihave Hctx : Ctx c (I c) (bat c) 0 $$ [Hctx]
  · iexists g'
    isplitl [Hctx]; · iexact Hctx
    ipureintro; exact ctxOk_zero _ _ _
  iapply (wp_call c (part11 c (I c) _)) $$ [HIns Hctx]
  · isplitl [HIns]; · iexact HIns
    iexact Hctx
  iintro %r ⟨%hr, HIns, Hctx⟩
  subst hr
  iapply (wp_call c (part12 c (I c) _)) $$ [HIns Hctx]
  · isplitl [HIns]; · iexact HIns
    iexact Hctx
  iintro %r ⟨%hr, HIns, Hctx⟩
  subst hr
  iapply (wp_call c (part13 c (I c) _)) $$ [HIns Hctx]
  · isplitl [HIns]; · iexact HIns
    iexact Hctx
  iintro %r ⟨%hr, HIns, Hctx⟩
  subst hr
  iapply (wp_call c (part14 c (I c) _)) $$ [HIns Hctx]
  · isplitl [HIns]; · iexact HIns
    iexact Hctx
  iintro %r ⟨%hr, HIns, Hctx⟩
  subst hr
  iapply (wp_call c (part15 c (I c) _)) $$ [HIns Hctx]
  · isplitl [HIns]; · iexact HIns
    iexact Hctx
  iintro %r ⟨%hr, HIns, Hctx⟩
  subst hr
  iapply (wp_call c (part16 c (I c) _ _ _)) $$ [HIns Hctx Hacc]
  · isplitl [HIns]; · iexact HIns
    isplitl [Hctx]; · iexact Hctx
    iexact Hacc
  iintro %r ⟨HIns, ⟨%g'', Hctx, %hg''⟩, ⟨%fA, Hacc, %hA⟩⟩
  ihave Hacc : AccKeep I c 0 $$ [Hacc]
  · unfold AccKeep
    iexists fA
    isplitl [Hacc]; · iexact Hacc
    ipureintro
    intro i _
    rw [hA]
    rfl
  ihave Hs1 : iprop(∃ f, sndP (F := F) c 1 f) $$ [Hs1]
  · iexists fs; iexact Hs1
  iapply (wp_call c (part17 I κ c _ _)) $$ [HrsW0 HO Hacc Hs1]
  · isplitr; · iexact HI
    isplitr; · iexact Hlev
    isplitl [HrsW0]; · iexact HrsW0
    isplitl [HO]; · iexact HO
    isplitl [Hacc]; · iexact Hacc
    iexact Hs1
  iintro %r ⟨HO, HDrR0, HV0, Hacc, HS1⟩
  obtain ⟨w1, w2⟩ := r
  iapply (wp_call c (part18 I κ c _ _ _)) $$ [HR1 HS1 HrsW1 HO Hacc]
  · isplitr; · iexact HI
    isplitr; · iexact Hlev
    isplitl [HR1]; · iexact HR1
    isplitl [HS1]; · iexact HS1
    isplitl [HrsW1]; · iexact HrsW1
    isplitl [HO]; · iexact HO
    iexact Hacc
  iintro %r ⟨%hv, HO, HTrS1, HDrR1, HV1, Hacc⟩
  obtain ⟨w3, v⟩ := r
  ihave Hs2 : iprop(∃ f, sndP (F := F) c 2 f) $$ [Hs2]
  · iexists fs; iexact Hs2
  iapply (wp_call c (part19 I κ c _ _ v hv)) $$ [HR2 Hs2 HrsW2 HO Hacc]
  · isplitr; · iexact HI
    isplitr; · iexact Hlev
    isplitl [HR2]; · iexact HR2
    isplitl [Hs2]; · iexact Hs2
    isplitl [HrsW2]; · iexact HrsW2
    isplitl [HO]; · iexact HO
    iexact Hacc
  iintro %r ⟨HO, HTrS2, HDrR2, HV2, Hacc⟩
  obtain ⟨w4, w5⟩ := r
  ihave Hs3 : iprop(∃ f, sndP (F := F) c 3 f) $$ [Hs3]
  · iexists fs; iexact Hs3
  iapply (wp_call c (part20 I κ c _ _ _ _)) $$ [HR3 Hs3 HrsW3 HO Hacc]
  · isplitr; · iexact HI
    isplitr; · iexact Hlev
    isplitl [HR3]; · iexact HR3
    isplitl [Hs3]; · iexact Hs3
    isplitl [HrsW3]; · iexact HrsW3
    isplitl [HO]; · iexact HO
    iexact Hacc
  iintro %r ⟨%hv', HO, HTrS3, HDrR3, HV3, Hacc⟩
  obtain ⟨w6, v'⟩ := r
  iapply (wp_call c (part21 I κ c _ _ v' hv')) $$ [HV3 Hacc Hown HA3 HO]
  · isplitr; · iexact HI
    isplitl [HV3]; · iexact HV3
    isplitl [Hacc]; · iexact Hacc
    isplitl [Hown]; · iexact Hown
    isplitl [HA3]; · iexact HA3
    iexact HO
  iintro %r ⟨HO, HV3, Hacc, HTgS3, HG⟩
  iapply (wp_call c (part22 I κ c _ _ _)) $$ [HG HagW3 HA2 HagW2 HO]
  · isplitr; · iexact HI
    isplitr; · iexact Hlev
    isplitl [HG]; · iexact HG
    isplitl [HagW3]; · iexact HagW3
    isplitl [HA2]; · iexact HA2
    isplitl [HagW2]; · iexact HagW2
    iexact HO
  iintro %r ⟨HO, HDgR3, HTgS2, HDgR2, HG⟩
  obtain ⟨w7, w8, w9⟩ := r
  iapply (wp_call c (part23 I κ c _ _ _ _)) $$ [HG HA1 HagW1 HA0 HO]
  · isplitr; · iexact HI
    isplitr; · iexact Hlev
    isplitl [HG]; · iexact HG
    isplitl [HA1]; · iexact HA1
    isplitl [HagW1]; · iexact HagW1
    isplitl [HA0]; · iexact HA0
    iexact HO
  iintro %_r ⟨HO, HTgS1, HDgR1, HTgS0, HG⟩
  iapply (wp_call c (part24 I κ c)) $$ [HG HagW0 Hout HTrS0 HTrS1 HO]
  · isplitr; · iexact HI
    isplitr; · iexact Hlev
    isplitl [HG]; · iexact HG
    isplitl [HagW0]; · iexact HagW0
    isplitl [Hout]; · iexact Hout
    isplitl [HTrS0]; · iexact HTrS0
    isplitl [HTrS1]; · iexact HTrS1
    iexact HO
  iintro %_r ⟨HO, HDgR0, HG, Hout, HDrS0, HS0, HDrS1, HS1⟩
  simp only [Prog.lift, Prog.bind_op, Prog.bind_ret, Prog.pure_eq_ret]
  iapply (wp_rs_free I κ c 2 (snd_credit 2 inb_S960x768_S128x768_768_0 rfl (fun _ => rfl))) $$ [HO HTrS2]
  · isplitr; · iexact HI
    isplitr; · iexact Hlev
    isplitl [HTrS2]; · iexact HTrS2
    iexact HO
  iintro ⟨HO, HDrS2, HS2⟩
  iapply (wp_rs_free I κ c 3 (snd_credit 3 inb_S960x768_S64x768_896_0 rfl (fun _ => rfl))) $$ [HO HTrS3]
  · isplitr; · iexact HI
    isplitr; · iexact Hlev
    isplitl [HTrS3]; · iexact HTrS3
    iexact HO
  iintro ⟨HO, HDrS3, HS3⟩
  iapply (wp_ag_free I κ c 3 (ag_credit 3 (k0_off18_inb c) rfl (fun _ => rfl))) $$ [HO HTgS3]
  · isplitr; · iexact HI
    isplitr; · iexact Hlev
    isplitl [HTgS3]; · iexact HTgS3
    iexact HO
  iintro ⟨HO, HDgS3, HN3⟩
  iapply (wp_ag_free I κ c 2 (ag_credit 2 (k0_off19_inb c) rfl (fun _ => rfl))) $$ [HO HTgS2]
  · isplitr; · iexact HI
    isplitr; · iexact Hlev
    isplitl [HTgS2]; · iexact HTgS2
    iexact HO
  iintro ⟨HO, HDgS2, HN2⟩
  rw [wp_ret]
  imodintro
  isplitr; · ipureintro; rfl
  icases HIns with ⟨HX, HWq, Hk, Hv, HWo⟩
  unfold Late InBufs AccKeep
  icases Hacc with ⟨%f', Hacc, %hf'⟩
  isplitl [HO]; · iexact HO
  isplitl [HatB]; · iexact HatB
  isplitl [HD4 HD5 HDrS0 HDrS1 HDrS2 HDrS3 HDrR0 HDrR1 HDrR2 HDrR3 HDgS3 HDgS2 HDgR3 HDgR2 HDgR1 HDgR0]
  · isplitl [HD4]; · iexact HD4
    isplitl [HD5]; · iexact HD5
    isplitl [HDrS0]; · iexact HDrS0
    isplitl [HDrS1]; · iexact HDrS1
    isplitl [HDrS2]; · iexact HDrS2
    isplitl [HDrS3]; · iexact HDrS3
    isplitl [HDrR0]; · iexact HDrR0
    isplitl [HDrR1]; · iexact HDrR1
    isplitl [HDrR2]; · iexact HDrR2
    isplitl [HDrR3]; · iexact HDrR3
    isplitl [HDgS3]; · iexact HDgS3
    isplitl [HDgS2]; · iexact HDgS2
    isplitl [HDgR3]; · iexact HDgR3
    isplitl [HDgR2]; · iexact HDgR2
    isplitl [HDgR1]; · iexact HDgR1
    iexact HDgR0
  isplitl [HTgS1]; · iexact HTgS1
  isplitl [HTgS0]; · iexact HTgS0
  isplitl [HG]; · iexact HG
  isplitl [HN3]; · iexact HN3
  isplitl [HN2]; · iexact HN2
  isplitl [HX HWq Hkh Hvh HWo]
  · isplitl [HX]; · iexact HX
    isplitl [HWq]; · iexact HWq
    isplitl [Hkh]; · iexact Hkh
    isplitl [Hvh]; · iexact Hvh
    iexact HWo
  isplitl [Hout]; · iexact Hout
  isplitl [Hk]; · iexists _; iexact Hk
  isplitl [Hv]; · iexists _; iexact Hv
  isplitl [Hacc]; · iexists f'; iexact Hacc
  isplitl [Hctx]; · iexists g''; iexact Hctx
  isplitl [HS0 HS1 HS2 HS3]
  · iexists (sent I c)
    iapply (snd_split c (sent I c)).2
    isplitl [HS0]; · iexact HS0
    isplitl [HS1]; · iexact HS1
    isplitl [HS2]; · iexact HS2
    iexact HS3
  iexists (recvd I c)
  iapply (rcv_split c (recvd I c)).2
  isplitl [HV0]; · iexact HV0
  isplitl [HV1]; · iexact HV1
  isplitl [HV2]; · iexact HV2
  iexact HV3

/-- The whole body: the result in its buffer on every device, nothing owed, every copy waited for. -/
theorem body_ok :
    iprop(Invs I κ ∗ Lev ∗ Owe c (dueL c) ∗ Rights c ∗ InBufs I c ∗ (∃ f, whole' c outM f) ∗ Scr c)
      ⊢ (wp frame (wpE defs₀ Variants.none (c : Thread nD τ) none) Set.univ (onBufs (cc0__body (F := F)))
        (fun _ => iprop(Owe c [] ∗ atPos ER (barCell c) 1 ∅ 0 ∗ AllDone c ∗ InBufs I c ∗ whole' c outM (res I) ∗ Scr c)) : sProp 𝕄) := by
  simp only [onBufs, cc0__body_eq_skeleton, cc0__body_skel]
  simp only [Prog.lift, Prog.bind_op, Prog.bind_ret, Prog.pure_eq_ret]
  iintro ⟨#HI, #Hlev, HO, HT, HB, Hout, HS⟩
  iapply (wp_call c (part25 I κ c)) $$ [HO HT HB Hout HS]
  · isplitr; · iexact HI
    isplitr; · iexact Hlev
    isplitl [HO]; · iexact HO
    isplitl [HT]; · iexact HT
    isplitl [HB]; · iexact HB
    isplitl [Hout]; · iexact Hout
    iexact HS
  iintro %r ⟨%hr, HL⟩
  subst hr
  unfold Late
  icases HL with ⟨HO, HatB, ⟨HD4, HD5, HDrS0, HDrS1, HDrS2, HDrS3, HDrR0, HDrR1, HDrR2, HDrR3, HDgS3, HDgS2, HDgR3, HDgR2, HDgR1, HDgR0⟩, HTgS1, HTgS0, HG, HN3, HN2, HIn, Hout, Hk, Hv, Hacc, Hctx, Hsnd, Hrcv⟩
  iapply (wp_ag_free I κ r 1 (ag_credit 1 (k0_off20_inb r) rfl (fun _ => rfl))) $$ [HO HTgS1]
  · isplitr; · iexact HI
    isplitr; · iexact Hlev
    isplitl [HTgS1]; · iexact HTgS1
    iexact HO
  iintro ⟨HO, HDgS1, HN1⟩
  iapply (wp_ag_free I κ r 0 (ag_credit 0 (k0_off21_inb r) rfl (fun _ => rfl))) $$ [HO HTgS0]
  · isplitr; · iexact HI
    isplitr; · iexact Hlev
    isplitl [HTgS0]; · iexact HTgS0
    iexact HO
  iintro ⟨HO, HDgS0, HN0⟩
  rw [wp_ret]
  imodintro
  isplitl [HO]; · iexact HO
  isplitl [HatB]; · iexact HatB
  isplitl [HD4 HD5 HDrS0 HDrS1 HDrS2 HDrS3 HDrR0 HDrR1 HDrR2 HDrR3 HDgS3 HDgS2 HDgS1 HDgS0 HDgR3 HDgR2 HDgR1 HDgR0]
  · unfold AllDone
    isplitl [HD4]; · iexact HD4
    isplitl [HD5]; · iexact HD5
    isplitl [HDrS0]; · iexact HDrS0
    isplitl [HDrS1]; · iexact HDrS1
    isplitl [HDrS2]; · iexact HDrS2
    isplitl [HDrS3]; · iexact HDrS3
    isplitl [HDrR0]; · iexact HDrR0
    isplitl [HDrR1]; · iexact HDrR1
    isplitl [HDrR2]; · iexact HDrR2
    isplitl [HDrR3]; · iexact HDrR3
    isplitl [HDgS3]; · iexact HDgS3
    isplitl [HDgS2]; · iexact HDgS2
    isplitl [HDgS1]; · iexact HDgS1
    isplitl [HDgS0]; · iexact HDgS0
    isplitl [HDgR3]; · iexact HDgR3
    isplitl [HDgR2]; · iexact HDgR2
    isplitl [HDgR1]; · iexact HDgR1
    iexact HDgR0
  isplitl [HIn]; · iexact HIn
  isplitl [Hout]; · iexact Hout
  unfold Scr
  isplitl [Hk]; · iexact Hk
  isplitl [Hv]; · iexact Hv
  isplitl [Hacc]; · iexact Hacc
  isplitl [Hctx]; · iexact Hctx
  isplitl [Hsnd]; · iexact Hsnd
  isplitl [Hrcv]; · iexact Hrcv
  iexists (G I)
  iapply (agSt_end I r)
  isplitl [HG]; · iexact HG
  isplitl [HN0]; · iexact HN0
  isplitl [HN1]; · iexact HN1
  isplitl [HN2]; · iexact HN2
  iexact HN3

end Cert.KernelIdeal.Proof

end
-- ==== Proof.Open.lean ====
module

public import proofs.«01_k».proof.Proof.Body

@[expose] public section

/-! # From the launch to the body's rights, and back

The launch deals every device its barrier position, the right to open its own cells, the tokens of the duties it pays and the
credit of what the others owe it. Opening the cells makes of this what the body starts from; closing them after the body gives
their counters back at zero. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Cert.KernelIdeal Cert.KernelIdeal.Gen

variable {F : FTy → Type} [FloatOps F]

local notation "𝕄" => MT nD τ sig ℕ (Elt F) ℕ UU ℕ

/-! ## The credit -/

/-- What the others owe to device `c`'s cells. -/
abbrev inL (c : Dev nD) : List (Pay nD τ sig) :=
  [(barCell c, 1, 1), (barCell c, 1, 1), (barCell c, 1, 1), (barCell c, 1, 1),
    (dCell c (rsR 0), 2, nk 0), (dCell c (rsR 1), 3, nk 1), (dCell c (rsR 2), 4, nk 2), (dCell c (rsR 3), 5, nk 3),
    (dCell c (agR 3), 6, nk 3), (dCell c (agR 2), 7, nk 2), (dCell c (agR 1), 8, nk 1), (dCell c (agR 0), 9, nk 0)]

/-- The neighbours of step `k`, as a permutation of the devices. -/
def nbE (k : Fin 4) : Dev nD ≃ Dev nD := ⟨nb k, nb k, nb_nb k, nb_nb k⟩

theorem sum_nb (k : Fin 4) (f : Dev nD → CellTallies nD τ sig ℕ) : (∑ d, f (nb k d)) = ∑ d, f d := Equiv.sum_comp (nbE k) f

/-- What all devices owe is what all devices wait for. -/
theorem sum_due : (∑ d : Dev nD, (tallyL (dueL d) : CellTallies nD τ sig ℕ)) = ∑ d : Dev nD, tallyL (inL d) := by
  simp only [tallyL, Finset.sum_add_distrib]
  have hB (k : Fin 4) : (∑ d : Dev nD, ((pB k d).tally : CellTallies nD τ sig ℕ)) = ∑ d : Dev nD, Pay.tally (barCell d, 1, 1) :=
    sum_nb k fun d => Pay.tally (barCell d, 1, 1)
  have hR (k : Fin 4) : (∑ d : Dev nD, ((pR k d).tally : CellTallies nD τ sig ℕ)) = ∑ d : Dev nD, Pay.tally (dCell d (rsR k), 2 + k.val, nk k) :=
    sum_nb k fun d => Pay.tally (dCell d (rsR k), 2 + k.val, nk k)
  have hG (k : Fin 4) : (∑ d : Dev nD, ((pG k d).tally : CellTallies nD τ sig ℕ)) = ∑ d : Dev nD, Pay.tally (dCell d (agR k), 9 - k.val, nk k) :=
    sum_nb k fun d => Pay.tally (dCell d (agR k), 9 - k.val, nk k)
  rw [hB 0, hB 1, hB 2, hB 3, hR 0, hR 1, hR 2, hR 3, hG 3, hG 2, hG 1, hG 0]
  rfl

theorem tallyL_own (c : Dev nD) (l : List (Pay nD τ sig)) (hl : ∀ x ∈ l, x.1.1 = (c : Thread nD τ)) (g : GSem nD τ sig) (h : tallyL l g ≠ 0) : g.1 = (c : Thread nD τ) := by
  obtain ⟨i, hi⟩ := Finsupp.ne_iff.mp h
  obtain ⟨x, hx, rfl, -⟩ := tallyL_pos (Nat.pos_of_ne_zero hi)
  exact hl x hx

theorem bar4 (c : Dev nD) :
    iprop(cred (tallyAt (barCell c) 1 1) ∗ cred (tallyAt (barCell c) 1 1) ∗ cred (tallyAt (barCell c) 1 1) ∗ cred (tallyAt (barCell c) 1 1))
      ⊢ (cred (tallyAt (barCell c) 1 4) : sProp 𝕄) := by
  have h : (tallyAt (barCell c) 1 4 : CellTallies nD τ sig ℕ) = tallyAt (barCell c) 1 1 + (tallyAt (barCell c) 1 1 + (tallyAt (barCell c) 1 1 + tallyAt (barCell c) 1 1)) := by
    simp only [tallyAt_add]
  rw [h]
  iintro ⟨H1, H2, H3, H4⟩
  iapply (cred_add _ _).2
  isplitl [H1]; · iexact H1
  iapply (cred_add _ _).2
  isplitl [H2]; · iexact H2
  iapply (cred_add _ _).2
  isplitl [H3]; · iexact H3
  iexact H4

/-- The launch credit of device `c`, cell by cell. -/
theorem creds (c : Dev nD) :
    (Pipeline.launchCred (fun d => tallyL (dueL d)) c : sProp 𝕄)
      ⊢ iprop(cred (tallyAt (barCell c) 1 4)
        ∗ cred (tallyAt (dCell c (rsR 0)) 2 (nk 0)) ∗ cred (tallyAt (dCell c (rsR 1)) 3 (nk 1)) ∗ cred (tallyAt (dCell c (rsR 2)) 4 (nk 2)) ∗ cred (tallyAt (dCell c (rsR 3)) 5 (nk 3))
        ∗ cred (tallyAt (dCell c (agR 3)) 6 (nk 3)) ∗ cred (tallyAt (dCell c (agR 2)) 7 (nk 2)) ∗ cred (tallyAt (dCell c (agR 1)) 8 (nk 1)) ∗ cred (tallyAt (dCell c (agR 0)) 9 (nk 0))) := by
  rw [Pipeline.launchCred_of_sum (fun d => tallyL (dueL d)) (fun d => tallyL (inL d)) sum_due
    (fun d g h => tallyL_own d (inL d) (by intro x hx; simp only [List.mem_cons, List.not_mem_nil, or_false] at hx; rcases hx with rfl | rfl | rfl | rfl | rfl | rfl | rfl | rfl | rfl | rfl | rfl | rfl <;> rfl) g h) c,
    cred_tallyL]
  show iprop(cred (tallyAt (barCell c) 1 1) ∗ cred (tallyAt (barCell c) 1 1) ∗ cred (tallyAt (barCell c) 1 1) ∗ cred (tallyAt (barCell c) 1 1)
        ∗ cred (tallyAt (dCell c (rsR 0)) 2 (nk 0)) ∗ cred (tallyAt (dCell c (rsR 1)) 3 (nk 1)) ∗ cred (tallyAt (dCell c (rsR 2)) 4 (nk 2)) ∗ cred (tallyAt (dCell c (rsR 3)) 5 (nk 3))
        ∗ cred (tallyAt (dCell c (agR 3)) 6 (nk 3)) ∗ cred (tallyAt (dCell c (agR 2)) 7 (nk 2)) ∗ cred (tallyAt (dCell c (agR 1)) 8 (nk 1)) ∗ cred (tallyAt (dCell c (agR 0)) 9 (nk 0))) ⊢ _
  iintro ⟨H1, H2, H3, H4, H⟩
  isplitr [H]
  · iapply (bar4 c)
    isplitl [H1]; · iexact H1
    isplitl [H2]; · iexact H2
    isplitl [H3]; · iexact H3
    iexact H4
  iexact H

/-! ## The tokens -/

/-- The duties that device `c` pays, listed. -/
abbrev tokL (c : Dev nD) : List (GSem nD τ sig × ℕ × Fin 4) :=
  [(barCell (nb 0 c), 0, 0), (barCell (nb 1 c), 0, 1), (barCell (nb 2 c), 0, 2), (barCell (nb 3 c), 0, 3),
    (dCell (nb 0 c) (rsR 0), 0, 0), (dCell (nb 1 c) (rsR 1), 0, 0), (dCell (nb 2 c) (rsR 2), 0, 0), (dCell (nb 3 c) (rsR 3), 0, 0),
    (dCell (nb 0 c) (agR 0), 0, 0), (dCell (nb 1 c) (agR 1), 0, 0), (dCell (nb 2 c) (agR 2), 0, 0), (dCell (nb 3 c) (agR 3), 0, 0),
    (dCell c (rsS 0), 0, 0), (dCell c (rsS 1), 0, 0), (dCell c (rsS 2), 0, 0), (dCell c (rsS 3), 0, 0),
    (dCell c (agS 0), 0, 0), (dCell c (agS 1), 0, 0), (dCell c (agS 2), 0, 0), (dCell c (agS 3), 0, 0),
    (dCell c 4, 0, 0), (dCell c 5, 0, 0)]

theorem tokL_nodup (c : Dev nD) : (tokL c).Nodup :=
  List.Nodup.of_map (fun x : GSem nD τ sig × ℕ × Fin 4 => (x.1.2, x.2.2)) (by
    show ([(SemLoc.reg barS, 0), (SemLoc.reg barS, 1), (SemLoc.reg barS, 2), (SemLoc.reg barS, 3),
      (.dma 10, 0), (.dma 11, 0), (.dma 12, 0), (.dma 13, 0), (.dma 21, 0), (.dma 20, 0), (.dma 19, 0), (.dma 18, 0),
      (.dma 6, 0), (.dma 7, 0), (.dma 8, 0), (.dma 9, 0), (.dma 17, 0), (.dma 16, 0), (.dma 15, 0), (.dma 14, 0), (.dma 4, 0), (.dma 5, 0)] : List (SemLoc sig × Fin 4)).Nodup
    decide)

theorem toks_eq (c : Dev nD) : toks c = (tokL c).toFinset := by
  have hu : (Finset.univ : Finset (Fin 4)) = {0, 1, 2, 3} := by decide
  ext x
  unfold toks
  simp only [hu, Finset.mem_union, Finset.mem_image, Finset.mem_insert, Finset.mem_singleton, List.mem_toFinset, List.mem_cons, List.not_mem_nil, or_false,
    exists_eq_or_imp, exists_eq_left, or_assoc, eq_comm (b := x)]

/-- The tokens of device `c`, one by one. -/
theorem toks_chain (c : Dev nD) : bigSep (toks c) (fun x => (dutyTok ER x.1 x.2.1 x.2.2 : sProp 𝕄)) = bigSepL (tokL c) fun x => dutyTok ER x.1 x.2.1 x.2.2 :=
  bigSep_eq_bigSepL_of_eq (tokL c) (toks_eq c) (tokL_nodup c) _

/-! ## The own cells -/

/-- The kernel's own semaphores. -/
def osem (k : Fin 18) : SemLoc sig := .dma ⟨k.val + 4, by show k.val + 4 < 22; omega⟩

theorem osem_inj : Function.Injective osem := by decide

theorem dorm_eq : Fm.dorm 0 = Finset.univ.map ⟨osem, osem_inj⟩ := by decide

theorem ownFacts : Pipeline.OwnSemFacts spec0 osem := by decide

theorem fin18 : (Finset.univ : Finset (Fin 18)) = ([0, 1, 2, 3, 4, 5, 6, 7, 8, 9, 10, 11, 12, 13, 14, 15, 16, 17] : List (Fin 18)).toFinset := by decide

/-- The own cells opened: the position before the first round and the fact that it is reached, for each. -/
theorem open_cells (I : Dev nD → Inp F) (κ : GSem nD τ sig → ℕ) (c : Dev nD) :
    iprop(Invs I κ ∗ (bigSep (Fm.dorm 0) fun sm => openTok ER ((c : Thread nD τ), sm)) ∗ Pipeline.ownSems0 osem c)
      ⊢ (|={Set.univ}=> bigSepL [4, 5, 6, 7, 8, 9, 10, 11, 12, 13, 14, 15, 16, 17, 18, 19, 20, 21] fun s : DmaSem sig => iprop(atPos ER (dCell c s) 0 ∅ 0 ∗ reached ER (dCell c s) 0) : sProp 𝕄) := by
  have hin (k : Fin 18) (_ : k ∈ Finset.univ) : iprop(Invs I κ ∗ openTok ER ((c : Thread nD τ), osem k)) ⊢ (iprop(cellInv ER (Rd I) (κ ((c : Thread nD τ), osem k)) ((c : Thread nD τ), osem k) ∗ openTok ER ((c : Thread nD τ), osem k)) : sProp 𝕄) := by
    iintro ⟨#HI, Ho⟩
    isplitr
    · iapply (inv_d I κ c _ (by show 4 ≤ k.val + 4; omega)); iexact HI
    iexact Ho
  have hl : (bigSep Finset.univ fun k : Fin 18 => iprop(atPos ER ((c : Thread nD τ), osem k) 0 ∅ 0 ∗ reached ER ((c : Thread nD τ), osem k) 0))
      = (bigSepL [4, 5, 6, 7, 8, 9, 10, 11, 12, 13, 14, 15, 16, 17, 18, 19, 20, 21] fun s : DmaSem sig => iprop(atPos ER (dCell c s) 0 ∅ 0 ∗ reached ER (dCell c s) 0) : sProp 𝕄) :=
    (bigSep_univ_eq_bigSepL [0, 1, 2, 3, 4, 5, 6, 7, 8, 9, 10, 11, 12, 13, 14, 15, 16, 17] fin18 (by decide) _).trans rfl
  rw [dorm_eq, bigSep_map, ← hl]
  unfold Pipeline.ownSems0
  iintro ⟨#HI, Ho, Hs⟩
  iapply (cells_open ER (Rd I) Finset.univ (fun k : Fin 18 => ((c : Thread nD τ), osem k)) (fun k => κ ((c : Thread nD τ), osem k)) (fun _ _ => Set.mem_univ _))
  isplitl [Ho]
  · iapply (bigSep_with_persistent (R := Invs I κ) hin)
    isplitr; · iexact HI
    iexact Ho
  iexact Hs

/-- The own cells closed after their round: their counters at zero. -/
theorem close_cells (I : Dev nD → Inp F) (κ : GSem nD τ sig → ℕ) (c : Dev nD) :
    iprop(Invs I κ ∗ AllDone c) ⊢ (|={Set.univ}=> Pipeline.ownSems0 osem c : sProp 𝕄) := by
  have hin (k : Fin 18) (_ : k ∈ Finset.univ) : iprop(Invs I κ ∗ atPos ER ((c : Thread nD τ), osem k) 1 ∅ 0) ⊢ (iprop(cellInv ER (Rd I) (κ ((c : Thread nD τ), osem k)) ((c : Thread nD τ), osem k) ∗ atPos ER ((c : Thread nD τ), osem k) 1 ∅ 0) : sProp 𝕄) := by
    iintro ⟨#HI, Ho⟩
    isplitr
    · iapply (inv_d I κ c _ (by show 4 ≤ k.val + 4; omega)); iexact HI
    iexact Ho
  have hl : (bigSep Finset.univ fun k : Fin 18 => atPos ER ((c : Thread nD τ), osem k) 1 ∅ 0)
      = (bigSepL [4, 5, 6, 7, 8, 9, 10, 11, 12, 13, 14, 15, 16, 17, 18, 19, 20, 21] fun s : DmaSem sig => Done c s : sProp 𝕄) :=
    (bigSep_univ_eq_bigSepL [0, 1, 2, 3, 4, 5, 6, 7, 8, 9, 10, 11, 12, 13, 14, 15, 16, 17] fin18 (by decide) _).trans rfl
  have hd : (AllDone c : sProp 𝕄) ⊢ bigSep Finset.univ fun k : Fin 18 => atPos ER ((c : Thread nD τ), osem k) 1 ∅ 0 := by
    rw [hl]
    exact .rfl
  iintro ⟨#HI, Hd⟩
  unfold Pipeline.ownSems0
  iapply (cells_close ER (Rd I) Finset.univ (fun k : Fin 18 => ((c : Thread nD τ), osem k)) (fun k => κ ((c : Thread nD τ), osem k)) (fun _ _ => Set.mem_univ _)
    (fun _ _ => id) (fun _ => 1) (fun k _ r hr => duties_later I _ r hr))
  iapply (bigSep_with_persistent (R := Invs I κ) hin)
  isplitr; · iexact HI
  iapply hd
  iexact Hd

/-! ## The body's rights -/

/-- What the launch deals device `c` and the body starts from: the barrier position, the right to open the own cells, the
    tokens and the credit. -/
def Start (I : Dev nD → Inp F) (c : Dev nD) : sProp 𝕄 :=
  iprop(Pipeline.launchCred (fun d => tallyL (dueL d)) c ∗ Fm.launched ER (Rd I) (fun _ => Finset.univ) c)

/-- What enters the body beside its buffers. -/
def Enter (I : Dev nD → Inp F) (c : Dev nD) : sProp 𝕄 := iprop(∃ κ, Invs I κ ∗ Lev ∗ Rights c)

/-- The launch's share and the own counters at zero make what enters the body. -/
theorem enter (I : Dev nD → Inp F) (c : Dev nD) :
    iprop(Start I c ∗ Pipeline.ownSems0 osem c ∗ Lev) ⊢ (|={Set.univ}=> Enter I c : sProp 𝕄) := by
  have hrides : (bigSep Finset.univ fun j => Fm.rides ER (Rd I) c j) ⊢ (Fm.rides ER (Rd I) c 0 : sProp 𝕄) := bigSep_elim (Finset.mem_univ _)
  have hr (d : Dev nD) : (bigSep Finset.univ fun n : Dev nD => reached ER ((n : Thread nD τ), Fm.bar) 0) ⊢ (reached ER (barCell d) 0 : sProp 𝕄) :=
    bigSep_elim (Φ := fun n : Dev nD => reached ER ((n : Thread nD τ), Fm.bar) 0) (Finset.mem_univ d)
  unfold Start Fam.launched Fam.barPos
  iintro ⟨⟨Hcr, ⟨⟨-, HatB, #HrB⟩, Hrides⟩⟩, Hos, #Hlev⟩
  ihave Hrides := hrides $$ Hrides
  unfold Fam.rides
  icases Hrides with ⟨⟨%κ, #HI⟩, Hop, Htok⟩
  imod (open_cells I κ c) $$ [Hop Hos] with Hc
  · isplitr; · iexact HI
    isplitl [Hop]; · iexact Hop
    iexact Hos
  imodintro
  ihave Htok := (show (bigSep (Fm.toks c 0) fun x => dutyTok ER x.1 x.2.1 x.2.2) ⊢ (bigSepL (tokL c) fun x => dutyTok ER x.1 x.2.1 x.2.2 : sProp 𝕄) from Entails.of_eq (toks_chain (F := F) c)) $$ Htok
  ihave Hcr := (creds (F := F) c) $$ Hcr
  icases Hcr with ⟨CB, CR0, CR1, CR2, CR3, CG3, CG2, CG1, CG0⟩
  ihave Htok := (show (bigSepL (tokL c) fun x => dutyTok ER x.1 x.2.1 x.2.2) ⊢ (iprop(dutyTok ER (barCell (nb 0 c)) 0 0 ∗ dutyTok ER (barCell (nb 1 c)) 0 1 ∗ dutyTok ER (barCell (nb 2 c)) 0 2 ∗ dutyTok ER (barCell (nb 3 c)) 0 3
    ∗ dutyTok ER (dCell (nb 0 c) (rsR 0)) 0 0 ∗ dutyTok ER (dCell (nb 1 c) (rsR 1)) 0 0 ∗ dutyTok ER (dCell (nb 2 c) (rsR 2)) 0 0 ∗ dutyTok ER (dCell (nb 3 c) (rsR 3)) 0 0
    ∗ dutyTok ER (dCell (nb 0 c) (agR 0)) 0 0 ∗ dutyTok ER (dCell (nb 1 c) (agR 1)) 0 0 ∗ dutyTok ER (dCell (nb 2 c) (agR 2)) 0 0 ∗ dutyTok ER (dCell (nb 3 c) (agR 3)) 0 0
    ∗ dutyTok ER (dCell c (rsS 0)) 0 0 ∗ dutyTok ER (dCell c (rsS 1)) 0 0 ∗ dutyTok ER (dCell c (rsS 2)) 0 0 ∗ dutyTok ER (dCell c (rsS 3)) 0 0
    ∗ dutyTok ER (dCell c (agS 0)) 0 0 ∗ dutyTok ER (dCell c (agS 1)) 0 0 ∗ dutyTok ER (dCell c (agS 2)) 0 0 ∗ dutyTok ER (dCell c (agS 3)) 0 0
    ∗ dutyTok ER (dCell c 4) 0 0 ∗ dutyTok ER (dCell c 5) 0 0) : sProp 𝕄) from .rfl) $$ Htok
  icases Htok with ⟨B0, B1, B2, B3, R0, R1, R2, R3, G0, G1, G2, G3, S0, S1, S2, S3, A0, A1, A2, A3, L4, L5⟩
  ihave Hc := (show (bigSepL [4, 5, 6, 7, 8, 9, 10, 11, 12, 13, 14, 15, 16, 17, 18, 19, 20, 21] fun s : DmaSem sig => iprop(atPos ER (dCell c s) 0 ∅ 0 ∗ reached ER (dCell c s) 0))
    ⊢ (iprop((atPos ER (dCell c 4) 0 ∅ 0 ∗ reached ER (dCell c 4) 0) ∗ (atPos ER (dCell c 5) 0 ∅ 0 ∗ reached ER (dCell c 5) 0)
      ∗ (atPos ER (dCell c (rsS 0)) 0 ∅ 0 ∗ reached ER (dCell c (rsS 0)) 0) ∗ (atPos ER (dCell c (rsS 1)) 0 ∅ 0 ∗ reached ER (dCell c (rsS 1)) 0) ∗ (atPos ER (dCell c (rsS 2)) 0 ∅ 0 ∗ reached ER (dCell c (rsS 2)) 0) ∗ (atPos ER (dCell c (rsS 3)) 0 ∅ 0 ∗ reached ER (dCell c (rsS 3)) 0)
      ∗ (atPos ER (dCell c (rsR 0)) 0 ∅ 0 ∗ reached ER (dCell c (rsR 0)) 0) ∗ (atPos ER (dCell c (rsR 1)) 0 ∅ 0 ∗ reached ER (dCell c (rsR 1)) 0) ∗ (atPos ER (dCell c (rsR 2)) 0 ∅ 0 ∗ reached ER (dCell c (rsR 2)) 0) ∗ (atPos ER (dCell c (rsR 3)) 0 ∅ 0 ∗ reached ER (dCell c (rsR 3)) 0)
      ∗ (atPos ER (dCell c (agS 3)) 0 ∅ 0 ∗ reached ER (dCell c (agS 3)) 0) ∗ (atPos ER (dCell c (agS 2)) 0 ∅ 0 ∗ reached ER (dCell c (agS 2)) 0) ∗ (atPos ER (dCell c (agS 1)) 0 ∅ 0 ∗ reached ER (dCell c (agS 1)) 0) ∗ (atPos ER (dCell c (agS 0)) 0 ∅ 0 ∗ reached ER (dCell c (agS 0)) 0)
      ∗ (atPos ER (dCell c (agR 3)) 0 ∅ 0 ∗ reached ER (dCell c (agR 3)) 0) ∗ (atPos ER (dCell c (agR 2)) 0 ∅ 0 ∗ reached ER (dCell c (agR 2)) 0) ∗ (atPos ER (dCell c (agR 1)) 0 ∅ 0 ∗ reached ER (dCell c (agR 1)) 0) ∗ (atPos ER (dCell c (agR 0)) 0 ∅ 0 ∗ reached ER (dCell c (agR 0)) 0)) : sProp 𝕄) from .rfl) $$ Hc
  icases Hc with ⟨⟨P4, #Q4⟩, ⟨P5, #Q5⟩, ⟨PS0, #QS0⟩, ⟨PS1, #QS1⟩, ⟨PS2, #QS2⟩, ⟨PS3, #QS3⟩, ⟨PR0, #QR0⟩, ⟨PR1, #QR1⟩, ⟨PR2, #QR2⟩, ⟨PR3, #QR3⟩,
    ⟨PA3, #QA3⟩, ⟨PA2, #QA2⟩, ⟨PA1, #QA1⟩, ⟨PA0, #QA0⟩, ⟨PG3, #QG3⟩, ⟨PG2, #QG2⟩, ⟨PG1, #QG1⟩, ⟨PG0, #QG0⟩⟩
  unfold Enter
  iexists κ
  isplitr; · iexact HI
  isplitr; · iexact Hlev
  unfold Rights
  isplitl [CB]; · iexact CB
  isplitl [HatB]; · iexact HatB
  unfold StepTok Tick LocTok
  isplitl [L4 P4]
  · isplitl [L4]; · iexact L4
    isplitr; · iexact Q4
    iexact P4
  isplitl [L5 P5]
  · isplitl [L5]; · iexact L5
    isplitr; · iexact Q5
    iexact P5
  isplitl [B0 S0 PS0 A0 PA0 R0 G0 PR0 CR0 PG0 CG0]
  · isplitl [B0]; · iexact B0
    isplitr; · iapply (hr (nb 0 c)); iexact HrB
    isplitl [S0 PS0]
    · isplitl [S0]; · iexact S0
      isplitr; · iexact QS0
      iexact PS0
    isplitl [A0 PA0]
    · isplitl [A0]; · iexact A0
      isplitr; · iexact QA0
      iexact PA0
    isplitl [R0]; · iexact R0
    isplitl [G0]; · iexact G0
    isplitr; · iexact QR0
    isplitr; · iexact QG0
    isplitl [PR0 CR0]
    · isplitl [PR0]; · iexact PR0
      iexact CR0
    isplitl [PG0]; · iexact PG0
    iexact CG0
  isplitl [B1 S1 PS1 A1 PA1 R1 G1 PR1 CR1 PG1 CG1]
  · isplitl [B1]; · iexact B1
    isplitr; · iapply (hr (nb 1 c)); iexact HrB
    isplitl [S1 PS1]
    · isplitl [S1]; · iexact S1
      isplitr; · iexact QS1
      iexact PS1
    isplitl [A1 PA1]
    · isplitl [A1]; · iexact A1
      isplitr; · iexact QA1
      iexact PA1
    isplitl [R1]; · iexact R1
    isplitl [G1]; · iexact G1
    isplitr; · iexact QR1
    isplitr; · iexact QG1
    isplitl [PR1 CR1]
    · isplitl [PR1]; · iexact PR1
      iexact CR1
    isplitl [PG1]; · iexact PG1
    iexact CG1
  isplitl [B2 S2 PS2 A2 PA2 R2 G2 PR2 CR2 PG2 CG2]
  · isplitl [B2]; · iexact B2
    isplitr; · iapply (hr (nb 2 c)); iexact HrB
    isplitl [S2 PS2]
    · isplitl [S2]; · iexact S2
      isplitr; · iexact QS2
      iexact PS2
    isplitl [A2 PA2]
    · isplitl [A2]; · iexact A2
      isplitr; · iexact QA2
      iexact PA2
    isplitl [R2]; · iexact R2
    isplitl [G2]; · iexact G2
    isplitr; · iexact QR2
    isplitr; · iexact QG2
    isplitl [PR2 CR2]
    · isplitl [PR2]; · iexact PR2
      iexact CR2
    isplitl [PG2]; · iexact PG2
    iexact CG2
  isplitl [B3]; · iexact B3
  isplitr; · iapply (hr (nb 3 c)); iexact HrB
  isplitl [S3 PS3]
  · isplitl [S3]; · iexact S3
    isplitr; · iexact QS3
    iexact PS3
  isplitl [A3 PA3]
  · isplitl [A3]; · iexact A3
    isplitr; · iexact QA3
    iexact PA3
  isplitl [R3]; · iexact R3
  isplitl [G3]; · iexact G3
  isplitr; · iexact QR3
  isplitr; · iexact QG3
  isplitl [PR3 CR3]
  · isplitl [PR3]; · iexact PR3
    iexact CR3
  isplitl [PG3]; · iexact PG3
  iexact CG3

end Cert.KernelIdeal.Proof

end
-- ==== Proof.Region.lean ====
module

public import proofs.«01_k».proof.Proof.Open
public import proofs.«01_k».proof.Proof.Gen.KernelIdeal.Regions

@[expose] public section

/-! # The kernel call as a region of the program

The call is entered with what the host operations leave in its operands and with the launch's share; it leaves the result in
its array and every own counter at zero. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.Pipeline (Dat Seg HostSeg RegionSeg BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- The operands of the call on every device, as the host operations leave them. -/
def inp (c : Dev nD) : Inp F where
  x := V1 m c main_v17
  wq := V1 m c main_v18
  k := V1 m c main_v10
  v := V1 m c main_v16
  wo := V1 m c main_v19

/-- The buffers that the body addresses itself. -/
abbrev Hs : Finset (DevRef τ sig) := {Proc.devRef .tc main_v10, Proc.devRef .tc main_v16}

/-- What the call leaves in the buffers that it may change. -/
def outs : Outs (F := F) := fun _ r c => Function.update (V1 m c) (Proc.devRef .tc main_v20) (res (inp m)) r

/-- The buffers after the call: the result in its array, all else as before. -/
theorem V2_outs (c : Dev nD) : V2 m (outs m) c = Function.update (V1 m c) (Proc.devRef .tc main_v20) (res (inp m)) := by
  funext b
  unfold V2
  by_cases h1 : b = Proc.devRef .tc main_v16
  · subst h1; rw [Function.update_self]; rfl
  rw [Function.update_of_ne h1]
  by_cases h2 : b = Proc.devRef .tc main_v10
  · subst h2; rw [Function.update_self]; rfl
  rw [Function.update_of_ne h2]
  by_cases h3 : b = Proc.devRef .tc main_v20
  · subst h3; rw [Function.update_self, Function.update_self]; unfold outs; rw [Function.update_self]
  rw [Function.update_of_ne h3, Function.update_of_ne h3]

/-- What the body is entered with. -/
def Phi0 (c : Dev nD) : sProp 𝕄 :=
  iprop(Pipeline.scopedRest spec0 c ∗ (∃ r, prngReg c r) ∗ StableHlo.held (c.tc : Thread nD τ) Hs (V1 m c) ∗ Enter (inp m) c)

/-- What a device keeps of the protocol after the call. -/
def Kept (c : Dev nD) : sProp 𝕄 := iprop((∃ κ, Invs (inp m) κ) ∗ atPos ER (barCell c) 1 ∅ 0)

/-- What the body leaves. -/
def Phi1 (c : Dev nD) : sProp 𝕄 :=
  iprop(Pipeline.scopedRest spec0 c ∗ (∃ r, prngReg c r) ∗ StableHlo.held (c.tc : Thread nD τ) Hs (V2 m (outs m) c) ∗ Pipeline.ownSems0 osem c ∗ Kept m c)

/-- The proof data of the call on device `c`. -/
def dat (c : Dev nD) : Dat τ (Elt F) ℕ ℕ UU ℕ cfg0 c where
  A w := V1 m c (Proc.devRef .tc (Pipeline.arrRef spec0 w))
  after w _ := match w with
    | 0 => (inp m c).x
    | 1 => (inp m c).wq
    | 2 => (inp m c).wo
    | 3 => res (inp m)
    | ⟨_ + 4, h⟩ => absurd h (Nat.not_lt.2 (Nat.le_add_left _ _))
  Φ t := match t with
    | ⟨0, _⟩ => Phi0 m c
    | ⟨_ + 1, _⟩ => Phi1 m c
  q _ := fullShare
  owed t := match t with
    | ⟨0, _⟩ => tallyL (dueL c)
    | ⟨_ + 1, _⟩ => 0

/-- The proof data of the one call. -/
abbrev pdats (p : Fin 1) (c : Dev nD) : Dat τ (Elt F) ℕ ℕ UU ℕ (cfgs p) c := dat m c

theorem owns_whole_eq (c : Dev nD) (b : Ref sig .tc) (X : b.ty.shape.Idx → Elt F b.ty.elt) :
    (owns (c : Thread nD τ) (Memref.whole b) fullShare X : sProp 𝕄) = iprop(∃ f, ⌜f = X⌝ ∗ (((c : Thread nD τ).loc b) ↦{fullShare} f)) := by
  unfold owns; simp only [Memref.view_whole, View.read_whole, View.set_whole]

theorem owns_intro (c : Dev nD) (b : Ref sig .tc) (X : b.ty.shape.Idx → Elt F b.ty.elt) :
    (((c : Thread nD τ).loc b) ↦{fullShare} X : sProp 𝕄) ⊢ owns (c : Thread nD τ) (Memref.whole b) fullShare X := by
  rw [owns_whole_eq]
  iintro H
  iexists X
  isplitr; · ipureintro; rfl
  iexact H

theorem held_Hs (c : Dev nD) (V : Valuation τ sig (Elt F)) :
    (StableHlo.held (c.tc : Thread nD τ) Hs V : sProp 𝕄)
      = iprop(whole' c khM (V (Proc.devRef .tc main_v10)) ∗ whole' c vhM (V (Proc.devRef .tc main_v16))) := by
  unfold StableHlo.held
  rw [BI.bigSep_insert (by decide), BI.bigSep_singleton]
  rfl

theorem V2_v10 (c : Dev nD) : V2 m (outs m) c (Proc.devRef .tc main_v10) = V1 m c main_v10 := by
  rw [V2_outs]; exact Function.update_of_ne (by decide) _ _
theorem V2_v16 (c : Dev nD) : V2 m (outs m) c (Proc.devRef .tc main_v16) = V1 m c main_v16 := by
  rw [V2_outs]; exact Function.update_of_ne (by decide) _ _

/-- What the body finds staged: the operands whole. -/
theorem before0 (c : Dev nD) (d) : (dat m c).before 0 t0_0 d = (inp m c).x := by
  unfold Dat.before; rw [if_pos (fetch0_0 t0_0)]
  funext j
  have hm : (cfg0.win 0).moved (cfg0.grid.coords t0_0) j = true := ((cfg0.win 0).moved_iff _ j).mpr fun a => (j a).isLt
  unfold Dat.fetched Pipeline.Window.fill; rw [dif_pos hm]
  unfold Dat.blockOf; rw [View.read_apply]
  refine congrArg (V1 m c (Proc.devRef .tc main_v17)) (funext fun a => Fin.ext ?_)
  show 0 * (cfg0.win 0).size a + 1 * (j a).val = (j a).val
  rw [Nat.zero_mul, Nat.zero_add, Nat.one_mul]
theorem before1 (c : Dev nD) (d) : (dat m c).before 1 t0_0 d = (inp m c).wq := by
  unfold Dat.before; rw [if_pos (fetch0_1 t0_0)]
  funext j
  have hm : (cfg0.win 1).moved (cfg0.grid.coords t0_0) j = true := ((cfg0.win 1).moved_iff _ j).mpr fun a => (j a).isLt
  unfold Dat.fetched Pipeline.Window.fill; rw [dif_pos hm]
  unfold Dat.blockOf; rw [View.read_apply]
  refine congrArg (V1 m c (Proc.devRef .tc main_v18)) (funext fun a => Fin.ext ?_)
  show 0 * (cfg0.win 1).size a + 1 * (j a).val = (j a).val
  rw [Nat.zero_mul, Nat.zero_add, Nat.one_mul]
theorem before2 (c : Dev nD) (d) : (dat m c).before 2 t0_0 d = (inp m c).wo := by
  unfold Dat.before; rw [if_pos (fetch0_2 t0_0)]
  funext j
  have hm : (cfg0.win 2).moved (cfg0.grid.coords t0_0) j = true := ((cfg0.win 2).moved_iff _ j).mpr fun a => (j a).isLt
  unfold Dat.fetched Pipeline.Window.fill; rw [dif_pos hm]
  unfold Dat.blockOf; rw [View.read_apply]
  refine congrArg (V1 m c (Proc.devRef .tc main_v19)) (funext fun a => Fin.ext ?_)
  show 0 * (cfg0.win 2).size a + 1 * (j a).val = (j a).val
  rw [Nat.zero_mul, Nat.zero_add, Nat.one_mul]

/-- What the body starts from at the call's one point. -/
def bodyPre (c : Dev nD) : sProp 𝕄 :=
  iprop(Phi0 m c ∗ (dat m c).owesAt 0 t0_0.castSucc
    ∗ (∃ d, owns (c : Thread nD τ) (Memref.whole cc0_stg0_0) fullShare ((dat m c).before 0 t0_0 d))
    ∗ (∃ d, owns (c : Thread nD τ) (Memref.whole cc0_stg1_0) fullShare ((dat m c).before 1 t0_0 d))
    ∗ (∃ d, owns (c : Thread nD τ) (Memref.whole cc0_stg2_0) fullShare ((dat m c).before 2 t0_0 d))
    ∗ (∃ d, owns (c : Thread nD τ) (Memref.whole cc0_stg3_0) fullShare ((dat m c).before 3 t0_0 d)))

/-- What the body leaves there. -/
def bodyPost (c : Dev nD) : sProp 𝕄 :=
  iprop(Phi1 m c ∗ (dat m c).owesAt 0 t0_0.succ
    ∗ owns (c : Thread nD τ) (Memref.whole cc0_stg0_0) fullShare (inp m c).x
    ∗ owns (c : Thread nD τ) (Memref.whole cc0_stg1_0) fullShare (inp m c).wq
    ∗ owns (c : Thread nD τ) (Memref.whole cc0_stg2_0) fullShare (inp m c).wo
    ∗ owns (c : Thread nD τ) (Memref.whole cc0_stg3_0) fullShare (res (inp m)))

/-- The body run between the two, the own cells closed at its end. -/
theorem body_run (c : Dev nD) :
    bodyPre m c ⊢ wp frame (wpE defs₀ Variants.none (c : Thread nD τ) none) Set.univ (onBufs (cc0__body (F := F))) (fun _ => bodyPost m c) := by
  unfold bodyPre Phi0 Enter
  rw [scopedRest0_eq, held_Hs]
  simp only [before0, before1, before2, owns_whole_eq]
  iintro ⟨⟨Hscr, Hreg, ⟨Hk, Hv⟩, ⟨%κ, #HI, #Hlev, HR⟩⟩, HO, ⟨%d0, %f0, %h0, H0⟩, ⟨%d1, %f1, %h1, H1⟩, ⟨%d2, %f2, %h2, H2⟩, ⟨%d3, %f3, %h3, H3⟩⟩
  subst h0 h1 h2
  unfold Dat.owesAt Pipeline.owesWithin
  icases HO with ⟨%W, -, HO⟩
  iapply (wp_fupd _ _)
  iapply (wp_wand_r _ _ _)
  isplitr [Hreg]
  · iapply (body_ok (inp m) κ c)
    isplitr; · iexact HI
    isplitr; · iexact Hlev
    isplitl [HO]; · unfold Owe; iexists W; iexact HO
    isplitl [HR]; · iexact HR
    isplitl [H0 H1 H2 Hk Hv]
    · unfold InBufs
      isplitl [H0]; · iexact H0
      isplitl [H1]; · iexact H1
      isplitl [Hk]; · iexact Hk
      isplitl [Hv]; · iexact Hv
      iexact H2
    isplitl [H3]; · iexists f3; iexact H3
    unfold Scr
    iexact Hscr
  iintro %a ⟨HO, Hbar, Hdone, HB, Hout, Hscr⟩
  imod (close_cells (inp m) κ c) $$ [Hdone] with Hos
  · isplitr; · iexact HI
    iexact Hdone
  imodintro
  unfold bodyPost Phi1 Kept
  rw [scopedRest0_eq, held_Hs, V2_v10, V2_v16]
  unfold InBufs Owe Scr
  icases HB with ⟨H0, H1, Hk, Hv, H2⟩
  icases HO with ⟨%W', HO⟩
  isplitl [Hreg Hos Hk Hv Hscr Hbar]
  · isplitl [Hscr]; · iexact Hscr
    isplitl [Hreg]; · iexact Hreg
    isplitl [Hk Hv]
    · isplitl [Hk]; · iexact Hk
      iexact Hv
    isplitl [Hos]; · iexact Hos
    isplitr; · iexists κ; iexact HI
    iexact Hbar
  isplitl [HO]
  · unfold Dat.owesAt Pipeline.owesWithin Dat.bound
    iexists W'
    isplitr; · ipureintro; exact fun _ _ => Or.inl trivial
    iexact HO
  isplitl [H0]; · iapply (owns_intro c cc0_stg0_0 _); iexact H0
  isplitl [H1]; · iapply (owns_intro c cc0_stg1_0 _); iexact H1
  isplitl [H2]; · iapply (owns_intro c cc0_stg2_0 _); iexact H2
  iapply (owns_intro c cc0_stg3_0 _); iexact Hout

set_option maxRecDepth 100000 in
/-- The obligation of the call's body. -/
theorem body_obligation (c : Dev nD) : BodyObligation (dat m c) (defs₀ (F := F)) Variants.none 0 Set.univ := fun t => by
  rw [fin_N0 t]
  rw [bigSep_W0, bigSep_W0]
  exact body_run m c

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_eq (c : Dev nD) (w : Fin cfg0.W) : (dat m c).share w = fullShare := by unfold Dat.share; split <;> rfl

theorem lv_stg (c : Dev nD) (s : SemLoc sig) (i : ℕ) : SiteBlocks.lv ((c : Thread nD τ), s) i = i := rfl

/-- All that is owed lies above the staging's index. -/
theorem above_all (c : Dev nD) : AboveL 0 (dueL c) := by
  have hB (k : Fin 4) {l} (h : AboveL 0 l) : AboveL 0 (pB k c :: l) := aboveL_cons rfl Nat.one_pos (by show 1 < 10; omega) h
  have hR (k : Fin 4) {l} (h : AboveL 0 l) : AboveL 0 (pR k c :: l) := aboveL_cons rfl (by show 0 < 2 + k.val; omega) (by show 2 + k.val < 10; omega) h
  have hG (k : Fin 4) {l} (h : AboveL 0 l) : AboveL 0 (pG k c :: l) := aboveL_cons rfl (by show 0 < 9 - k.val; omega) (by show 9 - k.val < 10; omega) h
  exact hB 0 <| hB 1 <| hB 2 <| hB 3 <| hR 0 <| hR 1 <| hR 2 <| hR 3 <| hG 3 <| hG 2 <| hG 1 <| hG 0 <| aboveL_nil 0

theorem cut : Pipeline.LevelCutOwed (pcfgs (F := F)) adm (pdats m) 0 (SiteBlocks.L 10) SiteBlocks.lv 0 (fun _ => 0) where
  hι c w s := SiteBlocks.mem_L c _ (by decide)
  hιb c w s := le_of_eq (lv_stg c _ 0)
  hD c t g i h := by
    obtain ⟨t, ht⟩ := t
    cases t with
    | zero =>
      obtain ⟨x, hx, rfl, rfl⟩ := tallyL_pos (show 0 < tallyL (dueL c) g i from h)
      obtain ⟨h1, h2, h3⟩ := above_all c x hx
      exact ⟨SiteBlocks.mem_L' h1 h3, h2⟩
    | succ t => exact absurd (show 0 < (0 : CellTallies nD τ sig ℕ) g i from h) (Nat.lt_irrefl 0)

/-- The block written back is the whole result. -/
theorem flushed_out (c : Dev nD) (t : Fin cfg0.N) :
    (dat m c).flushed 3 t = ((cfg0.win 3).blk t).view.read (Elt F) (res (inp m)) := by
  obtain rfl := fin_N0 t
  unfold Dat.flushed
  have ha : (dat m c).after 3 t0_0 = res (inp m) := by dsimp only [dat]
  rw [ha]
  funext j
  rw [View.read_apply]
  refine congrArg (res (inp m)) (funext fun a => Fin.ext ?_)
  show (j a).val = 0 * (cfg0.win 3).size a + 1 * (j a).val
  rw [Nat.zero_mul, Nat.zero_add, Nat.one_mul]

/-- It covers the result's array. -/
theorem cover_out (i : S2x512x768.Idx) : ∃ t : Fin cfg0.N, (cfg0.win 3).flush t = true ∧ i ∈ ((cfg0.win 3).blk t).view.set := by
  refine ⟨t0_0, flush0_3 _, ?_⟩
  show i ∈ ((View.whole main_v20).slice (win0_3.rect t0_0)).set
  rw [View.set_slice_whole, Rect.mem_set_unit]
  intro a
  show 0 * S2x512x768.size a ≤ (i a).val ∧ (i a).val < 0 * S2x512x768.size a + S2x512x768.size a
  rw [Nat.zero_mul, Nat.zero_add]
  exact ⟨Nat.zero_le _, (i a).isLt⟩

/-- The result's array after the call. -/
theorem arrAt_out (c : Dev nD) : (dat m c).arrAt 3 cfg0.N = res (inp m) :=
  (dat m c).arrAt_eq_of_cover 3 (res (inp m)) (fun t _ => flushed_out m c t) cover_out

theorem V2_of_ne (c : Dev nD) (b : DevRef τ sig) (h : b ≠ Proc.devRef .tc main_v20) : V2 m (outs m) c b = V1 m c b :=
  (congrFun (V2_outs m c) b).trans (Function.update_of_ne h _ _)
theorem V2_v20 (c : Dev nD) : V2 m (outs m) c (Proc.devRef .tc main_v20) = res (inp m) :=
  (congrFun (V2_outs m c) _).trans (Function.update_self ..)

theorem arr_after (c : Dev nD) : ∀ w : Fin cfg0.W, (dat m c).arrAt w cfg0.N = V2 m (outs m) c (Proc.devRef .tc (Pipeline.arrRef spec0 w))
  | 0 => ((dat m c).arrAt_in 0 rfl _).trans (V2_of_ne m c (Proc.devRef .tc main_v17) (by decide)).symm
  | 1 => ((dat m c).arrAt_in 1 rfl _).trans (V2_of_ne m c (Proc.devRef .tc main_v18) (by decide)).symm
  | 2 => ((dat m c).arrAt_in 2 rfl _).trans (V2_of_ne m c (Proc.devRef .tc main_v19) (by decide)).symm
  | 3 => (arrAt_out m c).trans (V2_v20 m c).symm
  | ⟨_ + 4, h⟩ => absurd h (Nat.not_lt.2 (Nat.le_add_left _ _))

/-- The unscoped buffers that are no array of the call's windows. -/
abbrev Sr : Finset (DevRef τ sig) := Pipeline.ucRefs τ sig \ Pipeline.arrRefs (τ := τ) spec0

theorem Hs_sub : Hs ⊆ Sr := by decide +kernel

theorem v20_arr : (Proc.devRef .tc main_v20 : DevRef τ sig) ∈ Pipeline.arrRefs (τ := τ) spec0 := by decide

set_option backward.isDefEq.respectTransparency.types false in
/-- The call as a region of the program. -/
def region0 : RegionSeg (pcfgs (F := F)) adm (pdats m) 0 defs₀ Variants.none (SiteBlocks.L 10) SiteBlocks.lv 0 :=
  Pipeline.RegionSeg.ofTalk (pcfgs (F := F)) adm (pdats m) 0 defs₀ Variants.none (SiteBlocks.L 10) SiteBlocks.lv 0 osem ownFacts
    Hs Sr Hs_sub kit rfl (fun c => (body_obligation m c).loose)
    (fun _ => 0) (fun c => tallyL (dueL c)) (fun c => (zero_add _).symm) (fun _ => rfl) (fun _ => rfl) (fun c w => share_eq m c w)
    (V1 m) (V2 m (outs m)) (fun c b hb => by
      exact V2_of_ne m c b (fun h => (Finset.mem_sdiff.mp (Finset.mem_sdiff.mp hb).1).2 (h ▸ v20_arr)))
    (Start (inp m)) (Kept m) (Enter (inp m)) (Kept m) (enter (inp m)) (fun _ => .rfl) (fun _ => .rfl)
    (fun c => by iintro H; imodintro; iexact H)
    (fun _ => 0) (cut m) (fun _ => iprop(emp))
    (fun _ w => rfl) (fun c w => arr_after m c w)

end Cert.KernelIdeal.Proof

end
-- ==== Proof.Launch.lean ====
module

public import proofs.«01_k».proof.Proof.Region
public import Idealize.ShloMosaic.Lib.Quiescent

@[expose] public section

/-! # The whole program run

From memory `m` with every counter at zero, every weakly fair execution ends; each argument is as launched, every device holds
`res (inp m)` in its result and every counter is at zero again. -/

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.SiteBlocks (Funds)
open Idealize.ShloMosaic.Pipeline (Dat Seg HostSeg RegionSeg BodyObligation)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- What a device owes at the launch. -/
abbrev dues (c : Dev nD) : CellTallies nD τ sig ℕ := tallyL (dueL c)

/-- What a device holds beside its buffers before the call and after it. -/
def rest : Fin 2 → Dev nD → sProp 𝕄
  | 0, c => iprop((∃ r, prngReg c r) ∗ Start (inp m) c ∗ ∃ W, owes (c : Thread nD τ) (dues c) W)
  | 1, c => iprop(Kept m c ∗ ∃ W, owes (c : Thread nD τ) (0 : CellTallies nD τ sig ℕ) W)

/-- What a device holds at the end of the program, beside owing nothing. -/
def last (c : Dev nD) : sProp 𝕄 := iprop(StableHlo.held (c : Thread nD τ) (Pipeline.ucRefs τ sig) (V2 m (outs m) c) ∗ Kept m c)

theorem arr_sub : Pipeline.arrRefs (τ := τ) spec0 ⊆ Pipeline.ucRefs τ sig := Pipeline.arrRefs_sub_ucRefs spec0 (by decide)

/-- The region is entered from what the host operations leave. -/
theorem region_pre (c : Dev nD) :
    iprop(StableHlo.held (c : Thread nD τ) (Pipeline.ucRefs τ sig) (V1 m c) ∗ rest m 0 c) ⊢ (region0 m).pre c := by
  rw [StableHlo.held_sub_split (c : Thread nD τ) arr_sub (V1 m c)]
  show _ ⊢ iprop(StableHlo.held (c : Thread nD τ) (Pipeline.arrRefs spec0) (V1 m c) ∗ (∃ r, prngReg c r)
    ∗ (StableHlo.held (c : Thread nD τ) Sr (V1 m c) ∗ emp) ∗ Start (inp m) c ∗ ∃ W, owes (c : Thread nD τ) (0 + tallyL (dueL c)) W)
  rw [zero_add]
  unfold rest
  iintro ⟨⟨Ha, Hs⟩, Hr, Hst, HO⟩
  isplitl [Ha]; · iexact Ha
  isplitl [Hr]; · iexact Hr
  isplitl [Hs]
  · isplitl [Hs]; · iexact Hs
    iempintro
  isplitl [Hst]; · iexact Hst
  iexact HO

/-- What the region leaves is the end of the program. -/
theorem region_post (c : Dev nD) :
    (region0 m).post c ⊢ iprop(last m c ∗ ∃ W, owes (c : Thread nD τ) (0 : CellTallies nD τ sig ℕ) W) := by
  unfold last
  rw [StableHlo.held_sub_split (c : Thread nD τ) arr_sub (V2 m (outs m) c)]
  show iprop(StableHlo.held (c : Thread nD τ) (Pipeline.arrRefs spec0) (V2 m (outs m) c) ∗ (∃ r, prngReg c r)
    ∗ (StableHlo.held (c : Thread nD τ) Sr (V2 m (outs m) c) ∗ emp) ∗ Kept m c ∗ ∃ W, owes (c : Thread nD τ) (0 : CellTallies nD τ sig ℕ) W) ⊢ _
  iintro ⟨Ha, -, ⟨Hs, -⟩, Hk, HO⟩
  isplitr [HO]
  · isplitl [Ha Hs]
    · isplitl [Ha]; · iexact Ha
      iexact Hs
    iexact Hk
  iexact HO

/-- The one counter that is not scoped is the barrier's. -/
theorem unscoped_bar : ∀ s : SemLoc sig, s.isScoped .tc = false → s = .reg barS := by decide

theorem unscoped_eq (c : Dev nD) : (unscopedSems0 c : sProp 𝕄) = semVal ((c.tc : Thread nD τ), Fm.bar) 0 := by
  unfold unscopedSems0
  rw [show (Finset.univ.filter fun s : SemLoc sig => ¬ s.isScoped .tc = true) = {SemLoc.reg barS} from by decide, BI.bigSep_singleton]
  rfl

/-- The launch's element of the algebra: the staging's part and the protocol's. -/
def u₀ : UU := (initOf (Pipeline.cells cfgs cellOf_inj) (Pipeline.launchToks cfgs cellOf_inj), launchOf Fm.S Fm.Sd Fm.T)

/-- The protocol's part, all of it dealt by device 0. -/
def deal : Dev nD → sProp 𝕄 := SiteBlocks.onDev 0 (BI.own (ER (launchOf Fm.S Fm.Sd Fm.T)))

theorem launch_split : (ownU u₀ : sProp 𝕄)
    ⊢ |={Set.univ}=> iprop(BI.own (EP (initOf (Pipeline.cells cfgs cellOf_inj) (Pipeline.launchToks cfgs cellOf_inj))) ∗ bigSep Finset.univ (deal (F := F))) := by
  unfold u₀ deal
  rw [SiteBlocks.bigSep_onDev]
  iintro Hu
  ihave H := (ownU_pair _ _) $$ Hu
  icases H with ⟨HP, HX⟩
  imodintro
  isplitl [HP]; · iexact HP
  iexact HX

/-- The launch's credit, the barrier counters and the protocol's part make every device's start. -/
theorem launch_start : iprop((bigSep Finset.univ fun c : Dev nD => iprop(semVal ((c.tc : Thread nD τ), Fm.bar) 0 ∗ Pipeline.launchCred dues c))
      ∗ BI.own (ER (launchOf Fm.S Fm.Sd Fm.T)))
    ⊢ (|={Set.univ}=> bigSep Finset.univ (Start (inp m)) : sProp 𝕄) := by
  have h : Funds (ER : Emb _ 𝕄) (fun c => semVal ((c.tc : Thread nD τ), Fm.bar) 0) (fun d => 0 + dues d) (launchOf Fm.S Fm.Sd Fm.T)
      (Start (inp m)) Set.univ := pass dues (Fm.funds ER (Rd (inp m)) (fun _ _ => id) (fun _ => Finset.univ))
  simp only [zero_add] at h
  exact h

/-- The launch on all devices at once. -/
theorem launch_rest :
    iprop((bigSep Finset.univ fun c : Dev nD => iprop(unscopedBufs c (fun b => m ((c.tc : Thread nD τ).loc b)) ∗ unscopedSems0 c
        ∗ owes (c.tc : Thread nD τ) (dues c) ∅ ∗ Pipeline.launchCred dues c ∗ prngReg c (ρ c) ∗ deal c)) ∗ levAts (SiteBlocks.L 10) SiteBlocks.lv)
      ⊢ (|={Set.univ}=> bigSep Finset.univ fun c : Dev nD => iprop(StableHlo.held (c : Thread nD τ) (Pipeline.ucRefs τ sig) (V0 m c) ∗ rest m 0 c) : sProp 𝕄) := by
  have h1 (c : Dev nD) : iprop(unscopedBufs c (fun b => m ((c.tc : Thread nD τ).loc b)) ∗ unscopedSems0 c
        ∗ owes (c.tc : Thread nD τ) (dues c) ∅ ∗ Pipeline.launchCred dues c ∗ prngReg c (ρ c) ∗ deal c)
      ⊢ (iprop(iprop(StableHlo.held (c : Thread nD τ) (Pipeline.ucRefs τ sig) (V0 m c) ∗ (∃ r, prngReg c r) ∗ ∃ W, owes (c : Thread nD τ) (dues c) W)
          ∗ iprop(semVal ((c.tc : Thread nD τ), Fm.bar) 0 ∗ Pipeline.launchCred dues c) ∗ deal c) : sProp 𝕄) := by
    rw [unscoped_eq, ← Pipeline.unscopedBufs_held (Ix := ℕ) (Name := ℕ) (U := UU) (Lvl := ℕ) c (V0 m c)]
    iintro ⟨Hb, Hs, HO, Hc, Hr, HG⟩
    isplitl [Hb Hr HO]
    · isplitl [Hb]; · iexact Hb
      isplitl [Hr]; · iexists (ρ c); iexact Hr
      iexists ∅; iexact HO
    isplitl [Hs Hc]
    · isplitl [Hs]; · iexact Hs
      iexact Hc
    iexact HG
  have h2 (c : Dev nD) : iprop(iprop(StableHlo.held (c : Thread nD τ) (Pipeline.ucRefs τ sig) (V0 m c) ∗ (∃ r, prngReg c r) ∗ ∃ W, owes (c : Thread nD τ) (dues c) W)
        ∗ Start (inp m) c)
      ⊢ (iprop(StableHlo.held (c : Thread nD τ) (Pipeline.ucRefs τ sig) (V0 m c) ∗ rest m 0 c) : sProp 𝕄) := by
    unfold rest
    iintro ⟨⟨Hb, Hr, HO⟩, Hs⟩
    isplitl [Hb]; · iexact Hb
    isplitl [Hr]; · iexact Hr
    isplitl [Hs]; · iexact Hs
    iexact HO
  have h3 : (bigSep Finset.univ fun c : Dev nD => iprop(unscopedBufs c (fun b => m ((c.tc : Thread nD τ).loc b)) ∗ unscopedSems0 c
        ∗ owes (c.tc : Thread nD τ) (dues c) ∅ ∗ Pipeline.launchCred dues c ∗ prngReg c (ρ c) ∗ deal c))
      ⊢ (iprop((bigSep Finset.univ fun c : Dev nD => iprop(StableHlo.held (c : Thread nD τ) (Pipeline.ucRefs τ sig) (V0 m c) ∗ (∃ r, prngReg c r) ∗ ∃ W, owes (c : Thread nD τ) (dues c) W))
          ∗ (bigSep Finset.univ fun c : Dev nD => iprop(semVal ((c.tc : Thread nD τ), Fm.bar) 0 ∗ Pipeline.launchCred dues c)) ∗ bigSep Finset.univ deal) : sProp 𝕄) := by
    rw [← bigSep_sep', ← bigSep_sep']
    exact bigSep_mono fun c _ => h1 c
  have h4 : (iprop((bigSep Finset.univ fun c : Dev nD => iprop(StableHlo.held (c : Thread nD τ) (Pipeline.ucRefs τ sig) (V0 m c) ∗ (∃ r, prngReg c r) ∗ ∃ W, owes (c : Thread nD τ) (dues c) W))
        ∗ bigSep Finset.univ (Start (inp m))) : sProp 𝕄)
      ⊢ bigSep Finset.univ fun c : Dev nD => iprop(StableHlo.held (c : Thread nD τ) (Pipeline.ucRefs τ sig) (V0 m c) ∗ rest m 0 c) := by
    rw [← bigSep_sep']
    exact bigSep_mono fun c _ => h2 c
  iintro ⟨H, -⟩
  ihave H' := h3 $$ H
  icases H' with ⟨Hb, Hc, HG⟩
  ihave HG' := (show bigSep Finset.univ (deal (F := F)) ⊢ _ from Entails.of_eq (SiteBlocks.bigSep_onDev 0 _)) $$ HG
  imod (launch_start m) $$ [Hc HG'] with Hs
  · isplitl [Hc]; · iexact Hc
    iexact HG'
  imodintro
  iapply h4
  isplitl [Hb]; · iexact Hb
  iexact Hs

/-- What is read off a device's memory at the end. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v20) = res (inp m)

/-- The end of the program read off: the buffers and the barrier counter. -/
theorem last_read (c : Dev nD) (s' : Phys nD τ sig (Elt F)) :
    iprop(last m c ∗ SI s') ⊢ (|={Set.univ}=> iprop(⌜Ends m c s'.mem ∧ s'.mem.sem ((c.tc : Thread nD τ), SemLoc.reg barS) = 0⌝ ∗ SI s') : sProp 𝕄) := by
  unfold last Kept StableHlo.held
  iintro ⟨⟨Hh, ⟨HI, Hat⟩⟩, HSI⟩
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imod (Fm.barPos_read ER (Rd (inp m)) c (r := 1) (duties_later (inp m) _ 1 (le_refl 1)) ∅ s') $$ [HI Hat HSI] with ⟨%hz, HSI⟩
  · isplitr [HSI]
    · unfold Fam.barPos
      rw [BI.bigSep_empty]
      isplitl [HI]; · iexact HI
      isplitl [Hat]; · iexact Hat
      iempintro
    iexact HSI
  imodintro
  isplitr
  · ipureintro
    have hm (b : Ref sig .tc) (hb : ¬ (Proc.devRef .tc b : DevRef τ sig).isScoped = true) :=
      h (Proc.devRef .tc b) (Finset.mem_filter.mpr ⟨StableHlo.devRef_mem_tcRefs b, hb⟩)
    exact ⟨⟨⟨(hm main_arg0 (by decide)).trans (V2_main_arg0 m (outs m) c), (hm main_arg1 (by decide)).trans (V2_main_arg1 m (outs m) c),
      (hm main_arg2 (by decide)).trans (V2_main_arg2 m (outs m) c), (hm main_arg3 (by decide)).trans (V2_main_arg3 m (outs m) c),
      (hm main_arg4 (by decide)).trans (V2_main_arg4 m (outs m) c)⟩, (hm main_v20 (by decide)).trans (V2_v20 m c)⟩, hz⟩
  iexact HSI

-- the run's implicit arguments are found by unifying its conclusion with this one, plain definitions unfolded
set_option backward.isDefEq.respectTransparency.types false in
/-- THE RUN, over any float values: every weakly fair execution from memory `m` with the counters at zero ends, with each
    argument as launched and `res (inp m)` in every device's result, and all counters at zero. -/
theorem run_main : θ_run defs (onTc (τ := τ) (main (F := F))) ⟨m, fun _ => 0, ρ⟩ (fun r =>
    (∀ c : Dev nD, Ends m c r.2) ∧ r.2.sem = fun _ => 0) :=
  Pipeline.θ_run_regions_kit_dev_sems (pcfgs (F := F)) adm (pdats m) 0 cellOf_inj EP defs₀ Variants.none (SiteBlocks.L 10) SiteBlocks.lv m ρ main
    (segs m Variants.none (SiteBlocks.L 10) SiteBlocks.lv (rest m) 0 (pdats m) (region0 m))
    (fun c Q => by
      rewrite [main_chain c, Seg.run_eq_chain,
        show (segs m Variants.none (SiteBlocks.L 10) SiteBlocks.lv (rest m) 0 (pdats m) (region0 m) c).map Seg.prog = [
          StableHlo.seq (hostOps0 c), Prog.lift (.customCall (Pipeline.entry 0) ()) ] from rfl]
      dsimp (config := { failIfUnchanged := false }) only
      exact .rfl)
    (fun c => by simp only [segs, Seg.pipes_host, Seg.pipes_region, Seg.pipes_nil]; decide)
    dues (SiteBlocks.hL 10) deal u₀ launch_split
    (T₀ := fun c => iprop(StableHlo.held (c : Thread nD τ) (Pipeline.ucRefs τ sig) (V0 m c) ∗ rest m 0 c))
    (Tₙ := last m)
    (hch := fun c => ⟨.rfl, region_pre m c, region_post m c⟩)
    (hinit := launch_rest m ρ)
    (QY := fun c s => Ends m c s ∧ s.sem ((c.tc : Thread nD τ), SemLoc.reg barS) = 0)
    (hfin := last_read m)
    (hQ := fun _ h hs => ⟨fun c => (h c).1, sem_eq_zero hs fun c s hu => by obtain rfl := unscoped_bar s hu; exact (h c).2⟩)

/-- The frame, over any float values. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).1, h.2⟩) (run_main m ρ)

end Cert.KernelIdeal.Proof

end
-- ==== Proof.HostIn.lean ====
module

public import proofs.«01_k».proof.Proof.Region
public import Idealize.ShloMosaic.Lib.StableHlo.RunClose
public import Idealize.ShloMosaic.Lib.DynamicIndex
public import Idealize.ShloMosaic.Lib.ValueIdx
public import Idealize.ShloMosaic.Lib.Pipeline.Value

@[expose] public section

/-! # What the host hands to the kernel

The host picks each device's heads out of the keys and the values and passes the rest on; over the extended reals its
narrowing changes nothing. -/

noncomputable section

namespace Cert.KernelIdeal.Proof

open Idealize.ShloMosaic hiding ix1 ix2 ix3 ix4
open Idealize.ShloMosaic.ValueIdx
open Idealize.ShloMosaic.TcCoe Idealize.SL.Sem
open Cert.KernelIdeal Cert.KernelIdeal.Gen

variable (m : (ℓ : Loc nD τ sig) → Buf (Elt Ideal) ℓ) (c : Dev nD)

/-- The first head of device `c`, as the host computes it. -/
def firstW : BitVec 32 :=
  Scalar.select (IntOp.cmpi .slt (IntOp.muli (IntOp.remui .host (IntOp.divui .host (Dev.word c) 1#32) 16#32) 8#32) 0#32)
    (IntOp.addi (IntOp.muli (IntOp.remui .host (IntOp.divui .host (Dev.word c) 1#32) 16#32) 8#32) 128#32)
    (IntOp.muli (IntOp.remui .host (IntOp.divui .host (Dev.word c) 1#32) 16#32) 8#32)

theorem firstW_eq : (firstW c).toInt = (8 * c.val : ℕ) := by revert c; decide +kernel

theorem inp_x (i : S2x512x768.Idx) : (inp m c).x i = m ((c.tc : Thread nD τ).loc main_arg0) i := by
  have e : (inp m c).x = (truncf (F := Ideal) .bf16 (m ((c.tc : Thread nD τ).loc main_arg0) : FVec Ideal S2x512x768 .f32) bitsLt_bf16_f32 : FVec Ideal S2x512x768 .bf16) := by
    show V1 m c main_v17 = _
    after_results_entrywise []
  rw [e]; rfl

theorem inp_wq (i : S768x512.Idx) : (inp m c).wq i = m ((c.tc : Thread nD τ).loc main_arg1) i := by
  have e : (inp m c).wq = (truncf (F := Ideal) .bf16 (m ((c.tc : Thread nD τ).loc main_arg1) : FVec Ideal S768x512 .f32) bitsLt_bf16_f32 : FVec Ideal S768x512 .bf16) := by
    show V1 m c main_v18 = _
    after_results_entrywise []
  rw [e]; rfl

theorem inp_wo (i : S512x768.Idx) : (inp m c).wo i = m ((c.tc : Thread nD τ).loc main_arg4) i := by
  have e : (inp m c).wo = (truncf (F := Ideal) .bf16 (m ((c.tc : Thread nD τ).loc main_arg4) : FVec Ideal S512x768 .f32) bitsLt_bf16_f32 : FVec Ideal S512x768 .bf16) := by
    show V1 m c main_v19 = _
    after_results_entrywise []
  rw [e]; rfl

/-- The heads of device `c`, cut out of the array of all heads. -/
theorem pick (y : FVec Ideal S2x512x128x64 .f32) (b : Fin 2) (t : Fin 512) (h : Fin 8) (e : Fin 64) :
    Host.dynamicSlice S2x512x8x64 y (fun k => (![0#32, 0#32, firstW c, 0#32] k).toInt) sliceFits_S2x512x128x64_S2x512x8x64
        (ix4 b t h e)
      = y (ix4 b t (⟨8 * c.val + h.val, by have : c.val < 16 := c.isLt; omega⟩ : Fin 128) e) := by
  have hc : c.val < 16 := c.isLt
  rw [Host.dynamicSlice_eq_extractStridedSlice S2x512x8x64 y _ ![0, 0, 8 * c.val, 0] _
    (by
      refine ⟨rfl, fun a => ?_⟩
      match a with
      | ⟨0, _⟩ => show 0 + 2 ≤ 2; decide
      | ⟨1, _⟩ => show 0 + 512 ≤ 512; decide
      | ⟨2, _⟩ => show 8 * c.val + 8 ≤ 128; omega
      | ⟨3, _⟩ => show 0 + 64 ≤ 64; decide)
    (fun a => by
      match a with
      | ⟨0, _⟩ => rfl
      | ⟨1, _⟩ => rfl
      | ⟨2, _⟩ => exact firstW_eq c
      | ⟨3, _⟩ => rfl)]
  refine extractStridedSlice_apply _ _ _ _ _ fun a => ?_
  match a with
  | ⟨0, _⟩ => show b.val = 0 + b.val; omega
  | ⟨1, _⟩ => show t.val = 0 + t.val; omega
  | ⟨2, _⟩ => rfl
  | ⟨3, _⟩ => show e.val = 0 + e.val; omega

theorem inp_k (b : Fin 2) (t : Fin 512) (h : Fin 8) (e : Fin 64) :
    (inp m c).k (ix4 b t h e) = (m ((c.tc : Thread nD τ).loc main_arg2) : FVec Ideal S2x512x128x64 .f32)
      (ix4 b t (⟨8 * c.val + h.val, by have : c.val < 16 := c.isLt; omega⟩ : Fin 128) e) := by
  have q : (inp m c).k = (truncf (F := Ideal) .bf16 (Host.dynamicSlice S2x512x8x64 (m ((c.tc : Thread nD τ).loc main_arg2) : FVec Ideal S2x512x128x64 .f32)
      (fun k => (![0#32, 0#32, firstW c, 0#32] k).toInt) sliceFits_S2x512x128x64_S2x512x8x64) bitsLt_bf16_f32 : FVec Ideal S2x512x8x64 .bf16) := by
    show V1 m c main_v10 = _
    after_results_simp_entrywise
    refine congrArg (fun st => truncf .bf16 (Host.dynamicSlice S2x512x8x64 _ st _) _) (funext fun k => ?_)
    match k with
    | ⟨0, _⟩ => rfl
    | ⟨1, _⟩ => rfl
    | ⟨2, _⟩ => rfl
    | ⟨3, _⟩ => rfl
  rw [q]
  exact pick c _ b t h e

theorem inp_v (b : Fin 2) (t : Fin 512) (h : Fin 8) (e : Fin 64) :
    (inp m c).v (ix4 b t h e) = (m ((c.tc : Thread nD τ).loc main_arg3) : FVec Ideal S2x512x128x64 .f32)
      (ix4 b t (⟨8 * c.val + h.val, by have : c.val < 16 := c.isLt; omega⟩ : Fin 128) e) := by
  have q : (inp m c).v = (truncf (F := Ideal) .bf16 (Host.dynamicSlice S2x512x8x64 (m ((c.tc : Thread nD τ).loc main_arg3) : FVec Ideal S2x512x128x64 .f32)
      (fun k => (![0#32, 0#32, firstW c, 0#32] k).toInt) sliceFits_S2x512x128x64_S2x512x8x64) bitsLt_bf16_f32 : FVec Ideal S2x512x8x64 .bf16) := by
    show V1 m c main_v16 = _
    after_results_simp_entrywise
    refine congrArg (fun st => truncf .bf16 (Host.dynamicSlice S2x512x8x64 _ st _) _) (funext fun k => ?_)
    match k with
    | ⟨0, _⟩ => rfl
    | ⟨1, _⟩ => rfl
    | ⟨2, _⟩ => rfl
    | ⟨3, _⟩ => rfl
  rw [q]
  exact pick c _ b t h e

end Cert.KernelIdeal.Proof

end
-- ==== Proof.Attend.lean ====
module

public import proofs.«01_k».proof.Proof.Vals
public import Idealize.ShloMosaic.Lib.Pipeline.Value
public import Idealize.ShloMosaic.Lib.ValueIdx
public import Idealize.ShloMosaic.PureOps.Ideal.Laws

@[expose] public section

/-! # The kernel's attention as a formula

What one device computes before it talks to the others, at one index, over the extended reals. -/

noncomputable section

namespace Cert.KernelIdeal.Proof

open Idealize.ShloMosaic hiding ix1 ix2 ix3 ix4
open Idealize.ShloMosaic.ValueIdx
open Cert.KernelIdeal Cert.KernelIdeal.Gen

/-- The masked score of positions `s` and `t`. -/
def score (M : Fin 512 → Fin 512 → BitVec 1) (q k : Fin 512 → Fin 64 → EReal) (s t : Fin 512) : EReal :=
  Scalar.select (M s t) ((∑ e, q s e * k t e) * Ideal.ofBits .f32 0x3E000000#32) (Ideal.ofBits .f32 0xCE6E6B28#32)

/-- The largest score of row `s`. -/
def peak (M : Fin 512 → Fin 512 → BitVec 1) (q k : Fin 512 → Fin 64 → EReal) (s : Fin 512) : EReal :=
  (Finset.univ : Finset (Fin 512)).fold max (Ideal.ofBits .f32 0xFF800000#32) (score M q k s)

/-- The weight of position `t` in row `s`, before the division by the row's sum. -/
def weight (M : Fin 512 → Fin 512 → BitVec 1) (q k : Fin 512 → Fin 64 → EReal) (s t : Fin 512) : EReal :=
  Ideal.exp (score M q k s t - peak M q k s)

/-- Masked softmax attention of one head. -/
def att (M : Fin 512 → Fin 512 → BitVec 1) (q k v : Fin 512 → Fin 64 → EReal) (s : Fin 512) (e : Fin 64) : EReal :=
  ∑ t, Ideal.div (weight M q k s t) (∑ u, weight M q k s u) * v t e

/-- The product for the queries at an index. -/
theorem dot_query (l : FVec Ideal S512x768 .bf16) (r : FVec Ideal S768x512 .bf16) (s c : Fin 512) :
    matmul dot_S512x768_S768x512_S512x512_1_0_0_1_n_n none l r (constant S512x512 .f32 0x00000000#32) (ix2 s c)
      = ∑ k : Fin 768, l (ix2 s k) * r (ix2 k c) := by
  simp only [matmul]
  rw [Ideal.matmul_constant_zero_apply,
    ← Equiv.sum_comp (contrEquiv1 dot_S512x768_S768x512_S512x512_1_0_0_1_n_n 768 rfl rfl).symm]
  refine Finset.sum_congr rfl fun k _ => ?_
  have hk := contrEquiv1_symm_val dot_S512x768_S768x512_S512x512_1_0_0_1_n_n 768 rfl rfl k
  exact congrArg₂ _ (congrArg l (Shape.idx_ext₂ rfl ((DotDims.lhsIdx_val_of_single _ rfl _ _).trans hk)))
    (congrArg r (Shape.idx_ext₂ ((DotDims.rhsIdx_val_of_single _ rfl _ _).trans hk) rfl))

/-- The product for the scores at an index. -/
theorem dot_score (l r : FVec Ideal S512x64 .bf16) (s t : Fin 512) :
    matmul dot_S512x64_S512x64_S512x512_1_1_0_0_n_n none l r (constant S512x512 .f32 0x00000000#32) (ix2 s t)
      = ∑ k : Fin 64, l (ix2 s k) * r (ix2 t k) := by
  simp only [matmul]
  rw [Ideal.matmul_constant_zero_apply,
    ← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  exact congrArg₂ _ (congrArg l (Shape.idx_ext₂ rfl ((DotDims.lhsIdx_val_of_single _ rfl _ _).trans hk)))
    (congrArg r (Shape.idx_ext₂ rfl ((DotDims.rhsIdx_val_of_single _ rfl _ _).trans hk)))

/-- The product with the values at an index. -/
theorem dot_value (l : FVec Ideal S512x512 .bf16) (r : FVec Ideal S512x64 .bf16) (s : Fin 512) (e : Fin 64) :
    matmul dot_S512x512_S512x64_S512x64_1_0_0_1_n_n none l r (constant S512x64 .f32 0x00000000#32) (ix2 s e)
      = ∑ k : Fin 512, l (ix2 s k) * r (ix2 k e) := by
  simp only [matmul]
  rw [Ideal.matmul_constant_zero_apply,
    ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  exact congrArg₂ _ (congrArg l (Shape.idx_ext₂ rfl ((DotDims.lhsIdx_val_of_single _ rfl _ _).trans hk)))
    (congrArg r (Shape.idx_ext₂ ((DotDims.rhsIdx_val_of_single _ rfl _ _).trans hk) rfl))

/-- The product with the output weights at an index. -/
theorem dot_out (l : FVec Ideal S512x512 .bf16) (r : FVec Ideal S512x768 .bf16) (s : Fin 512) (e : Fin 768) :
    matmul dot_S512x512_S512x768_S512x768_1_0_0_1_n_n none l r (constant S512x768 .f32 0x00000000#32) (ix2 s e)
      = ∑ k : Fin 512, l (ix2 s k) * r (ix2 k e) := by
  simp only [matmul]
  rw [Ideal.matmul_constant_zero_apply,
    ← Equiv.sum_comp (contrEquiv1 dot_S512x512_S512x768_S512x768_1_0_0_1_n_n 512 rfl rfl).symm]
  refine Finset.sum_congr rfl fun k _ => ?_
  have hk := contrEquiv1_symm_val dot_S512x512_S512x768_S512x768_1_0_0_1_n_n 512 rfl rfl k
  exact congrArg₂ _ (congrArg l (Shape.idx_ext₂ rfl ((DotDims.lhsIdx_val_of_single _ rfl _ _).trans hk)))
    (congrArg r (Shape.idx_ext₂ ((DotDims.rhsIdx_val_of_single _ rfl _ _).trans hk) rfl))

/-- The queries at an index. -/
theorem proj_apply (I : Inp Ideal) (b : Fin 2) (s c : Fin 512) :
    proj I b (ix2 s c) = ∑ k : Fin 768, I.x (ix3 b s k) * I.wq (ix2 k c) := by
  unfold proj k0_pay6
  rw [dot_query]
  refine Finset.sum_congr rfl fun k _ => ?_
  rw [shapeCast_self, shapeCast_self, shapeCast_dropUnit_apply]
  exact congrArg₂ _ (congrArg I.x (funext fun a => Fin.ext (by
    match a with
    | ⟨0, _⟩ => show b.val + 1 * 0 = b.val; omega
    | ⟨1, _⟩ => show 0 + 1 * s.val = s.val; omega
    | ⟨2, _⟩ => show 0 + 1 * k.val = k.val; omega))) rfl

/-- A head of the keys or of the values at an index. -/
theorem slab_apply (y : Vec Ideal S2x512x8x64 .bf16) (b : Fin 2) (h : Fin 8) (t : Fin 512) (e : Fin 64) :
    k0_pay8 (slab y b h) (ix2 t e) = y (ix4 b t h e) := by
  unfold k0_pay8
  rw [shapeCast_dropUnit_apply, shapeCast_apply _ _ _ (ix4 (0 : Fin 1) t (0 : Fin 1) e)
    (by
      rw [Shape.rowMajor_val_three, Shape.rowMajor_val_four]
      show ((0 * 512 + t.val) * 1 + 0) * 64 + e.val = (0 * 512 + t.val) * 64 + e.val
      omega)]
  exact congrArg y (funext fun a => Fin.ext (by
    match a with
    | ⟨0, _⟩ => show b.val + 1 * 0 = b.val; omega
    | ⟨1, _⟩ => show 0 + 1 * t.val = t.val; omega
    | ⟨2, _⟩ => show h.val + 1 * 0 = h.val; omega
    | ⟨3, _⟩ => show 0 + 1 * e.val = e.val; omega))

/-- A column of row values, stretched along the rows. -/
theorem col_apply (y : FVec Ideal S512 .f32) (s t : Fin 512) :
    broadcastTo S512x512 (shapeCast S512x1 y shapeCasts_S512_S512x1) broadcasts_S512x1_S512x512 (ix2 s t) = y (ix1 s) := by
  rw [broadcastTo_apply _ _ _ (ix2 s (0 : Fin 1)) (fun a => by
      match a with
      | ⟨0, _⟩ => rfl
      | ⟨1, _⟩ => rfl),
    shapeCast_apply _ _ _ (ix1 s) (by
      rw [Shape.rowMajor_val_one, Shape.rowMajor_val_two]
      show s.val = s.val * 1 + 0
      omega)]

/-- The largest entry of a row. -/
theorem max_apply (y : FVec Ideal S512x512 .f32) (s : Fin 512) :
    multiReduction .maximumf [1] S512 y 0xFF800000#32 reduces_S512x512_S512 (.inl rfl) rfl (ix1 s)
      = (Finset.univ : Finset (Fin 512)).fold max (Ideal.ofBits .f32 0xFF800000#32) (fun t => y (ix2 s t)) := by
  refine (Ideal.multiReduction_maximumf_single y _ _ _ _ _).trans ?_
  exact congrArg (Finset.fold max _ · _) (funext fun t => congrArg y (Shape.idx_ext₂ rfl rfl))

/-- The sum of a row. -/
theorem sum_apply (y : FVec Ideal S512x512 .f32) (s : Fin 512) :
    multiReduction .add [1] S512 y 0x00000000#32 reduces_S512x512_S512 (.inl rfl) rfl (ix1 s) = ∑ t : Fin 512, y (ix2 s t) := by
  refine (Ideal.multiReduction_add_single y _ _ _ _ _).trans ?_
  exact Finset.sum_congr rfl fun t _ => congrArg y (Shape.idx_ext₂ rfl rfl)

/-- One head's attention on given blocks, at an index. -/
theorem pay9_apply (M : IVec S512x512 1) (q k : FVec Ideal S512x64 .bf16) (w : Vec Ideal S1x512x1x64 .bf16) (s : Fin 512) (e : Fin 64) :
    k0_pay9 M q k w (ix2 s e)
      = att (fun s t => M (ix2 s t)) (fun s e => q (ix2 s e)) (fun t e => k (ix2 t e)) (fun t e => k0_pay8 w (ix2 t e)) s e := by
  have hs : ∀ s t : Fin 512, select M (mulf (matmul dot_S512x64_S512x64_S512x512_1_1_0_0_n_n none q k (constant S512x512 .f32 0x00000000#32))
      (broadcast S512x512 (Scalar.ofBits (F := Ideal) .f32 0x3E000000#32))) (broadcast S512x512 (Scalar.ofBits (F := Ideal) .f32 0xCE6E6B28#32)) (ix2 s t)
      = score (fun s t => M (ix2 s t)) (fun s e => q (ix2 s e)) (fun t e => k (ix2 t e)) s t := fun s t => by
    rw [select_apply, mulf_apply, dot_score]
    rfl
  unfold k0_pay9
  rw [shapeCast_self, dot_value]
  generalize select M _ _ = S at hs ⊢
  have hp : ∀ s t : Fin 512, exp (subf S (broadcastTo S512x512 (shapeCast S512x1 (multiReduction .maximumf [1] S512 S 0xFF800000#32
      reduces_S512x512_S512 (.inl rfl) rfl) shapeCasts_S512_S512x1) broadcasts_S512x1_S512x512)) (ix2 s t)
      = weight (fun s t => M (ix2 s t)) (fun s e => q (ix2 s e)) (fun t e => k (ix2 t e)) s t := fun s t => by
    show Ideal.exp (S (ix2 s t) - broadcastTo S512x512 _ _ (ix2 s t)) = _
    rw [col_apply, max_apply, hs]
    unfold weight peak
    rw [show (fun t => S (ix2 s t)) = score _ _ _ s from funext (hs s)]
  generalize exp (F := Ideal) (subf S _) = P at hp ⊢
  unfold att
  refine Finset.sum_congr rfl fun t _ => congrArg₂ _ ?_ rfl
  show Ideal.div (P (ix2 s t)) (broadcastTo S512x512 _ _ (ix2 s t)) = _
  rw [col_apply, sum_apply, hp]
  exact congrArg _ (Finset.sum_congr rfl fun u _ => hp s u)

/-- The attention of head `h` on batch `b`, at an index. -/
theorem head_apply (I : Inp Ideal) (b : Fin 2) (h : Fin 8) (s : Fin 512) (e : Fin 64) :
    head I b h (ix2 s e)
      = att (fun s t => mask (ix2 s t))
          (fun s e => ∑ k : Fin 768, I.x (ix3 b s k) * I.wq (ix2 k (⟨64 * h.val + e.val, by omega⟩ : Fin 512)))
          (fun t e => I.k (ix4 b t h e)) (fun t e => I.v (ix4 b t h e)) s e := by
  unfold head
  rw [pay9_apply]
  simp only [slab_apply]
  refine congrArg (fun q => att _ q _ _ s e) (funext fun s => funext fun e => ?_)
  rw [truncf_apply, extractStridedSlice_apply _ _ _ _ (ix2 s (⟨64 * h.val + e.val, by omega⟩ : Fin 512)) (fun a => by
    match a with
    | ⟨0, _⟩ => show s.val = 0 + s.val; omega
    | ⟨1, _⟩ => rfl), proj_apply]

/-- What one device adds to the result, at an index. -/
theorem A0_apply (I : Inp Ideal) (b : Fin 2) (s : Fin 512) (c : Fin 768) (i : S1024x768.Idx)
    (h0 : (i (0 : Fin 2)).val = 512 * b.val + s.val) (h1 : (i (1 : Fin 2)).val = c.val) :
    A0 I i = ∑ j : Fin 512, head I b ⟨j.val / 64, by omega⟩ (ix2 s (⟨j.val % 64, Nat.mod_lt _ (by decide)⟩ : Fin 64)) * I.wo (ix2 j c) := by
  have e : A0 I i = part I b (ix2 s c) := by
    unfold A0
    have eb : (⟨(i (0 : Fin 2)).val / 512, by have : (i (0 : Fin 2)).val < 1024 := (i (0 : Fin 2)).isLt; omega⟩ : Fin 2) = b :=
      Fin.ext (by show (i (0 : Fin 2)).val / 512 = b.val; omega)
    rw [eb]
    exact congrArg _ (Shape.idx_ext₂ (by show (i (0 : Fin 2)).val % 512 = s.val; omega) h1)
  rw [e]
  unfold part k0_pay26
  rw [dot_out, shapeCast_self]
  refine Finset.sum_congr rfl fun j _ => congrArg₂ _ ?_ rfl
  rw [truncf_apply]
  unfold ctxv
  exact congrArg (head I b _) (Shape.idx_ext₂ rfl rfl)

end Cert.KernelIdeal.Proof

end
-- ==== Proof.Mask.lean ====
module

public import proofs.«01_k».proof.Proof.Vals
public import proofs.«01_k».proof.Proof.Gen.ReferenceIdeal.Read
public import Idealize.ShloMosaic.Lib.Pipeline.Value
public import Idealize.ShloMosaic.Lib.ValueIdx

@[expose] public section

/-! # The mask

The kernel and the reference mark the same pairs of positions, and every position attends to itself. -/

noncomputable section

namespace Cert.KernelIdeal.Proof

open Idealize.ShloMosaic hiding ix1 ix2 ix3 ix4
open Idealize.ShloMosaic.ValueIdx

/-- The block that a position lies in, as the kernel computes it from the position's word. -/
def blk (x : BitVec 32) : BitVec 32 :=
  Scalar.select
    (IntOp.andi
      (IntOp.cmpi .ne (IntOp.subi ((IntOp.cmpi .sgt x 0#32).setWidth 32) ((IntOp.cmpi .slt x 0#32).setWidth 32))
        (IntOp.subi ((IntOp.cmpi .sgt 64#32 0#32).setWidth 32) ((IntOp.cmpi .slt 64#32 0#32).setWidth 32)))
      (IntOp.cmpi .ne (IntOp.remsi .vector x 64#32) 0#32))
    (IntOp.subi (IntOp.divsi .vector x 64#32) 1#32) (IntOp.divsi .vector x 64#32)

/-- The sign of a word. -/
def signW (x : BitVec 32) : BitVec 32 := if x = 0 then 0 else if x.msb then -1 else 1

/-- The same as the reference computes it. -/
def blkRef (x : BitVec 32) : BitVec 32 :=
  Scalar.select
    (IntOp.andi (IntOp.cmpi .ne (signW x) (signW 64#32)) (IntOp.cmpi .ne (IntOp.remsi .host x 64#32) 0#32))
    (IntOp.subi (IntOp.divsi .host x 64#32) 1#32) (IntOp.divsi .host x 64#32)

/-- Whether two blocks attend to each other, as the kernel decides it. -/
def hit (a b : BitVec 32) : BitVec 1 :=
  IntOp.ori (IntOp.ori (IntOp.cmpi .eq a b) (IntOp.cmpi .eq b 0#32))
    (IntOp.cmpi .eq
      (Scalar.select
        (IntOp.andi (IntOp.xori (IntOp.cmpi .slt (IntOp.remsi .vector (IntOp.addi a b) 3#32) 0#32) (IntOp.cmpi .slt 3#32 0#32))
          (IntOp.cmpi .ne (IntOp.remsi .vector (IntOp.addi a b) 3#32) 0#32))
        (IntOp.addi (IntOp.remsi .vector (IntOp.addi a b) 3#32) 3#32) (IntOp.remsi .vector (IntOp.addi a b) 3#32)) 0#32)

/-- The same as the reference decides it. -/
def hitRef (a b : BitVec 32) : BitVec 1 :=
  IntOp.ori (IntOp.ori (IntOp.cmpi .eq a b) (IntOp.cmpi .eq b 0#32))
    (IntOp.cmpi .eq
      (Scalar.select
        (IntOp.andi (IntOp.cmpi .ne (IntOp.cmpi .slt (IntOp.remsi .host (IntOp.addi a b) 3#32) 0#32) (IntOp.cmpi .slt 3#32 0#32))
          (IntOp.cmpi .ne (IntOp.remsi .host (IntOp.addi a b) 3#32) 0#32))
        (IntOp.addi (IntOp.remsi .host (IntOp.addi a b) 3#32) 3#32) (IntOp.remsi .host (IntOp.addi a b) 3#32)) 0#32)

/-- A position's block. -/
theorem blk_eq : ∀ s : Fin 512, blk (BitVec.ofNat 32 s.val) = BitVec.ofNat 32 (s.val / 64) := by decide +kernel
theorem blkRef_eq : ∀ s : Fin 512, blkRef (BitVec.ofNat 32 s.val) = BitVec.ofNat 32 (s.val / 64) := by decide +kernel
theorem hit_eq : ∀ a b : Fin 8, hit (BitVec.ofNat 32 a.val) (BitVec.ofNat 32 b.val) = hitRef (BitVec.ofNat 32 a.val) (BitVec.ofNat 32 b.val) := by
  decide +kernel
theorem hit_self : ∀ a : Fin 8, hitRef (BitVec.ofNat 32 a.val) (BitVec.ofNat 32 a.val) = 1#1 := by decide +kernel

open Cert.KernelIdeal Cert.KernelIdeal.Gen in
/-- The kernel's mask at an index. -/
theorem mask_apply (s t : Fin 512) : mask (ix2 s t) = hit (blk (BitVec.ofNat 32 s.val)) (blk (BitVec.ofNat 32 t.val)) := by
  have h0 : iota .tc S512x512 32 [0] iota_S512x512_d0_w32 (ix2 s t) = BitVec.ofNat 32 s.val := iota_single_apply _ _ _ _ _ _
  have h1 : iota .tc S512x512 32 [1] iota_S512x512_d1_w32 (ix2 s t) = BitVec.ofNat 32 t.val := iota_single_apply _ _ _ _ _ _
  rw [← h0, ← h1]
  rfl

open Cert.ReferenceIdeal Cert.ReferenceIdeal.Gen Cert.ReferenceIdeal.Read in
/-- The reference's mask at an index. -/
theorem maskRef_apply (s t : Fin 512) :
    val_main_v21 (F := Ideal) (ix2 s t) = hitRef (blkRef (BitVec.ofNat 32 s.val)) (blkRef (BitVec.ofNat 32 t.val)) := by
  rfl

open Cert.ReferenceIdeal.Read in
/-- The two masks are one. -/
theorem mask_eq (s t : Fin 512) : mask (ix2 s t) = val_main_v21 (F := Ideal) (ix2 s t) := by
  rw [mask_apply, maskRef_apply, blk_eq, blk_eq, blkRef_eq, blkRef_eq]
  exact hit_eq ⟨s.val / 64, by omega⟩ ⟨t.val / 64, by omega⟩

open Cert.ReferenceIdeal.Read in
/-- Every position attends to itself. -/
theorem mask_self (s : Fin 512) : val_main_v21 (F := Ideal) (ix2 s s) = 1#1 := by
  rw [maskRef_apply, blkRef_eq]
  exact hit_self ⟨s.val / 64, by omega⟩

/-- A disjunction over a family with a true member is true. -/
theorem fold_or (f : Fin 512 → BitVec 1) (b : BitVec 1) (s : Fin 512) (h : f s = 1#1) :
    (Finset.univ : Finset (Fin 512)).fold IntOp.ori b f = 1#1 := by
  rw [← Finset.insert_erase (Finset.mem_univ s), Finset.fold_insert (Finset.notMem_erase s Finset.univ), h]
  generalize Finset.fold IntOp.ori b f _ = y
  revert y
  decide

/-- The rows of the mask. -/
theorem reduces_rows : Cert.ReferenceIdeal.S512x512.Reduces [1] Cert.ReferenceIdeal.S512 := by decide

open Cert.ReferenceIdeal Cert.ReferenceIdeal.Gen Cert.ReferenceIdeal.Read in
/-- So no row is empty. -/
theorem row_kept (s : Fin 512) : val_main_v32 (F := Ideal) (ix1 s) = 1#1 := by
  unfold val_main_v32
  refine (Host.reduce_eq_fold_single IntOp.ori _ _ _ reduces_rows _ _).trans (fold_or _ _ s ?_)
  rw [← mask_self s]
  exact congrArg (val_main_v21 (F := Ideal)) (Shape.idx_ext₂ rfl rfl)

end Cert.KernelIdeal.Proof

end
-- ==== Proof.RefVal.lean ====
module

public import proofs.«01_k».proof.Proof.Attend
public import proofs.«01_k».proof.Proof.Mask

@[expose] public section

/-! # The reference at an index

The reference's result as a sum over the heads and their columns, with the same attention formula. -/

noncomputable section

namespace Cert.KernelIdeal.Proof

open Idealize.ShloMosaic hiding ix1 ix2 ix3 ix4
open Idealize.ShloMosaic.ValueIdx
open Cert.ReferenceIdeal Cert.ReferenceIdeal.Gen Cert.ReferenceIdeal.Read

variable (x0 : FVec Ideal S2x512x768 .f32) (x1 : FVec Ideal S768x8192 .f32)
  (x2 x3 : FVec Ideal S2x512x128x64 .f32) (x4 : FVec Ideal S8192x768 .f32)

/-- The mask as a function of two positions. -/
def maskF (s t : Fin 512) : BitVec 1 := val_main_v21 (F := Ideal) (ix2 s t)

/-- The queries of head `H` on batch `b`. -/
def qF (b : Fin 2) (H : Fin 128) (s : Fin 512) (e : Fin 64) : EReal :=
  ∑ k : Fin 768, x0 (ix3 b s k) * x1 (ix2 k (⟨64 * H.val + e.val, by omega⟩ : Fin 8192))

/-- The keys, or the values, of head `H` on batch `b`. -/
def kF (y : FVec Ideal S2x512x128x64 .f32) (b : Fin 2) (H : Fin 128) (t : Fin 512) (e : Fin 64) : EReal := y (ix4 b t H e)

theorem v1_read (b : Fin 2) (H : Fin 128) (s : Fin 512) (e : Fin 64) :
    val_main_v1 (F := Ideal) x0 x1 (ix4 b s H e) = qF x0 x1 b H s e := by
  rw [val_main_v1_apply, val_main_v0_apply]
  unfold qF
  refine Finset.sum_congr rfl fun k _ => congrArg₂ _ (congrArg x0 (funext fun a => Fin.ext ?_)) (congrArg x1 (funext fun a => Fin.ext ?_))
  · match a with
    | ⟨0, _⟩ => show (((b.val * 512 + s.val) * 128 + H.val) * 64 + e.val) / 4194304 = b.val; omega
    | ⟨1, _⟩ => show (((b.val * 512 + s.val) * 128 + H.val) * 64 + e.val) / 8192 % 512 = s.val; omega
    | ⟨2, _⟩ => rfl
  · match a with
    | ⟨0, _⟩ => rfl
    | ⟨1, _⟩ => show (((b.val * 512 + s.val) * 128 + H.val) * 64 + e.val) % 8192 = 64 * H.val + e.val; omega

theorem v26_read (b : Fin 2) (H : Fin 128) (s t : Fin 512) :
    val_main_v26 (F := Ideal) x0 x1 x2 (ix4 b H s t) = score maskF (qF x0 x1 b H) (kF x2 b H) s t := by
  rw [val_main_v26_apply, val_main_call3_v1_apply, val_main_v25_apply, val_main_call3_v2_apply, val_main_v24_apply,
    val_main_v22_apply, val_main_v23_apply]
  unfold score
  refine congr (congr (congrArg Scalar.select ?_) ?_) rfl
  · exact congrArg _ (Shape.idx_ext₂ rfl rfl)
  · rw [Ideal.mulf_def]
    refine congrArg₂ _ (Finset.sum_congr rfl fun e _ => congrArg₂ _ ?_ ?_) rfl
    · rw [← v1_read]
      exact congrArg _ (funext fun a => by
        match a with
        | ⟨0, _⟩ => rfl
        | ⟨1, _⟩ => rfl
        | ⟨2, _⟩ => rfl
        | ⟨3, _⟩ => rfl)
    · unfold kF
      exact congrArg x2 (funext fun a => by
        match a with
        | ⟨0, _⟩ => rfl
        | ⟨1, _⟩ => rfl
        | ⟨2, _⟩ => rfl
        | ⟨3, _⟩ => rfl)

/-- The rows of the scores. -/
theorem reduces_scores : S2x128x512x512.Reduces [3] S2x128x512 := by decide

theorem v27_read (b : Fin 2) (H : Fin 128) (s : Fin 512) :
    val_main_v27 (F := Ideal) x0 x1 x2 (ix3 b H s) = peak maskF (qF x0 x1 b H) (kF x2 b H) s := by
  unfold val_main_v27
  refine (Host.reduce_eq_fold_single FloatOps.maximumf _ _ _ reduces_scores _ _).trans ?_
  unfold peak
  refine congrArg (Finset.fold max _ · _) (funext fun t => ?_)
  refine Eq.trans ?_ (v26_read x0 x1 x2 b H s t)
  exact congrArg (val_main_v26 (F := Ideal) x0 x1 x2) (funext fun a => by
    match a with
    | ⟨0, _⟩ => rfl
    | ⟨1, _⟩ => rfl
    | ⟨2, _⟩ => rfl
    | ⟨3, _⟩ => rfl)

theorem v31_read (b : Fin 2) (H : Fin 128) (s t : Fin 512) :
    val_main_v31 (F := Ideal) x0 x1 x2 (ix4 b H s t) = weight maskF (qF x0 x1 b H) (kF x2 b H) s t := by
  rw [val_main_v31_apply, val_main_v30_apply, val_main_v29_apply, val_main_v28_apply, Ideal.hostUnary_exp_def, Ideal.subf_def,
    v26_read]
  unfold weight
  rw [← v27_read]
  refine congrArg Ideal.exp (congrArg₂ _ rfl (congrArg (val_main_v27 (F := Ideal) x0 x1 x2) (funext fun a => ?_)))
  match a with
  | ⟨0, _⟩ => rfl
  | ⟨1, _⟩ => rfl
  | ⟨2, _⟩ => rfl

theorem v34_read (b : Fin 2) (H : Fin 128) (s : Fin 512) :
    val_main_v34 (F := Ideal) x0 x1 x2 (ix3 b H s) = ∑ t, weight maskF (qF x0 x1 b H) (kF x2 b H) s t := by
  rw [val_main_v34_apply]
  have z : val_main_cst_7 (F := Ideal) (Shape.Idx.first h_S_) = 0 := Ideal.ofBits_zero_f32
  rw [z, zero_add]
  refine Finset.sum_congr rfl fun t _ => ?_
  rw [← v31_read]
  exact congrArg (val_main_v31 (F := Ideal) x0 x1 x2) (funext fun a => by
    match a with
    | ⟨0, _⟩ => rfl
    | ⟨1, _⟩ => rfl
    | ⟨2, _⟩ => rfl
    | ⟨3, _⟩ => rfl)

theorem v36_read (b : Fin 2) (H : Fin 128) (s : Fin 512) (z : Fin 1) :
    val_main_v36 (F := Ideal) x0 x1 x2 (ix4 b H s z) = ∑ t, weight maskF (qF x0 x1 b H) (kF x2 b H) s t := by
  rw [val_main_v36_apply, val_main_call4_v1_apply, val_main_v33_apply]
  have e : idx_main_v33 (idx_main_call4_v1 (ix4 b H s z)) = ix1 s := funext fun a => by
    match a with
    | ⟨0, _⟩ => rfl
  rw [e, row_kept, select_one, val_main_v35_apply, ← v34_read]
  refine congrArg (val_main_v34 (F := Ideal) x0 x1 x2) (funext fun a => ?_)
  match a with
  | ⟨0, _⟩ => rfl
  | ⟨1, _⟩ => rfl
  | ⟨2, _⟩ => rfl

theorem v40_read (b : Fin 2) (H : Fin 128) (s t : Fin 512) :
    val_main_v40 (F := Ideal) x0 x1 x2 (ix4 b H s t)
      = Ideal.div (weight maskF (qF x0 x1 b H) (kF x2 b H) s t) (∑ u, weight maskF (qF x0 x1 b H) (kF x2 b H) s u) := by
  rw [val_main_v40_apply, val_main_call5_v1_apply, val_main_v39_apply]
  have e : idx_main_v39 (idx_main_call5_v1 (ix4 b H s t)) = ix1 s := funext fun a => by
    match a with
    | ⟨0, _⟩ => rfl
  rw [e, row_kept, select_one, val_main_v38_apply, val_main_v37_apply, Ideal.hostDivf_def, v31_read, ← v36_read x0 x1 x2 b H s 0]
  refine congrArg (Ideal.div _) (congrArg (val_main_v36 (F := Ideal) x0 x1 x2) (funext fun a => ?_))
  match a with
  | ⟨0, _⟩ => rfl
  | ⟨1, _⟩ => rfl
  | ⟨2, _⟩ => rfl
  | ⟨3, _⟩ => rfl

theorem v41_read (b : Fin 2) (H : Fin 128) (s : Fin 512) (e : Fin 64) :
    val_main_v41 (F := Ideal) x0 x1 x2 x3 (ix4 b H e s) = att maskF (qF x0 x1 b H) (kF x2 b H) (kF x3 b H) s e := by
  rw [val_main_v41_apply]
  unfold att
  refine Finset.sum_congr rfl fun t _ => ?_
  rw [mul_comm, ← v40_read]
  unfold kF
  refine congrArg₂ _ (congrArg (val_main_v40 (F := Ideal) x0 x1 x2) (funext fun a => ?_)) (congrArg x3 (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The reference's result at an index. -/
theorem v44_read (b : Fin 2) (s : Fin 512) (c : Fin 768) :
    val_main_v44 (F := Ideal) x0 x1 x2 x3 x4 (ix3 b s c)
      = ∑ j : Fin 8192, att maskF (qF x0 x1 b (⟨j.val / 64, by omega⟩ : Fin 128)) (kF x2 b ⟨j.val / 64, by omega⟩) (kF x3 b ⟨j.val / 64, by omega⟩) s
          (⟨j.val % 64, Nat.mod_lt _ (by decide)⟩ : Fin 64) * x4 (ix2 j c) := by
  rw [val_main_v44_apply]
  refine Finset.sum_congr rfl fun j _ => congrArg₂ _ ?_ (congrArg x4 (Shape.idx_ext₂ rfl rfl))
  rw [val_main_v43_apply, val_main_v42_apply, ← v41_read]
  refine congrArg (val_main_v41 (F := Ideal) x0 x1 x2 x3) (funext fun a => Fin.ext ?_)
  match a with
  | ⟨0, _⟩ => show ((b.val * 512 + s.val) * 8192 + j.val) / 4194304 = b.val; omega
  | ⟨1, _⟩ => show ((b.val * 512 + s.val) * 8192 + j.val) / 64 % 128 = j.val / 64; omega
  | ⟨2, _⟩ => show ((b.val * 512 + s.val) * 8192 + j.val) % 64 = j.val % 64; omega
  | ⟨3, _⟩ => show ((b.val * 512 + s.val) * 8192 + j.val) / 8192 % 512 = s.val; omega

/-- … with the heads grouped by the device that holds them. -/
theorem v44_split (b : Fin 2) (s : Fin 512) (c : Fin 768) :
    val_main_v44 (F := Ideal) x0 x1 x2 x3 x4 (ix3 b s c)
      = ∑ d : Fin 16, ∑ j : Fin 512,
          att maskF (qF x0 x1 b (⟨8 * d.val + j.val / 64, by omega⟩ : Fin 128)) (kF x2 b ⟨8 * d.val + j.val / 64, by omega⟩)
            (kF x3 b ⟨8 * d.val + j.val / 64, by omega⟩) s (⟨j.val % 64, Nat.mod_lt _ (by decide)⟩ : Fin 64)
            * x4 (ix2 (⟨512 * d.val + j.val, by omega⟩ : Fin 8192) c) := by
  rw [v44_read, ← Equiv.sum_comp (finProdFinEquiv (m := 16) (n := 512)), Fintype.sum_prod_type]
  refine Finset.sum_congr rfl fun d _ => Finset.sum_congr rfl fun j _ => ?_
  have e : (finProdFinEquiv (d, j)).val = j.val + 512 * d.val := rfl
  have eh : (⟨(finProdFinEquiv (d, j)).val / 64, by rw [e]; omega⟩ : Fin 128) = ⟨8 * d.val + j.val / 64, by omega⟩ :=
    Fin.ext (by show (finProdFinEquiv (d, j)).val / 64 = _; rw [e]; show _ = 8 * d.val + j.val / 64; omega)
  have em : (⟨(finProdFinEquiv (d, j)).val % 64, Nat.mod_lt _ (by decide)⟩ : Fin 64) = ⟨j.val % 64, Nat.mod_lt _ (by decide)⟩ :=
    Fin.ext (by show (finProdFinEquiv (d, j)).val % 64 = j.val % 64; rw [e]; omega)
  have ej : (finProdFinEquiv (d, j) : Fin 8192) = ⟨512 * d.val + j.val, by omega⟩ := Fin.ext (by rw [e]; show _ = 512 * d.val + j.val; omega)
  rw [eh, em]
  exact congrArg₂ _ rfl (congrArg (fun r => x4 (ix2 r c)) ej)

end Cert.KernelIdeal.Proof

end
-- ==== Proof.Value.lean ====
module

public import proofs.«01_k».proof.Proof.Launch
public import proofs.«01_k».proof.Proof.HostIn
public import proofs.«01_k».proof.Proof.RefVal
public import Idealize.ShloMosaic.Lib.Layout

@[expose] public section

/-! # The kernel's result is the reference's

The reduction adds up every device's part, the parts are the reference's sum grouped by device, and so every device ends
with the reference's result. -/

noncomputable section

namespace Cert.KernelIdeal.Proof

open Idealize.ShloMosaic hiding ix1 ix2 ix3 ix4
open Idealize.ShloMosaic.ValueIdx
open Idealize.ShloMosaic.TcCoe Idealize.SL.Sem
open Cert.KernelIdeal Cert.KernelIdeal.Gen

/-! ## The reduction -/

/-- The devices whose parts device `c` has added up before step `n`. -/
def seen : ℕ → Dev nD → List (Dev nD)
  | 0, c => [c]
  | n + 1, c => seen n c ++ seen n (nb (Fin.ofNat 4 n) c)

theorem A_seen (I : Dev nD → Inp Ideal) (i : S1024x768.Idx) (n : ℕ) :
    ∀ c : Dev nD, (A I n c i : EReal) = ((seen n c).map fun d => (A0 (I d) i : EReal)).sum := by
  induction n with
  | zero => intro c; show A0 (I c) i = _; simp [seen]
  | succ n ih =>
    intro c
    show (A I n c i : EReal) + (A I n (nb (Fin.ofNat 4 n) c) i : EReal) = _
    rw [ih, ih]
    simp only [seen, List.map_append, List.sum_append]

/-- After the last step every device has seen every device once. -/
theorem seen_all (c : Dev nD) : (seen 4 c).Perm (List.finRange 16) := by
  revert c; decide +kernel

theorem A_total (I : Dev nD → Inp Ideal) (i : S1024x768.Idx) (c : Dev nD) :
    (A I 4 c i : EReal) = ∑ d : Fin 16, (A0 (I d) i : EReal) := by
  rw [A_seen, Fin.sum_univ_def]
  exact ((seen_all c).map _).sum_eq

/-- The result at an index, as the sum of the devices' parts. -/
theorem res_apply (I : Dev nD → Inp Ideal) (b : Fin 2) (s : Fin 512) (c : Fin 768) :
    (res I (ix3 b s c) : EReal) = ∑ d : Fin 16, (A0 (I d) (at' (512 * b.val + s.val) c) : EReal) :=
  A_total I (at' (512 * b.val + s.val) c) _

/-! ## The two results -/

section

variable (m : (ℓ : Loc nD τ sig) → Buf (Elt Ideal) ℓ)
  (x0 : FVec Ideal S2x512x768 .f32) (x1 : FVec Ideal Cert.ReferenceIdeal.S768x8192 .f32) (x2 x3 : FVec Ideal S2x512x128x64 .f32) (x4 : FVec Ideal Cert.ReferenceIdeal.S8192x768 .f32)

/-- A device's columns of the query weights. -/
theorem block_cols (d : Dev nD) (k : Fin 768) (j : Fin 512) (J : Fin 8192) (h : J.val = 512 * d.val + j.val) :
    (Layout.block ⟨2, ![768, 512]⟩ ⟨2, ![768, 8192]⟩ 1 16 d x1 : FVec Ideal S768x512 .f32) (ix2 k j) = x1 (ix2 k J) :=
  congrArg x1 (funext fun a => Fin.ext (by
    match a with
    | ⟨0, _⟩ => rfl
    | ⟨1, _⟩ => show d.val * 512 + j.val = J.val; omega))

/-- A device's rows of the output weights. -/
theorem block_rows (d : Dev nD) (j : Fin 512) (J : Fin 8192) (c : Fin 768) (h : J.val = 512 * d.val + j.val) :
    (Layout.block ⟨2, ![512, 768]⟩ ⟨2, ![8192, 768]⟩ 0 16 d x4 : FVec Ideal S512x768 .f32) (ix2 j c) = x4 (ix2 J c) :=
  congrArg x4 (funext fun a => Fin.ext (by
    match a with
    | ⟨0, _⟩ => show d.val * 512 + j.val = J.val; omega
    | ⟨1, _⟩ => rfl))

/-- One head of one device is one head of the reference. -/
theorem head_ref (d : Dev nD)
    (h0 : m ((d.tc : Thread nD τ).loc main_arg0) = x0)
    (h1 : m ((d.tc : Thread nD τ).loc main_arg1) = Layout.block ⟨2, ![768, 512]⟩ ⟨2, ![768, 8192]⟩ 1 16 d x1)
    (h2 : m ((d.tc : Thread nD τ).loc main_arg2) = x2)
    (h3 : m ((d.tc : Thread nD τ).loc main_arg3) = x3)
    (b : Fin 2) (h : Fin 8) (H : Fin 128) (hH : H.val = 8 * d.val + h.val) (s : Fin 512) (e : Fin 64) :
    (head (inp m d) b h (ix2 s e) : EReal) = att maskF (qF x0 x1 b H) (kF x2 b H) (kF x3 b H) s e := by
  have eM : (fun s t : Fin 512 => mask (ix2 s t)) = maskF := funext fun s => funext fun t => mask_eq s t
  have eH : (⟨8 * d.val + h.val, by have : d.val < 16 := d.isLt; omega⟩ : Fin 128) = H := Fin.ext hH.symm
  rw [head_apply, eM]
  have eq : (fun (s : Fin 512) (e : Fin 64) => ∑ k : Fin 768, ((inp m d).x (ix3 b s k) : EReal) * ((inp m d).wq (ix2 k (⟨64 * h.val + e.val, by omega⟩ : Fin 512)) : EReal))
      = qF x0 x1 b H := by
    funext s e
    unfold qF
    refine Finset.sum_congr rfl fun k _ => congrArg₂ _ ?_ ?_
    · rw [inp_x, h0]
    · rw [inp_wq, h1]
      exact block_cols x1 d k _ _ (by show 64 * H.val + e.val = 512 * d.val + (64 * h.val + e.val); omega)
  have ek : (fun (t : Fin 512) (e : Fin 64) => ((inp m d).k (ix4 b t h e) : EReal)) = kF x2 b H := by
    funext t e
    rw [inp_k, h2, eH]; rfl
  have ev : (fun (t : Fin 512) (e : Fin 64) => ((inp m d).v (ix4 b t h e) : EReal)) = kF x3 b H := by
    funext t e
    rw [inp_v, h3, eH]; rfl
  rw [eq, ek, ev]

/-- THE VALUE: where the devices hold the reference's arguments, whole or cut as stated, the kernel's result is the
    reference's. -/
theorem res_ref
    (hargs : ∀ d : Dev nD, m ((d.tc : Thread nD τ).loc main_arg0) = x0
      ∧ m ((d.tc : Thread nD τ).loc main_arg1) = Layout.block ⟨2, ![768, 512]⟩ ⟨2, ![768, 8192]⟩ 1 16 d x1
      ∧ m ((d.tc : Thread nD τ).loc main_arg2) = x2
      ∧ m ((d.tc : Thread nD τ).loc main_arg3) = x3
      ∧ m ((d.tc : Thread nD τ).loc main_arg4) = Layout.block ⟨2, ![512, 768]⟩ ⟨2, ![8192, 768]⟩ 0 16 d x4) :
    res (inp m) = Cert.ReferenceIdeal.Read.val_main_v44 (F := Ideal) x0 x1 x2 x3 x4 := by
  funext i
  rw [ValueIdx.eq_ix3 i]
  generalize i 0 = b; generalize i 1 = s; generalize i 2 = c
  change Fin 2 at b; change Fin 512 at s; change Fin 768 at c
  refine (res_apply (inp m) b s c).trans ((Finset.sum_congr rfl fun d _ => ?_).trans (v44_split x0 x1 x2 x3 x4 b s c).symm)
  obtain ⟨h0, h1, h2, h3, h4⟩ := hargs d
  rw [A0_apply (inp m d) b s c _ (Nat.mod_eq_of_lt (by omega)) rfl]
  refine Finset.sum_congr rfl fun j _ => congrArg₂ _ ?_ ?_
  · exact head_ref m x0 x1 x2 x3 d h0 h1 h2 h3 b _ _ rfl s _
  · rw [inp_wo, h4]
    exact block_rows x4 d j _ c rfl

end

end Cert.KernelIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs have the same text: the same table of bodies … -/
theorem defs₀_eq (F : FTy → Type) [FloatOps F] : @Cert.Kernel.defs₀ F _ _ = @Cert.KernelIdeal.defs₀ F _ _ := by
  unfold Cert.Kernel.defs₀ Cert.KernelIdeal.defs₀
  congr 1
  funext l x
  match l, x with
  | ⟨0, _⟩, x => rfl
  | ⟨_ + 1, h⟩, _ => exact absurd h (Nat.not_lt.2 (Nat.le_add_left _ _))

/-- … and the same table of regions. -/
theorem defs_eq (F : FTy → Type) [FloatOps F] : @Cert.Kernel.defs F _ _ = @Cert.KernelIdeal.defs F _ _ := by
  unfold Cert.Kernel.defs Cert.KernelIdeal.defs
  rw [defs₀_eq]
  rfl

/-- The kernel's frame: the run over any float values, at the machine's. -/
theorem frame_kernel : Cert.quiescent_Kernel := fun m ρ _ => by
  rw [defs_eq]
  exact Cert.KernelIdeal.Proof.run_frame (F := Bits) m ρ

/-- The idealized kernel's frame. -/
theorem frame_ideal : Cert.quiescent_KernelIdeal := fun m ρ _ =>
  Cert.KernelIdeal.Proof.run_frame (F := Ideal) m ρ

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: both programs end with the reference's result. -/
theorem algebraic : Cert.algebraic_KernelIdeal_ReferenceIdeal := fun m g m' g' _ hargs =>
  ⟨Cert.ReferenceIdeal.Value.res_main_v44 m' 0,
    (θ_run Cert.KernelIdeal.defs _ _).mono
      (fun r h c => ⟨((h.1 c).2.trans (Cert.KernelIdeal.Proof.res_ref m _ _ _ _ _ hargs)).trans
        (Cert.ReferenceIdeal.Read.val_main_v44_eq m' 0).symm, (h.1 c).1⟩)
      (Cert.KernelIdeal.Proof.run_main (F := Ideal) m g),
    (θ_run Cert.ReferenceIdeal.defs _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
